-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sparse [hPre_entries_in_range : Cert.Pre_entries_in_range.Facts] (m : (ℓ : Loc Cert.Sparse.nD Cert.Sparse.τ Cert.Sparse.sig) → Buf (Elt Bits) ℓ) : Prop :=
  ∀ c : Dev Cert.Sparse.nD,
    (Cert.Pre_entries_in_range.fn (F := Bits) (m ((c.tc : Thread Cert.Sparse.nD Cert.Sparse.τ).loc Cert.Sparse.main_arg0)) (m ((c.tc : Thread Cert.Sparse.nD Cert.Sparse.τ).loc Cert.Sparse.main_arg1)) (m ((c.tc : Thread Cert.Sparse.nD Cert.Sparse.τ).loc Cert.Sparse.main_arg2)) (m ((c.tc : Thread Cert.Sparse.nD Cert.Sparse.τ).loc Cert.Sparse.main_arg3)) (m ((c.tc : Thread Cert.Sparse.nD Cert.Sparse.τ).loc Cert.Sparse.main_arg4)) (m ((c.tc : Thread Cert.Sparse.nD Cert.Sparse.τ).loc Cert.Sparse.main_arg5))).1 = (fun _ => 1#1)
    ∧ (Cert.Pre_entries_in_range.fn (F := Bits) (m ((c.tc : Thread Cert.Sparse.nD Cert.Sparse.τ).loc Cert.Sparse.main_arg0)) (m ((c.tc : Thread Cert.Sparse.nD Cert.Sparse.τ).loc Cert.Sparse.main_arg1)) (m ((c.tc : Thread Cert.Sparse.nD Cert.Sparse.τ).loc Cert.Sparse.main_arg2)) (m ((c.tc : Thread Cert.Sparse.nD Cert.Sparse.τ).loc Cert.Sparse.main_arg3)) (m ((c.tc : Thread Cert.Sparse.nD Cert.Sparse.τ).loc Cert.Sparse.main_arg4)) (m ((c.tc : Thread Cert.Sparse.nD Cert.Sparse.τ).loc Cert.Sparse.main_arg5))).2 = (fun _ => 1#1)

def Pre_SparseIdeal [hPre_entries_in_range : Cert.Pre_entries_in_range.Facts] (m : (ℓ : Loc Cert.SparseIdeal.nD Cert.SparseIdeal.τ Cert.SparseIdeal.sig) → Buf (Elt Ideal) ℓ) : Prop :=
  ∀ c : Dev Cert.SparseIdeal.nD,
    (Cert.Pre_entries_in_range.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3)) (m ((c.tc : Thread Cert.SparseIdeal.nD Cert.SparseIdeal.τ).loc Cert.SparseIdeal.main_arg4)) (m ((c.tc : Thread Cert.SparseIdeal.nD Cert.SparseIdeal.τ).loc Cert.SparseIdeal.main_arg5))).1 = (fun _ => 1#1)
    ∧ (Cert.Pre_entries_in_range.fn (F := Ideal) (m ((c.tc : Thread Cert.SparseIdeal.nD Cert.SparseIdeal.τ).loc Cert.SparseIdeal.main_arg0)) (m ((c.tc : Thread Cert.SparseIdeal.nD Cert.SparseIdeal.τ).loc Cert.SparseIdeal.main_arg1)) (m ((c.tc : Thread Cert.SparseIdeal.nD Cert.SparseIdeal.τ).loc Cert.SparseIdeal.main_arg2)) (m ((c.tc : Thread Cert.SparseIdeal.nD Cert.SparseIdeal.τ).loc Cert.SparseIdeal.main_arg3)) (m ((c.tc : Thread Cert.SparseIdeal.nD Cert.SparseIdeal.τ).loc Cert.SparseIdeal.main_arg4)) (m ((c.tc : Thread Cert.SparseIdeal.nD Cert.SparseIdeal.τ).loc Cert.SparseIdeal.main_arg5))).2 = (fun _ => 1#1)

def Pre_SparseReferenceIdeal [hPre_entries_in_range : Cert.Pre_entries_in_range.Facts] (m : (ℓ : Loc Cert.SparseReferenceIdeal.nD Cert.SparseReferenceIdeal.τ Cert.SparseReferenceIdeal.sig) → Buf (Elt Ideal) ℓ) : Prop :=
  ∀ c : Dev Cert.SparseReferenceIdeal.nD,
    (Cert.Pre_entries_in_range.fn (F := Ideal) (m ((c.tc : Thread Cert.SparseReferenceIdeal.nD Cert.SparseReferenceIdeal.τ).loc Cert.SparseReferenceIdeal.main_arg0)) (m ((c.tc : Thread Cert.SparseReferenceIdeal.nD Cert.SparseReferenceIdeal.τ).loc Cert.SparseReferenceIdeal.main_arg1)) (m ((c.tc : Thread Cert.SparseReferenceIdeal.nD Cert.SparseReferenceIdeal.τ).loc Cert.SparseReferenceIdeal.main_arg2)) (m ((c.tc : Thread Cert.SparseReferenceIdeal.nD Cert.SparseReferenceIdeal.τ).loc Cert.SparseReferenceIdeal.main_arg3)) (m ((c.tc : Thread Cert.SparseReferenceIdeal.nD Cert.SparseReferenceIdeal.τ).loc Cert.SparseReferenceIdeal.main_arg4)) (m ((c.tc : Thread Cert.SparseReferenceIdeal.nD Cert.SparseReferenceIdeal.τ).loc Cert.SparseReferenceIdeal.main_arg5))).1 = (fun _ => 1#1)
    ∧ (Cert.Pre_entries_in_range.fn (F := Ideal) (m ((c.tc : Thread Cert.SparseReferenceIdeal.nD Cert.SparseReferenceIdeal.τ).loc Cert.SparseReferenceIdeal.main_arg0)) (m ((c.tc : Thread Cert.SparseReferenceIdeal.nD Cert.SparseReferenceIdeal.τ).loc Cert.SparseReferenceIdeal.main_arg1)) (m ((c.tc : Thread Cert.SparseReferenceIdeal.nD Cert.SparseReferenceIdeal.τ).loc Cert.SparseReferenceIdeal.main_arg2)) (m ((c.tc : Thread Cert.SparseReferenceIdeal.nD Cert.SparseReferenceIdeal.τ).loc Cert.SparseReferenceIdeal.main_arg3)) (m ((c.tc : Thread Cert.SparseReferenceIdeal.nD Cert.SparseReferenceIdeal.τ).loc Cert.SparseReferenceIdeal.main_arg4)) (m ((c.tc : Thread Cert.SparseReferenceIdeal.nD Cert.SparseReferenceIdeal.τ).loc Cert.SparseReferenceIdeal.main_arg5))).2 = (fun _ => 1#1)

def Pre_Pack (m : (ℓ : Loc Cert.Pack.nD Cert.Pack.τ Cert.Pack.sig) → Buf (Elt Bits) ℓ) : Prop :=
  True

def Pre_PackReference (m : (ℓ : Loc Cert.PackReference.nD Cert.PackReference.τ Cert.PackReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Sparse [hSparse : Cert.Sparse.Facts] [hPre_entries_in_range : Cert.Pre_entries_in_range.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3)
      ∧ r.2.mem ((c.tc : Thread Cert.Sparse.nD Cert.Sparse.τ).loc Cert.Sparse.main_arg4) = m ((c.tc : Thread Cert.Sparse.nD Cert.Sparse.τ).loc Cert.Sparse.main_arg4)
      ∧ r.2.mem ((c.tc : Thread Cert.Sparse.nD Cert.Sparse.τ).loc Cert.Sparse.main_arg5) = m ((c.tc : Thread Cert.Sparse.nD Cert.Sparse.τ).loc Cert.Sparse.main_arg5))
      ∧ r.2.sem = fun _ => 0)

def quiescent_SparseIdeal [hSparseIdeal : Cert.SparseIdeal.Facts] [hPre_entries_in_range : Cert.Pre_entries_in_range.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5))
      ∧ r.2.sem = fun _ => 0)

def quiescent_SparseReferenceIdeal [hSparseReferenceIdeal : Cert.SparseReferenceIdeal.Facts] [hPre_entries_in_range : Cert.Pre_entries_in_range.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2)
      ∧ r.2.mem ((c.tc : Thread Cert.SparseReferenceIdeal.nD Cert.SparseReferenceIdeal.τ).loc Cert.SparseReferenceIdeal.main_arg3) = m ((c.tc : Thread Cert.SparseReferenceIdeal.nD Cert.SparseReferenceIdeal.τ).loc Cert.SparseReferenceIdeal.main_arg3)
      ∧ r.2.mem ((c.tc : Thread Cert.SparseReferenceIdeal.nD Cert.SparseReferenceIdeal.τ).loc Cert.SparseReferenceIdeal.main_arg4) = m ((c.tc : Thread Cert.SparseReferenceIdeal.nD Cert.SparseReferenceIdeal.τ).loc Cert.SparseReferenceIdeal.main_arg4)
      ∧ r.2.mem ((c.tc : Thread Cert.SparseReferenceIdeal.nD Cert.SparseReferenceIdeal.τ).loc Cert.SparseReferenceIdeal.main_arg5) = m ((c.tc : Thread Cert.SparseReferenceIdeal.nD Cert.SparseReferenceIdeal.τ).loc Cert.SparseReferenceIdeal.main_arg5))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0)
      ∧ r.2.mem ((c.tc : Thread Cert.PackReference.nD Cert.PackReference.τ).loc Cert.PackReference.main_arg1) = m ((c.tc : Thread Cert.PackReference.nD Cert.PackReference.τ).loc Cert.PackReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Sparse_SparseIdeal : Prop :=
  True

def algebraic_SparseIdeal_SparseReferenceIdeal [hSparseIdeal : Cert.SparseIdeal.Facts] [hSparseReferenceIdeal : Cert.SparseReferenceIdeal.Facts] [hPre_entries_in_range : Cert.Pre_entries_in_range.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseIdeal m →
    (∀ c : Dev Cert.SparseIdeal.nD,
      m' ((c.tc : Thread Cert.SparseReferenceIdeal.nD Cert.SparseReferenceIdeal.τ).loc Cert.SparseReferenceIdeal.main_arg0) = m ((c.tc : Thread Cert.SparseIdeal.nD Cert.SparseIdeal.τ).loc Cert.SparseIdeal.main_arg0)
      ∧ m' ((c.tc : Thread Cert.SparseReferenceIdeal.nD Cert.SparseReferenceIdeal.τ).loc Cert.SparseReferenceIdeal.main_arg1) = m ((c.tc : Thread Cert.SparseIdeal.nD Cert.SparseIdeal.τ).loc Cert.SparseIdeal.main_arg1)
      ∧ m' ((c.tc : Thread Cert.SparseReferenceIdeal.nD Cert.SparseReferenceIdeal.τ).loc Cert.SparseReferenceIdeal.main_arg2) = m ((c.tc : Thread Cert.SparseIdeal.nD Cert.SparseIdeal.τ).loc Cert.SparseIdeal.main_arg2)
      ∧ m' ((c.tc : Thread Cert.SparseReferenceIdeal.nD Cert.SparseReferenceIdeal.τ).loc Cert.SparseReferenceIdeal.main_arg3) = m ((c.tc : Thread Cert.SparseIdeal.nD Cert.SparseIdeal.τ).loc Cert.SparseIdeal.main_arg3)
      ∧ m' ((c.tc : Thread Cert.SparseReferenceIdeal.nD Cert.SparseReferenceIdeal.τ).loc Cert.SparseReferenceIdeal.main_arg4) = m ((c.tc : Thread Cert.SparseIdeal.nD Cert.SparseIdeal.τ).loc Cert.SparseIdeal.main_arg4)
      ∧ m' ((c.tc : Thread Cert.SparseReferenceIdeal.nD Cert.SparseReferenceIdeal.τ).loc Cert.SparseReferenceIdeal.main_arg5) = m ((c.tc : Thread Cert.SparseIdeal.nD Cert.SparseIdeal.τ).loc Cert.SparseIdeal.main_arg5)) →
    ∃ (v0 : (c : Dev Cert.SparseIdeal.nD) → Buf (Elt Ideal) ((c.tc : Thread Cert.SparseIdeal.nD Cert.SparseIdeal.τ).loc Cert.SparseIdeal.main_v4)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v4) = v0 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
          ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
          ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v58) = v0 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2)
          ∧ r.2.mem ((c.tc : Thread Cert.SparseReferenceIdeal.nD Cert.SparseReferenceIdeal.τ).loc Cert.SparseReferenceIdeal.main_arg3) = m' ((c.tc : Thread Cert.SparseReferenceIdeal.nD Cert.SparseReferenceIdeal.τ).loc Cert.SparseReferenceIdeal.main_arg3)
          ∧ r.2.mem ((c.tc : Thread Cert.SparseReferenceIdeal.nD Cert.SparseReferenceIdeal.τ).loc Cert.SparseReferenceIdeal.main_arg4) = m' ((c.tc : Thread Cert.SparseReferenceIdeal.nD Cert.SparseReferenceIdeal.τ).loc Cert.SparseReferenceIdeal.main_arg4)
          ∧ r.2.mem ((c.tc : Thread Cert.SparseReferenceIdeal.nD Cert.SparseReferenceIdeal.τ).loc Cert.SparseReferenceIdeal.main_arg5) = m' ((c.tc : Thread Cert.SparseReferenceIdeal.nD Cert.SparseReferenceIdeal.τ).loc Cert.SparseReferenceIdeal.main_arg5))

def bitexact_Pack_PackReference [hPack : Cert.Pack.Facts] [hPackReference : Cert.PackReference.Facts] : Prop :=
  ∀ (m : (ℓ : Loc Cert.Pack.nD Cert.Pack.τ Cert.Pack.sig) → Buf (Elt Bits) ℓ) (g : Dev Cert.Pack.nD → PrngReg)
    (m' : (ℓ : Loc Cert.PackReference.nD Cert.PackReference.τ Cert.PackReference.sig) → Buf (Elt Bits) ℓ) (g' : Dev Cert.PackReference.nD → PrngReg), Pre_Pack m →
    (∀ c : Dev Cert.Pack.nD,
      m' ((c.tc : Thread Cert.PackReference.nD Cert.PackReference.τ).loc Cert.PackReference.main_arg0) = m ((c.tc : Thread Cert.Pack.nD Cert.Pack.τ).loc Cert.Pack.main_arg0)
      ∧ m' ((c.tc : Thread Cert.PackReference.nD Cert.PackReference.τ).loc Cert.PackReference.main_arg1) = m ((c.tc : Thread Cert.Pack.nD Cert.Pack.τ).loc Cert.Pack.main_arg1)) →
    ∃ (v0 : (c : Dev Cert.Pack.nD) → Buf (Elt Bits) ((c.tc : Thread Cert.Pack.nD Cert.Pack.τ).loc Cert.Pack.main_v2)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v2) = v0 c
          ∧ r.2.mem ((c.tc : Thread Cert.Pack.nD Cert.Pack.τ).loc Cert.Pack.main_arg0) = m ((c.tc : Thread Cert.Pack.nD Cert.Pack.τ).loc Cert.Pack.main_arg0)
          ∧ r.2.mem ((c.tc : Thread Cert.Pack.nD Cert.Pack.τ).loc Cert.Pack.main_arg1) = m ((c.tc : Thread Cert.Pack.nD Cert.Pack.τ).loc Cert.Pack.main_arg1))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v3) = v0 c
          ∧ r.2.mem ((c.tc : Thread Cert.PackReference.nD Cert.PackReference.τ).loc Cert.PackReference.main_arg0) = m' ((c.tc : Thread Cert.PackReference.nD Cert.PackReference.τ).loc Cert.PackReference.main_arg0)
          ∧ r.2.mem ((c.tc : Thread Cert.PackReference.nD Cert.PackReference.τ).loc Cert.PackReference.main_arg1) = m' ((c.tc : Thread Cert.PackReference.nD Cert.PackReference.τ).loc Cert.PackReference.main_arg1))

def Claim : Prop :=
  ∃ (hKernel : Cert.Kernel.Facts) (hKernelIdeal : Cert.KernelIdeal.Facts) (hReferenceIdeal : Cert.ReferenceIdeal.Facts) (hSparse : Cert.Sparse.Facts) (hSparseIdeal : Cert.SparseIdeal.Facts) (hSparseReferenceIdeal : Cert.SparseReferenceIdeal.Facts) (hPack : Cert.Pack.Facts) (hPackReference : Cert.PackReference.Facts) (hPre_entries_in_range : Cert.Pre_entries_in_range.Facts),
    quiescent_Kernel (hKernel := hKernel)
    ∧ quiescent_KernelIdeal (hKernelIdeal := hKernelIdeal)
    ∧ quiescent_ReferenceIdeal (hReferenceIdeal := hReferenceIdeal)
    ∧ quiescent_Sparse (hSparse := hSparse) (hPre_entries_in_range := hPre_entries_in_range)
    ∧ quiescent_SparseIdeal (hSparseIdeal := hSparseIdeal) (hPre_entries_in_range := hPre_entries_in_range)
    ∧ quiescent_SparseReferenceIdeal (hSparseReferenceIdeal := hSparseReferenceIdeal) (hPre_entries_in_range := hPre_entries_in_range)
    ∧ quiescent_Pack (hPack := hPack)
    ∧ quiescent_PackReference (hPackReference := hPackReference)
    ∧ preserves_Kernel_KernelIdeal
    ∧ algebraic_KernelIdeal_ReferenceIdeal (hKernelIdeal := hKernelIdeal) (hReferenceIdeal := hReferenceIdeal)
    ∧ preserves_Sparse_SparseIdeal
    ∧ algebraic_SparseIdeal_SparseReferenceIdeal (hSparseIdeal := hSparseIdeal) (hSparseReferenceIdeal := hSparseReferenceIdeal) (hPre_entries_in_range := hPre_entries_in_range)
    ∧ bitexact_Pack_PackReference (hPack := hPack) (hPackReference := hPackReference)
-- ==== Pre_entries_in_range.lean ====
abbrev S1x128x5120 : Shape := ⟨3, ![1, 128, 5120]⟩
abbrev S80x27x8x8x128 : Shape := ⟨5, ![80, 27, 8, 8, 128]⟩
abbrev S80x27x4x8x128 : Shape := ⟨5, ![80, 27, 4, 8, 128]⟩
abbrev S9437184 : Shape := ⟨1, ![9437184]⟩
abbrev S32x128 : Shape := ⟨2, ![32, 128]⟩
abbrev S128x27648 : Shape := ⟨2, ![128, 27648]⟩
abbrev S32x144x2x1024 : Shape := ⟨4, ![32, 144, 2, 1024]⟩
abbrev S32x144x1x1024 : Shape := ⟨4, ![32, 144, 1, 1024]⟩
abbrev S32x144x1024 : Shape := ⟨3, ![32, 144, 1024]⟩
abbrev S_ : Shape := ⟨0, ![]⟩
abbrev S32x1 : Shape := ⟨2, ![32, 1]⟩
abbrev S32x1x1 : Shape := ⟨3, ![32, 1, 1]⟩

class Facts : Prop where
  shapeCasts_S9437184_S32x144x2x1024 : S9437184.ShapeCasts S32x144x2x1024
  slices_S32x144x2x1024_S32x144x1x1024_0_0_0_0 : S32x144x2x1024.Slices ![0, 0, 0, 0] S32x144x1x1024
  shapeCasts_S32x144x1x1024_S32x144x1024 : S32x144x1x1024.ShapeCasts S32x144x1024
  slices_S32x144x2x1024_S32x144x1x1024_0_0_1_0 : S32x144x2x1024.Slices ![0, 0, 1, 0] S32x144x1x1024
  bcast_S_S32x144x1024 : S_.BroadcastsInDim S32x144x1024 (![] : Fin 0 → Fin S32x144x1024.rank)
  slices_S32x128_S32x1_0_0 : S32x128.Slices ![0, 0] S32x1
  bcast_S32x1_S32x1x1_0_1 : S32x1.BroadcastsInDim S32x1x1 (![0, 1] : Fin 2 → Fin S32x1x1.rank)
  bcast_S32x1x1_S32x144x1024_0_1_2 : S32x1x1.BroadcastsInDim S32x144x1024 (![0, 1, 2] : Fin 3 → Fin S32x144x1024.rank)
  bcast_S_S32x1 : S_.BroadcastsInDim S32x1 (![] : Fin 0 → Fin S32x1.rank)

variable [Facts]

def fn_part1 {F : FTy → Type} [FloatOps F] (main_v2 : IVec S32x144x1024 32) (main_v14 : IVec S32x1 1) (main_v18 : IVec S32x144x1024 1) (main_v19 : IVec S32x144x1024 32) : IVec S32x1 1 × IVec S32x144x1024 1 :=
  let main_v20 : IVec S32x144x1024 1 := cmpi .slt main_v2 main_v19
  let main_v21 : IVec S32x144x1024 1 := ori main_v18 main_v20
  (main_v14, main_v21)

def fn {F : FTy → Type} [FloatOps F] (main_arg0 : FVec F S1x128x5120 .bf16) (main_arg1 : IVec S80x27x8x8x128 32) (main_arg2 : IVec S80x27x4x8x128 32) (main_arg3 : IVec S9437184 32) (main_arg4 : IVec S32x128 32) (main_arg5 : FVec F S128x27648 .f32) : IVec S32x1 1 × IVec S32x144x1024 1 :=
  let main_v0 : IVec S32x144x2x1024 32 := shapeCast S32x144x2x1024 main_arg3 shapeCasts_S9437184_S32x144x2x1024
  let main_v1 : IVec S32x144x1x1024 32 := (extractStridedSlice S32x144x1x1024 ![0, 0, 0, 0] · slices_S32x144x2x1024_S32x144x1x1024_0_0_0_0) main_v0
  let main_v2 : IVec S32x144x1024 32 := shapeCast S32x144x1024 main_v1 shapeCasts_S32x144x1x1024_S32x144x1024
  let main_v3 : IVec S32x144x1x1024 32 := (extractStridedSlice S32x144x1x1024 ![0, 0, 1, 0] · slices_S32x144x2x1024_S32x144x1x1024_0_0_1_0) main_v0
  let main_v4 : IVec S32x144x1024 32 := shapeCast S32x144x1024 main_v3 shapeCasts_S32x144x1x1024_S32x144x1024
  let main_c : IVec S_ 32 := constantI S_ 32 65535#32
  let main_v5 : IVec S32x144x1024 32 := broadcastInDim S32x144x1024 ![] bcast_S_S32x144x1024 main_c
  let main_v6 : IVec S32x144x1024 32 := andi main_v4 main_v5
  let main_v7 : IVec S32x144x1024 32 := iotaInDim S32x144x1024 32 1
  let main_v8 : IVec S32x1 32 := (extractStridedSlice S32x1 ![0, 0] · slices_S32x128_S32x1_0_0) main_arg4
  let main_v9 : IVec S32x1x1 32 := broadcastInDim S32x1x1 ![0, 1] bcast_S32x1_S32x1x1_0_1 main_v8
  let main_v10 : IVec S32x144x1024 32 := broadcastInDim S32x144x1024 ![0, 1, 2] bcast_S32x1x1_S32x144x1024_0_1_2 main_v9
  let main_v11 : IVec S32x144x1024 1 := cmpi .slt main_v7 main_v10
  let main_v12 : IVec S32x1 32 := (extractStridedSlice S32x1 ![0, 0] · slices_S32x128_S32x1_0_0) main_arg4
  let main_c_0 : IVec S_ 32 := constantI S_ 32 144#32
  let main_v13 : IVec S32x1 32 := broadcastInDim S32x1 ![] bcast_S_S32x1 main_c_0
  let main_v14 : IVec S32x1 1 := cmpi .sle main_v12 main_v13
  let main_c_1 : IVec S_ 32 := constantI S_ 32 27648#32
  let main_v15 : IVec S32x144x1024 32 := broadcastInDim S32x144x1024 ![] bcast_S_S32x144x1024 main_c_1
  let main_v16 : IVec S32x144x1024 1 := cmpi .slt main_v6 main_v15
  let main_v17 : IVec S32x144x1024 1 := andi main_v11 main_v16
  let main_v18 : IVec S32x144x1024 1 := noti main_v17
  let main_c_2 : IVec S_ 32 := constantI S_ 32 5120#32
  let main_v19 : IVec S32x144x1024 32 := broadcastInDim S32x144x1024 ![] bcast_S_S32x144x1024 main_c_2
  fn_part1 (F := F) main_v2 main_v14 main_v18 main_v19
-- ==== Kernel.lean ====
abbrev S1x128x5120 : Shape := ⟨3, ![1, 128, 5120]⟩
abbrev S2560x27648 : Shape := ⟨2, ![2560, 27648]⟩
abbrev S40x27648 : Shape := ⟨2, ![40, 27648]⟩
abbrev S5120x96 : Shape := ⟨2, ![5120, 96]⟩
abbrev S96x27648 : Shape := ⟨2, ![96, 27648]⟩
abbrev S128x5120 : Shape := ⟨2, ![128, 5120]⟩
abbrev S96x5120 : Shape := ⟨2, ![96, 5120]⟩
abbrev S128x27648 : Shape := ⟨2, ![128, 27648]⟩
abbrev S2560x1024 : Shape := ⟨2, ![2560, 1024]⟩
abbrev S40x1024 : Shape := ⟨2, ![40, 1024]⟩
abbrev S96x1024 : Shape := ⟨2, ![96, 1024]⟩
abbrev S128x1024 : Shape := ⟨2, ![128, 1024]⟩
abbrev S128x96 : Shape := ⟨2, ![128, 96]⟩
abbrev S512x1024 : Shape := ⟨2, ![512, 1024]⟩
abbrev S512x1x1024 : Shape := ⟨3, ![512, 1, 1024]⟩
abbrev S512x2x1024 : Shape := ⟨3, ![512, 2, 1024]⟩
abbrev S1024x1024 : Shape := ⟨2, ![1024, 1024]⟩
abbrev S8x1024 : Shape := ⟨2, ![8, 1024]⟩
abbrev S8x128x1024 : Shape := ⟨3, ![8, 128, 1024]⟩
abbrev S8x1x1024 : Shape := ⟨3, ![8, 1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S1x128x5120, .bf16⟩
  | .hbm, ⟨1, _⟩ => ⟨S2560x27648, .i8⟩
  | .hbm, ⟨2, _⟩ => ⟨S40x27648, .f32⟩
  | .hbm, ⟨3, _⟩ => ⟨S5120x96, .bf16⟩
  | .hbm, ⟨4, _⟩ => ⟨S96x27648, .bf16⟩
  | .hbm, ⟨5, _⟩ => ⟨S128x5120, .bf16⟩
  | .hbm, ⟨6, _⟩ => ⟨S96x5120, .bf16⟩
  | .hbm, ⟨7, _⟩ => ⟨S128x27648, .f32⟩
  | .local _ .vmem, ⟨0, _⟩ => ⟨S128x5120, .bf16⟩
  | .local _ .vmem, ⟨1, _⟩ => ⟨S2560x1024, .i8⟩
  | .local _ .vmem, ⟨2, _⟩ => ⟨S2560x1024, .i8⟩
  | .local _ .vmem, ⟨3, _⟩ => ⟨S40x1024, .f32⟩
  | .local _ .vmem, ⟨4, _⟩ => ⟨S40x1024, .f32⟩
  | .local _ .vmem, ⟨5, _⟩ => ⟨S96x5120, .bf16⟩
  | .local _ .vmem, ⟨6, _⟩ => ⟨S96x1024, .bf16⟩
  | .local _ .vmem, ⟨7, _⟩ => ⟨S96x1024, .bf16⟩
  | .local _ .vmem, ⟨8, _⟩ => ⟨S128x1024, .f32⟩
  | .local _ .vmem, ⟨9, _⟩ => ⟨S128x1024, .f32⟩
  | .local _ .vmem, ⟨10, _⟩ => ⟨S128x96, .bf16⟩
  | _, _ => ⟨S1x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![27], ![false]⟩

@[reducible] def k0_t1_loop : Scf.Loop 32 :=
  let c0_i32_7 : BitVec 32 := 0#32
  let c5_i32 : BitVec 32 := 5#32
  let v9 : BitVec 32 := Scalar.addi c0_i32_7 c5_i32
  let c1_i32 : BitVec 32 := 1#32
  ⟨c0_i32_7, v9, c1_i32⟩
def k0_mult1 (k0_t1 : Fin k0_t1_loop.trips) : BitVec 32 :=
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c512_i32 : BitVec 32 := 512#32
  let v12 : BitVec 32 := Scalar.muli v11 c512_i32
  v12
def k0_off1 (k0_t1 : Fin k0_t1_loop.trips) : Fin 2 → Nat :=
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c512_i32 : BitVec 32 := 512#32
  let v12 : BitVec 32 := Scalar.muli v11 c512_i32
  let v13 : BitVec 32 := v12
  let v14 : Index := Scalar.indexCast v13
  let c0_11 : Index := 0#32
  ![v14.toNat, 0]
def k0_mult2 (k0_t1 : Fin k0_t1_loop.trips) : BitVec 32 :=
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c8_i32 : BitVec 32 := 8#32
  let v30 : BitVec 32 := Scalar.muli v11 c8_i32
  v30
def k0_off2 (k0_t1 : Fin k0_t1_loop.trips) : Fin 2 → Nat :=
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c8_i32 : BitVec 32 := 8#32
  let v30 : BitVec 32 := Scalar.muli v11 c8_i32
  let v31 : BitVec 32 := v30
  let v32 : Index := Scalar.indexCast v31
  let c0_14 : Index := 0#32
  ![v32.toNat, 0]
def k0_mult3 (k0_t1 : Fin k0_t1_loop.trips) : BitVec 32 :=
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c1024_i32 : BitVec 32 := 1024#32
  let v41 : BitVec 32 := Scalar.muli v11 c1024_i32
  v41
def k0_off3 (k0_t1 : Fin k0_t1_loop.trips) : Fin 2 → Nat :=
  let c0_17 : Index := 0#32
  let c0_i32_10 : BitVec 32 := 0#32
  let c0_i32_7 : BitVec 32 := 0#32
  let c1_i32 : BitVec 32 := 1#32
  let arg8 : BitVec 32 := Scf.iv c0_i32_7 c1_i32 k0_t1
  let c1_i32_9 : BitVec 32 := 1#32
  let v10 : BitVec 32 := Scalar.muli arg8 c1_i32_9
  let v11 : BitVec 32 := Scalar.addi c0_i32_10 v10
  let c1024_i32 : BitVec 32 := 1024#32
  let v41 : BitVec 32 := Scalar.muli v11 c1024_i32
  let v42 : BitVec 32 := v41
  let v43 : Index := Scalar.indexCast v42
  ![0, v43.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x128x5120 : Shape := ⟨3, ![1, 128, 5120]⟩
abbrev S2560x27648 : Shape := ⟨2, ![2560, 27648]⟩
abbrev S40x27648 : Shape := ⟨2, ![40, 27648]⟩
abbrev S5120x96 : Shape := ⟨2, ![5120, 96]⟩
abbrev S96x27648 : Shape := ⟨2, ![96, 27648]⟩
abbrev S_ : Shape := ⟨0, ![]⟩
abbrev S40x64x27648 : Shape := ⟨3, ![40, 64, 27648]⟩
abbrev S40x1x27648 : Shape := ⟨3, ![40, 1, 27648]⟩
abbrev S1x128x2560 : Shape := ⟨3, ![1, 128, 2560]⟩
abbrev S1x128x27648 : Shape := ⟨3, ![1, 128, 27648]⟩
abbrev S1x128x96 : Shape := ⟨3, ![1, 128, 96]⟩
abbrev S128x27648 : Shape := ⟨2, ![128, 27648]⟩

abbrev nBuf : Space → Nat
  | .hbm => 52
  | .vmem => 0
  | .smem => 0
  | _ => 0

abbrev bufTy : (tb : Table) → Fin (tcTables nBuf tb) → BufTy
  | .hbm, ⟨0, _⟩ => ⟨S1x128x5120, .bf16⟩
  | .hbm, ⟨1, _⟩ => ⟨S2560x27648, .i8⟩
  | .hbm, ⟨2, _⟩ => ⟨S40x27648, .f32⟩
  | .hbm, ⟨3, _⟩ => ⟨S5120x96, .bf16⟩
  | .hbm, ⟨4, _⟩ => ⟨S96x27648, .bf16⟩
  | .hbm, ⟨5, _⟩ => ⟨S2560x27648, .i32⟩
  | .hbm, ⟨6, _⟩ => ⟨S_, .i32⟩
  | .hbm, ⟨7, _⟩ => ⟨S2560x27648, .i32⟩
  | .hbm, ⟨8, _⟩ => ⟨S2560x27648, .i32⟩
  | .hbm, ⟨9, _⟩ => ⟨S_, .i32⟩
  | .hbm, ⟨10, _⟩ => ⟨S2560x27648, .i32⟩
  | .hbm, ⟨11, _⟩ => ⟨S2560x27648, .i1⟩
  | .hbm, ⟨12, _⟩ => ⟨S_, .i32⟩
  | .hbm, ⟨13, _⟩ => ⟨S2560x27648, .i32⟩
  | .hbm, ⟨14, _⟩ => ⟨S2560x27648, .i32⟩
  | .hbm, ⟨15, _⟩ => ⟨S2560x27648, .i32⟩
  | .hbm, ⟨16, _⟩ => ⟨S_, .i32⟩
  | .hbm, ⟨17, _⟩ => ⟨S2560x27648, .i32⟩
  | .hbm, ⟨18, _⟩ => ⟨S2560x27648, .i32⟩
  | .hbm, ⟨19, _⟩ => ⟨S_, .i32⟩
  | .hbm, ⟨20, _⟩ => ⟨S2560x27648, .i32⟩
  | .hbm, ⟨21, _⟩ => ⟨S2560x27648, .i1⟩
  | .hbm, ⟨22, _⟩ => ⟨S_, .i32⟩
  | .hbm, ⟨23, _⟩ => ⟨S2560x27648, .i32⟩
  | .hbm, ⟨24, _⟩ => ⟨S2560x27648, .i32⟩
  | .hbm, ⟨25, _⟩ => ⟨S2560x27648, .i32⟩
  | .hbm, ⟨26, _⟩ => ⟨S40x27648, .bf16⟩
  | .hbm, ⟨27, _⟩ => ⟨S2560x27648, .bf16⟩
  | .hbm, ⟨28, _⟩ => ⟨S40x64x27648, .bf16⟩
  | .hbm, ⟨29, _⟩ => ⟨S40x1x27648, .bf16⟩
  | .hbm, ⟨30, _⟩ => ⟨S40x64x27648, .bf16⟩
  | .hbm, ⟨31, _⟩ => ⟨S40x64x27648, .bf16⟩
  | .hbm, ⟨32, _⟩ => ⟨S2560x27648, .bf16⟩
  | .hbm, ⟨33, _⟩ => ⟨S2560x27648, .bf16⟩
  | .hbm, ⟨34, _⟩ => ⟨S40x64x27648, .bf16⟩
  | .hbm, ⟨35, _⟩ => ⟨S40x1x27648, .bf16⟩
  | .hbm, ⟨36, _⟩ => ⟨S40x64x27648, .bf16⟩
  | .hbm, ⟨37, _⟩ => ⟨S40x64x27648, .bf16⟩
  | .hbm, ⟨38, _⟩ => ⟨S2560x27648, .bf16⟩
  | .hbm, ⟨39, _⟩ => ⟨S1x128x2560, .bf16⟩
  | .hbm, ⟨40, _⟩ => ⟨S1x128x27648, .f32⟩
  | .hbm, ⟨41, _⟩ => ⟨S1x128x2560, .bf16⟩
  | .hbm, ⟨42, _⟩ => ⟨S1x128x27648, .f32⟩
  | .hbm, ⟨43, _⟩ => ⟨S1x128x27648, .f32⟩
  | .hbm, ⟨44, _⟩ => ⟨S1x128x96, .f32⟩
  | .hbm, ⟨45, _⟩ => ⟨S1x128x96, .bf16⟩
  | .hbm, ⟨46, _⟩ => ⟨S1x128x27648, .f32⟩
  | .hbm, ⟨47, _⟩ => ⟨S_, .f32⟩
  | .hbm, ⟨48, _⟩ => ⟨S1x128x27648, .f32⟩
  | .hbm, ⟨49, _⟩ => ⟨S1x128x27648, .f32⟩
  | .hbm, ⟨50, _⟩ => ⟨S1x128x27648, .f32⟩
  | .hbm, ⟨51, _⟩ => ⟨S128x27648, .f32⟩
  | _, _ => ⟨S1x128x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Sparse.lean ====
abbrev S1x128x5120 : Shape := ⟨3, ![1, 128, 5120]⟩
abbrev S80x27x8x8x128 : Shape := ⟨5, ![80, 27, 8, 8, 128]⟩
abbrev S80x27x4x8x128 : Shape := ⟨5, ![80, 27, 4, 8, 128]⟩
abbrev S9437184 : Shape := ⟨1, ![9437184]⟩
abbrev S32x128 : Shape := ⟨2, ![32, 128]⟩
abbrev S128x27648 : Shape := ⟨2, ![128, 27648]⟩
abbrev S128x5120 : Shape := ⟨2, ![128, 5120]⟩
abbrev S128x80x2x2x4x4 : Shape := ⟨6, ![128, 80, 2, 2, 4, 4]⟩
abbrev S128x80x4x2x4x2 : Shape := ⟨6, ![128, 80, 4, 2, 4, 2]⟩
abbrev S80x1x8x8x128 : Shape := ⟨5, ![80, 1, 8, 8, 128]⟩
abbrev S80x1x4x8x128 : Shape := ⟨5, ![80, 1, 4, 8, 128]⟩
abbrev S128x1024 : Shape := ⟨2, ![128, 1024]⟩
abbrev S2048 : Shape := ⟨1, ![2048]⟩
abbrev S_ : Shape := ⟨0, ![]⟩
abbrev S1x1x1x8x128 : Shape := ⟨5, ![1, 1, 1, 8, 128]⟩
abbrev S8x128 : Shape := ⟨2, ![8, 128]⟩
abbrev S8x128x1 : Shape := ⟨3, ![8, 128, 1]⟩
abbrev S16x128 : Shape := ⟨2, ![16, 128]⟩
abbrev S512x128 : Shape := ⟨2, ![512, 128]⟩
abbrev S512x1024 : Shape := ⟨2, ![512, 1024]⟩
abbrev S128x512 : Shape := ⟨2, ![128, 512]⟩
abbrev S1x1 : Shape := ⟨2, ![1, 1]⟩
abbrev S1 : Shape := ⟨1, ![1]⟩
abbrev S128x128 : Shape := ⟨2, ![128, 128]⟩

abbrev nBuf : Space → Nat
  | .hbm => 11
  | .vmem => 11
  | .smem => 2
  | _ => 0

abbrev bufTy : (tb : Table) → Fin (tcTables nBuf tb) → BufTy
  | .hbm, ⟨0, _⟩ => ⟨S1x128x5120, .bf16⟩
  | .hbm, ⟨1, _⟩ => ⟨S80x27x8x8x128, .i32⟩
  | .hbm, ⟨2, _⟩ => ⟨S80x27x4x8x128, .i32⟩
  | .hbm, ⟨3, _⟩ => ⟨S9437184, .i32⟩
  | .hbm, ⟨4, _⟩ => ⟨S32x128, .i32⟩
  | .hbm, ⟨5, _⟩ => ⟨S128x27648, .f32⟩
  | .hbm, ⟨6, _⟩ => ⟨S128x5120, .bf16⟩
  | .hbm, ⟨7, _⟩ => ⟨S128x80x2x2x4x4, .bf16⟩
  | .hbm, ⟨8, _⟩ => ⟨S128x80x4x2x4x2, .bf16⟩
  | .hbm, ⟨9, _⟩ => ⟨S128x5120, .bf16⟩
  | .hbm, ⟨10, _⟩ => ⟨S128x27648, .bf16⟩
  | .local _ .vmem, ⟨0, _⟩ => ⟨S128x5120, .bf16⟩
  | .local _ .vmem, ⟨1, _⟩ => ⟨S128x5120, .bf16⟩
  | .local _ .vmem, ⟨2, _⟩ => ⟨S80x1x8x8x128, .i32⟩
  | .local _ .vmem, ⟨3, _⟩ => ⟨S80x1x8x8x128, .i32⟩
  | .local _ .vmem, ⟨4, _⟩ => ⟨S80x1x4x8x128, .i32⟩
  | .local _ .vmem, ⟨5, _⟩ => ⟨S80x1x4x8x128, .i32⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .smem, ⟨0, _⟩ => ⟨S32x128, .i32⟩
  | .local _ .smem, ⟨1, _⟩ => ⟨S2048, .i32⟩
  | _, _ => ⟨S1x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![27], ![false]⟩

@[reducible] def k0_t1_loop : Scf.Loop 32 :=
  let c0_i32 : BitVec 32 := 0#32
  let c10_i32 : BitVec 32 := 10#32
  let v4 : BitVec 32 := Scalar.addi c0_i32 c10_i32
  let c1_i32 : BitVec 32 := 1#32
  ⟨c0_i32, v4, c1_i32⟩
def k0_off1 (k0_t1 : Fin k0_t1_loop.trips) (c0_i32_13 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32 : BitVec 32 := 8#32
  let v11 : BitVec 32 := Scalar.muli v10 c8_i32
  let v12 : BitVec 32 := Scalar.addi v11 c0_i32_13
  let v13 : Index := Scalar.indexCast v12
  let c0_14 : Index := 0#32
  let c0_15 : Index := 0#32
  let c0_16 : Index := 0#32
  let c0_17 : Index := 0#32
  ![v13.toNat, 0, 0, 0, 0]
def k0_off2 (k0_t1 : Fin k0_t1_loop.trips) (c0_i32_20 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_19 : BitVec 32 := 8#32
  let v20 : BitVec 32 := Scalar.muli v10 c8_i32_19
  let v21 : BitVec 32 := Scalar.addi v20 c0_i32_20
  let v22 : Index := Scalar.indexCast v21
  let c0_21 : Index := 0#32
  let c0_22 : Index := 0#32
  let c0_23 : Index := 0#32
  let c0_24 : Index := 0#32
  ![v22.toNat, 0, 0, 0, 0]
def k0_off3 (k0_t1 : Fin k0_t1_loop.trips) (c0_i32_29 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_28 : BitVec 32 := 8#32
  let v38 : BitVec 32 := Scalar.muli v10 c8_i32_28
  let v39 : BitVec 32 := Scalar.addi v38 c0_i32_29
  let v40 : Index := Scalar.indexCast v39
  let c0_30 : Index := 0#32
  let c1 : Index := 1#32
  let c0_31 : Index := 0#32
  let c0_32 : Index := 0#32
  ![v40.toNat, 0, 1, 0, 0]
def k0_off4 (k0_t1 : Fin k0_t1_loop.trips) (c0_i32_37 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_36 : BitVec 32 := 8#32
  let v56 : BitVec 32 := Scalar.muli v10 c8_i32_36
  let v57 : BitVec 32 := Scalar.addi v56 c0_i32_37
  let v58 : Index := Scalar.indexCast v57
  let c0_38 : Index := 0#32
  let c2 : Index := 2#32
  let c0_39 : Index := 0#32
  let c0_40 : Index := 0#32
  ![v58.toNat, 0, 2, 0, 0]
def k0_off5 (k0_t1 : Fin k0_t1_loop.trips) (c0_i32_45 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_44 : BitVec 32 := 8#32
  let v74 : BitVec 32 := Scalar.muli v10 c8_i32_44
  let v75 : BitVec 32 := Scalar.addi v74 c0_i32_45
  let v76 : Index := Scalar.indexCast v75
  let c0_46 : Index := 0#32
  let c3 : Index := 3#32
  let c0_47 : Index := 0#32
  let c0_48 : Index := 0#32
  ![v76.toNat, 0, 3, 0, 0]
def k0_off6 (k0_t1 : Fin k0_t1_loop.trips) (c0_i32_368 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_367 : BitVec 32 := 8#32
  let v628 : BitVec 32 := Scalar.muli v10 c8_i32_367
  let v629 : BitVec 32 := Scalar.addi v628 c0_i32_368
  let v630 : Index := Scalar.indexCast v629
  let c0_369 : Index := 0#32
  let c1_370 : Index := 1#32
  let c0_371 : Index := 0#32
  let c0_372 : Index := 0#32
  ![v630.toNat, 0, 1, 0, 0]
def k0_off7 (k0_t1 : Fin k0_t1_loop.trips) (c0_i32_736 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_735 : BitVec 32 := 8#32
  let v1245 : BitVec 32 := Scalar.muli v10 c8_i32_735
  let v1246 : BitVec 32 := Scalar.addi v1245 c0_i32_736
  let v1247 : Index := Scalar.indexCast v1246
  let c0_737 : Index := 0#32
  let c2_738 : Index := 2#32
  let c0_739 : Index := 0#32
  let c0_740 : Index := 0#32
  ![v1247.toNat, 0, 2, 0, 0]
def k0_off8 (k0_t1 : Fin k0_t1_loop.trips) (c0_i32_1104 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_1103 : BitVec 32 := 8#32
  let v1862 : BitVec 32 := Scalar.muli v10 c8_i32_1103
  let v1863 : BitVec 32 := Scalar.addi v1862 c0_i32_1104
  let v1864 : Index := Scalar.indexCast v1863
  let c0_1105 : Index := 0#32
  let c3_1106 : Index := 3#32
  let c0_1107 : Index := 0#32
  let c0_1108 : Index := 0#32
  ![v1864.toNat, 0, 3, 0, 0]
def k0_off9 (k0_t1 : Fin k0_t1_loop.trips) (c0_i32_1472 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_1471 : BitVec 32 := 8#32
  let v2479 : BitVec 32 := Scalar.muli v10 c8_i32_1471
  let v2480 : BitVec 32 := Scalar.addi v2479 c0_i32_1472
  let v2481 : Index := Scalar.indexCast v2480
  let c0_1473 : Index := 0#32
  let c4 : Index := 4#32
  let c0_1474 : Index := 0#32
  let c0_1475 : Index := 0#32
  ![v2481.toNat, 0, 4, 0, 0]
def k0_off10 (k0_t1 : Fin k0_t1_loop.trips) (c0_i32_1839 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_1838 : BitVec 32 := 8#32
  let v3096 : BitVec 32 := Scalar.muli v10 c8_i32_1838
  let v3097 : BitVec 32 := Scalar.addi v3096 c0_i32_1839
  let v3098 : Index := Scalar.indexCast v3097
  let c0_1840 : Index := 0#32
  let c5 : Index := 5#32
  let c0_1841 : Index := 0#32
  let c0_1842 : Index := 0#32
  ![v3098.toNat, 0, 5, 0, 0]
def k0_off11 (k0_t1 : Fin k0_t1_loop.trips) (c0_i32_2206 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_2205 : BitVec 32 := 8#32
  let v3713 : BitVec 32 := Scalar.muli v10 c8_i32_2205
  let v3714 : BitVec 32 := Scalar.addi v3713 c0_i32_2206
  let v3715 : Index := Scalar.indexCast v3714
  let c0_2207 : Index := 0#32
  let c6 : Index := 6#32
  let c0_2208 : Index := 0#32
  let c0_2209 : Index := 0#32
  ![v3715.toNat, 0, 6, 0, 0]
def k0_off12 (k0_t1 : Fin k0_t1_loop.trips) (c0_i32_2573 : BitVec 32) : Fin 5 → Nat :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c8_i32_2572 : BitVec 32 := 8#32
  let v4330 : BitVec 32 := Scalar.muli v10 c8_i32_2572
  let v4331 : BitVec 32 := Scalar.addi v4330 c0_i32_2573
  let v4332 : Index := Scalar.indexCast v4331
  let c0_2574 : Index := 0#32
  let c7 : Index := 7#32
  let c0_2575 : Index := 0#32
  let c0_2576 : Index := 0#32
  ![v4332.toNat, 0, 7, 0, 0]
def k0_mult1 (k0_t1 : Fin k0_t1_loop.trips) : BitVec 32 :=
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c512_i32 : BitVec 32 := 512#32
  let v4949 : BitVec 32 := Scalar.muli v10 c512_i32
  v4949
def k0_off13 (k0_t1 : Fin k0_t1_loop.trips) : Fin 2 → Nat :=
  let c0_2941 : Index := 0#32
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v9 : BitVec 32 := Scalar.muli arg12 c1_i32_11
  let v10 : BitVec 32 := Scalar.addi c0_i32_12 v9
  let c512_i32 : BitVec 32 := 512#32
  let v4949 : BitVec 32 := Scalar.muli v10 c512_i32
  let v4950 : BitVec 32 := v4949
  let v4951 : Index := Scalar.indexCast v4950
  ![0, v4951.toNat]
@[reducible] def k0_t2_loop : Scf.Loop 32 :=
  let c0_i32_4 : BitVec 32 := 0#32
  let c32_i32 : BitVec 32 := 32#32
  let v5 : BitVec 32 := Scalar.addi c0_i32_4 c32_i32
  let c1_i32_5 : BitVec 32 := 1#32
  ⟨c0_i32_4, v5, c1_i32_5⟩
def k0_off14 (k0_t2 : Fin k0_t2_loop.trips) : Fin 2 → Nat :=
  let c0_i32_12 : BitVec 32 := 0#32
  let c0_i32_4 : BitVec 32 := 0#32
  let c1_i32_5 : BitVec 32 := 1#32
  let arg12 : BitVec 32 := Scf.iv c0_i32_4 c1_i32_5 k0_t2
  let c1_i32_11 : BitVec 32 := 1#32
  let v9 : BitVec 32 := Scalar.muli arg12 c1_i32_11
  let v10 : BitVec 32 := Scalar.addi c0_i32_12 v9
  let v11 : Index := Scalar.indexCast v10
  let c0_13 : Index := 0#32
  ![v11.toNat, 0]
@[reducible] def k0_t3_loop (v12 : BitVec 32) : Scf.Loop 32 :=
  let c0_i32_20 : BitVec 32 := 0#32
  let c0_i32_14 : BitVec 32 := 0#32
  let v13 : BitVec 32 := Scalar.subi v12 c0_i32_14
  let c1_i32_15 : BitVec 32 := 1#32
  let c1_i32_16 : BitVec 32 := 1#32
  let v14 : BitVec 32 := Scalar.subi c1_i32_15 c1_i32_16
  let v15 : BitVec 32 := Scalar.addi v13 v14
  let c1_i32_17 : BitVec 32 := 1#32
  let v16 : BitVec 32 := Scalar.divsi v15 c1_i32_17
  let v17 : BitVec 32 := Scalar.subi v16 c0_i32_20
  let c1_i32_21 : BitVec 32 := 1#32
  let v19 : BitVec 32 := Scalar.divsi v17 c1_i32_21
  let v20 : BitVec 32 := Scalar.muli v19 c1_i32_21
  let v21 : BitVec 32 := Scalar.addi c0_i32_20 v20
  let c1_i32_22 : BitVec 32 := 1#32
  ⟨c0_i32_20, v21, c1_i32_22⟩

def k0_mult2 (k0_t2 : Fin k0_t2_loop.trips) (v12 : BitVec 32) (k0_t3 : Fin (k0_t3_loop v12).trips) : BitVec 32 :=
  let c0_i32_12 : BitVec 32 := 0#32
  let c0_i32_4 : BitVec 32 := 0#32
  let c1_i32_5 : BitVec 32 := 1#32
  let arg12 : BitVec 32 := Scf.iv c0_i32_4 c1_i32_5 k0_t2
  let c1_i32_11 : BitVec 32 := 1#32
  let v9 : BitVec 32 := Scalar.muli arg12 c1_i32_11
  let v10 : BitVec 32 := Scalar.addi c0_i32_12 v9
  let c144_i32 : BitVec 32 := 144#32
  let v24 : BitVec 32 := Scalar.muli v10 c144_i32
  let c0_i32_19 : BitVec 32 := 0#32
  let c0_i32_20 : BitVec 32 := 0#32
  let c1_i32_22 : BitVec 32 := 1#32
  let arg13 : BitVec 32 := Scf.iv c0_i32_20 c1_i32_22 k0_t3
  let c1_i32_18 : BitVec 32 := 1#32
  let v22 : BitVec 32 := Scalar.muli arg13 c1_i32_18
  let v23 : BitVec 32 := Scalar.addi c0_i32_19 v22
  let v25 : BitVec 32 := Scalar.addi v24 v23
  let c2_i32 : BitVec 32 := 2#32
  let v26 : BitVec 32 := Scalar.muli v25 c2_i32
  let c1024_i32 : BitVec 32 := 1024#32
  let v27 : BitVec 32 := Scalar.muli v26 c1024_i32
  v27
def k0_off15 (k0_t2 : Fin k0_t2_loop.trips) (v12 : BitVec 32) (k0_t3 : Fin (k0_t3_loop v12).trips) : Fin 1 → Nat :=
  let c0_i32_12 : BitVec 32 := 0#32
  let c0_i32_4 : BitVec 32 := 0#32
  let c1_i32_5 : BitVec 32 := 1#32
  let arg12 : BitVec 32 := Scf.iv c0_i32_4 c1_i32_5 k0_t2
  let c1_i32_11 : BitVec 32 := 1#32
  let v9 : BitVec 32 := Scalar.muli arg12 c1_i32_11
  let v10 : BitVec 32 := Scalar.addi c0_i32_12 v9
  let c144_i32 : BitVec 32 := 144#32
  let v24 : BitVec 32 := Scalar.muli v10 c144_i32
  let c0_i32_19 : BitVec 32 := 0#32
  let c0_i32_20 : BitVec 32 := 0#32
  let c1_i32_22 : BitVec 32 := 1#32
  let arg13 : BitVec 32 := Scf.iv c0_i32_20 c1_i32_22 k0_t3
  let c1_i32_18 : BitVec 32 := 1#32
  let v22 : BitVec 32 := Scalar.muli arg13 c1_i32_18
  let v23 : BitVec 32 := Scalar.addi c0_i32_19 v22
  let v25 : BitVec 32 := Scalar.addi v24 v23
  let c2_i32 : BitVec 32 := 2#32
  let v26 : BitVec 32 := Scalar.muli v25 c2_i32
  let c1024_i32 : BitVec 32 := 1024#32
  let v27 : BitVec 32 := Scalar.muli v26 c1024_i32
  let v28 : BitVec 32 := v27
  ![v28.toNat]
@[reducible] def k0_t4_loop : Scf.Loop 32 :=
  let c0_i32_24 : BitVec 32 := 0#32
  let c1024_i32_25 : BitVec 32 := 1024#32
  let v31 : BitVec 32 := Scalar.addi c0_i32_24 c1024_i32_25
  let c1_i32_26 : BitVec 32 := 1#32
  ⟨c0_i32_24, v31, c1_i32_26⟩
def k0_off16 (k0_t4 : Fin k0_t4_loop.trips) : Fin 1 → Nat :=
  let c0_i32_29 : BitVec 32 := 0#32
  let c0_i32_24 : BitVec 32 := 0#32
  let c1_i32_26 : BitVec 32 := 1#32
  let arg14 : BitVec 32 := Scf.iv c0_i32_24 c1_i32_26 k0_t4
  let c1_i32_28 : BitVec 32 := 1#32
  let v32 : BitVec 32 := Scalar.muli arg14 c1_i32_28
  let v33 : BitVec 32 := Scalar.addi c0_i32_29 v32
  let v34 : Index := Scalar.indexCast v33
  ![v34.toNat]
def k0_off17 (k0_t4 : Fin k0_t4_loop.trips) : Fin 1 → Nat :=
  let c1024_i32_30 : BitVec 32 := 1024#32
  let c0_i32_29 : BitVec 32 := 0#32
  let c0_i32_24 : BitVec 32 := 0#32
  let c1_i32_26 : BitVec 32 := 1#32
  let arg14 : BitVec 32 := Scf.iv c0_i32_24 c1_i32_26 k0_t4
  let c1_i32_28 : BitVec 32 := 1#32
  let v32 : BitVec 32 := Scalar.muli arg14 c1_i32_28
  let v33 : BitVec 32 := Scalar.addi c0_i32_29 v32
  let v36 : BitVec 32 := Scalar.addi c1024_i32_30 v33
  let v37 : Index := Scalar.indexCast v36
  ![v37.toNat]
def k0_mult3 (v35 : BitVec 32) : BitVec 32 :=
  let c0_i32_36 : BitVec 32 := 0#32
  let v62 : BitVec 1 := Scalar.cmpi .sgt v35 c0_i32_36
  let v63 : BitVec 32 := Scalar.extui v62
  let c0_i32_37 : BitVec 32 := 0#32
  let v64 : BitVec 1 := Scalar.cmpi .slt v35 c0_i32_37
  let v65 : BitVec 32 := Scalar.extui v64
  let v66 : BitVec 32 := Scalar.subi v63 v65
  let c128_i32_35 : BitVec 32 := 128#32
  let c0_i32_38 : BitVec 32 := 0#32
  let v67 : BitVec 1 := Scalar.cmpi .sgt c128_i32_35 c0_i32_38
  let v68 : BitVec 32 := Scalar.extui v67
  let c0_i32_39 : BitVec 32 := 0#32
  let v69 : BitVec 1 := Scalar.cmpi .slt c128_i32_35 c0_i32_39
  let v70 : BitVec 32 := Scalar.extui v69
  let v71 : BitVec 32 := Scalar.subi v68 v70
  let v72 : BitVec 1 := Scalar.cmpi .ne v66 v71
  let v73 : BitVec 32 := Scalar.remsi v35 c128_i32_35
  let c0_i32_40 : BitVec 32 := 0#32
  let v74 : BitVec 1 := Scalar.cmpi .ne v73 c0_i32_40
  let v75 : BitVec 1 := Scalar.andi v72 v74
  let v61 : BitVec 32 := Scalar.divsi v35 c128_i32_35
  let c1_i32_41 : BitVec 32 := 1#32
  let v76 : BitVec 32 := Scalar.subi v61 c1_i32_41
  let v77 : BitVec 32 := Scalar.select v75 v76 v61
  let c128_i32_42 : BitVec 32 := 128#32
  let v78 : BitVec 32 := Scalar.muli v77 c128_i32_42
  v78
def k0_cond1 (i : grid0.Coords) (v35 : BitVec 32) (v38 : BitVec 32) : BitVec 1 :=
  let c0_i32_31 : BitVec 32 := 0#32
  let v40 : BitVec 1 := Scalar.cmpi .sge v35 c0_i32_31
  let c65535_i32 : BitVec 32 := 65535#32
  let v39 : BitVec 32 := Scalar.andi v38 c65535_i32
  let c10_i32_32 : BitVec 32 := 10#32
  let v41 : BitVec 32 := Scalar.shrui v39 c10_i32_32
  let arg0 : BitVec 32 := BitVec.ofNat 32 (i 0).val
  let v42 : BitVec 1 := Scalar.cmpi .eq v41 arg0
  let v43 : BitVec 1 := Scalar.andi v40 v42
  let v44 : BitVec 32 := Scalar.extui v43
  let c0_i32_33 : BitVec 32 := 0#32
  let v45 : BitVec 1 := Scalar.cmpi .ne v44 c0_i32_33
  v45

def k0_off18 (v35 : BitVec 32) : Fin 2 → Nat :=
  let c0_43 : Index := 0#32
  let c0_i32_36 : BitVec 32 := 0#32
  let v62 : BitVec 1 := Scalar.cmpi .sgt v35 c0_i32_36
  let v63 : BitVec 32 := Scalar.extui v62
  let c0_i32_37 : BitVec 32 := 0#32
  let v64 : BitVec 1 := Scalar.cmpi .slt v35 c0_i32_37
  let v65 : BitVec 32 := Scalar.extui v64
  let v66 : BitVec 32 := Scalar.subi v63 v65
  let c128_i32_35 : BitVec 32 := 128#32
  let c0_i32_38 : BitVec 32 := 0#32
  let v67 : BitVec 1 := Scalar.cmpi .sgt c128_i32_35 c0_i32_38
  let v68 : BitVec 32 := Scalar.extui v67
  let c0_i32_39 : BitVec 32 := 0#32
  let v69 : BitVec 1 := Scalar.cmpi .slt c128_i32_35 c0_i32_39
  let v70 : BitVec 32 := Scalar.extui v69
  let v71 : BitVec 32 := Scalar.subi v68 v70
  let v72 : BitVec 1 := Scalar.cmpi .ne v66 v71
  let v73 : BitVec 32 := Scalar.remsi v35 c128_i32_35
  let c0_i32_40 : BitVec 32 := 0#32
  let v74 : BitVec 1 := Scalar.cmpi .ne v73 c0_i32_40
  let v75 : BitVec 1 := Scalar.andi v72 v74
  let v61 : BitVec 32 := Scalar.divsi v35 c128_i32_35
  let c1_i32_41 : BitVec 32 := 1#32
  let v76 : BitVec 32 := Scalar.subi v61 c1_i32_41
  let v77 : BitVec 32 := Scalar.select v75 v76 v61
  let c128_i32_42 : BitVec 32 := 128#32
  let v78 : BitVec 32 := Scalar.muli v77 c128_i32_42
  let v79 : BitVec 32 := v78
  let v80 : Index := Scalar.indexCast v79
  ![0, v80.toNat]
def k0_mult4 (v38 : BitVec 32) : BitVec 32 :=
  let c65535_i32 : BitVec 32 := 65535#32
  let v39 : BitVec 32 := Scalar.andi v38 c65535_i32
  let c1024_i32_44 : BitVec 32 := 1024#32
  let v83 : BitVec 32 := Scalar.remsi v39 c1024_i32_44
  let c0_i32_46 : BitVec 32 := 0#32
  let v85 : BitVec 1 := Scalar.cmpi .sgt v83 c0_i32_46
  let v86 : BitVec 32 := Scalar.extui v85
  let c0_i32_47 : BitVec 32 := 0#32
  let v87 : BitVec 1 := Scalar.cmpi .slt v83 c0_i32_47
  let v88 : BitVec 32 := Scalar.extui v87
  let v89 : BitVec 32 := Scalar.subi v86 v88
  let c128_i32_45 : BitVec 32 := 128#32
  let c0_i32_48 : BitVec 32 := 0#32
  let v90 : BitVec 1 := Scalar.cmpi .sgt c128_i32_45 c0_i32_48
  let v91 : BitVec 32 := Scalar.extui v90
  let c0_i32_49 : BitVec 32 := 0#32
  let v92 : BitVec 1 := Scalar.cmpi .slt c128_i32_45 c0_i32_49
  let v93 : BitVec 32 := Scalar.extui v92
  let v94 : BitVec 32 := Scalar.subi v91 v93
  let v95 : BitVec 1 := Scalar.cmpi .ne v89 v94
  let v96 : BitVec 32 := Scalar.remsi v83 c128_i32_45
  let c0_i32_50 : BitVec 32 := 0#32
  let v97 : BitVec 1 := Scalar.cmpi .ne v96 c0_i32_50
  let v98 : BitVec 1 := Scalar.andi v95 v97
  let v84 : BitVec 32 := Scalar.divsi v83 c128_i32_45
  let c1_i32_51 : BitVec 32 := 1#32
  let v99 : BitVec 32 := Scalar.subi v84 c1_i32_51
  let v100 : BitVec 32 := Scalar.select v98 v99 v84
  let c128_i32_52 : BitVec 32 := 128#32
  let v101 : BitVec 32 := Scalar.muli v100 c128_i32_52
  v101
def k0_off19 (v38 : BitVec 32) : Fin 2 → Nat :=
  let c0_53 : Index := 0#32
  let c65535_i32 : BitVec 32 := 65535#32
  let v39 : BitVec 32 := Scalar.andi v38 c65535_i32
  let c1024_i32_44 : BitVec 32 := 1024#32
  let v83 : BitVec 32 := Scalar.remsi v39 c1024_i32_44
  let c0_i32_46 : BitVec 32 := 0#32
  let v85 : BitVec 1 := Scalar.cmpi .sgt v83 c0_i32_46
  let v86 : BitVec 32 := Scalar.extui v85
  let c0_i32_47 : BitVec 32 := 0#32
  let v87 : BitVec 1 := Scalar.cmpi .slt v83 c0_i32_47
  let v88 : BitVec 32 := Scalar.extui v87
  let v89 : BitVec 32 := Scalar.subi v86 v88
  let c128_i32_45 : BitVec 32 := 128#32
  let c0_i32_48 : BitVec 32 := 0#32
  let v90 : BitVec 1 := Scalar.cmpi .sgt c128_i32_45 c0_i32_48
  let v91 : BitVec 32 := Scalar.extui v90
  let c0_i32_49 : BitVec 32 := 0#32
  let v92 : BitVec 1 := Scalar.cmpi .slt c128_i32_45 c0_i32_49
  let v93 : BitVec 32 := Scalar.extui v92
  let v94 : BitVec 32 := Scalar.subi v91 v93
  let v95 : BitVec 1 := Scalar.cmpi .ne v89 v94
  let v96 : BitVec 32 := Scalar.remsi v83 c128_i32_45
  let c0_i32_50 : BitVec 32 := 0#32
  let v97 : BitVec 1 := Scalar.cmpi .ne v96 c0_i32_50
  let v98 : BitVec 1 := Scalar.andi v95 v97
  let v84 : BitVec 32 := Scalar.divsi v83 c128_i32_45
  let c1_i32_51 : BitVec 32 := 1#32
  let v99 : BitVec 32 := Scalar.subi v84 c1_i32_51
  let v100 : BitVec 32 := Scalar.select v98 v99 v84
  let c128_i32_52 : BitVec 32 := 128#32
  let v101 : BitVec 32 := Scalar.muli v100 c128_i32_52
  let v102 : BitVec 32 := v101
  let v103 : Index := Scalar.indexCast v102
  ![0, v103.toNat]

def k0_chk2 (i : grid0.Coords) (v35 : BitVec 32) (v38 : BitVec 32) : Prop :=
  (∀ (k0_h1 : k0_cond1 i v35 v38 = 1#1), 128 ∣ (k0_mult3 v35).toNat) ∧
  (∀ (k0_h1 : k0_cond1 i v35 v38 = 1#1), ∀ a, (k0_off18 v35) a + S128x128.size a ≤ S128x5120.size a) ∧
  (∀ (k0_h1 : k0_cond1 i v35 v38 = 1#1), 128 ∣ (k0_mult4 v38).toNat) ∧
  (∀ (k0_h1 : k0_cond1 i v35 v38 = 1#1), ∀ a, (k0_off19 v38) a + S128x128.size a ≤ S128x1024.size a)
theorem k0_mult3_dvd : ∀ (i : grid0.Coords) (v35 : BitVec 32) (v38 : BitVec 32) (k0_hw2 : k0_chk2 i v35 v38), ∀ (k0_h1 : k0_cond1 i v35 v38 = 1#1), 128 ∣ (k0_mult3 v35).toNat := fun i v35 v38 k0_hw2 k0_h1 => k0_hw2.1 k0_h1
theorem k0_off18_inb : ∀ (i : grid0.Coords) (v35 : BitVec 32) (v38 : BitVec 32) (k0_hw2 : k0_chk2 i v35 v38), ∀ (k0_h1 : k0_cond1 i v35 v38 = 1#1), ∀ a, (k0_off18 v35) a + S128x128.size a ≤ S128x5120.size a := fun i v35 v38 k0_hw2 k0_h1 => k0_hw2.2.1 k0_h1
theorem k0_mult4_dvd : ∀ (i : grid0.Coords) (v35 : BitVec 32) (v38 : BitVec 32) (k0_hw2 : k0_chk2 i v35 v38), ∀ (k0_h1 : k0_cond1 i v35 v38 = 1#1), 128 ∣ (k0_mult4 v38).toNat := fun i v35 v38 k0_hw2 k0_h1 => k0_hw2.2.2.1 k0_h1
theorem k0_off19_inb : ∀ (i : grid0.Coords) (v35 : BitVec 32) (v38 : BitVec 32) (k0_hw2 : k0_chk2 i v35 v38), ∀ (k0_h1 : k0_cond1 i v35 v38 = 1#1), ∀ a, (k0_off19 v38) a + S128x128.size a ≤ S128x1024.size a := fun i v35 v38 k0_hw2 k0_h1 => k0_hw2.2.2.2 k0_h1

@[reducible] def k0_t5_loop (v12 : BitVec 32) : Scf.Loop 32 :=
  let c0_i32_20 : BitVec 32 := 0#32
  let c0_i32_14 : BitVec 32 := 0#32
  let v13 : BitVec 32 := Scalar.subi v12 c0_i32_14
  let c1_i32_15 : BitVec 32 := 1#32
  let c1_i32_16 : BitVec 32 := 1#32
  let v14 : BitVec 32 := Scalar.subi c1_i32_15 c1_i32_16
  let v15 : BitVec 32 := Scalar.addi v13 v14
  let c1_i32_17 : BitVec 32 := 1#32
  let v16 : BitVec 32 := Scalar.divsi v15 c1_i32_17
  let v17 : BitVec 32 := Scalar.subi v16 c0_i32_20
  let c1_i32_21 : BitVec 32 := 1#32
  let v19 : BitVec 32 := Scalar.divsi v17 c1_i32_21
  let v20 : BitVec 32 := Scalar.muli v19 c1_i32_21
  let v21 : BitVec 32 := Scalar.addi c0_i32_20 v20
  let v18 : BitVec 32 := Scalar.addi c0_i32_20 v17
  let c1_i32_23 : BitVec 32 := 1#32
  ⟨v21, v18, c1_i32_23⟩
def k0_mult5 (k0_t2 : Fin k0_t2_loop.trips) (v12 : BitVec 32) (k0_t5 : Fin (k0_t5_loop v12).trips) : BitVec 32 :=
  let c0_i32_12 : BitVec 32 := 0#32
  let c0_i32_4 : BitVec 32 := 0#32
  let c1_i32_5 : BitVec 32 := 1#32
  let arg12 : BitVec 32 := Scf.iv c0_i32_4 c1_i32_5 k0_t2
  let c1_i32_11 : BitVec 32 := 1#32
  let v9 : BitVec 32 := Scalar.muli arg12 c1_i32_11
  let v10 : BitVec 32 := Scalar.addi c0_i32_12 v9
  let c144_i32 : BitVec 32 := 144#32
  let v24 : BitVec 32 := Scalar.muli v10 c144_i32
  let c0_i32_19 : BitVec 32 := 0#32
  let c0_i32_20 : BitVec 32 := 0#32
  let c0_i32_14 : BitVec 32 := 0#32
  let v13 : BitVec 32 := Scalar.subi v12 c0_i32_14
  let c1_i32_15 : BitVec 32 := 1#32
  let c1_i32_16 : BitVec 32 := 1#32
  let v14 : BitVec 32 := Scalar.subi c1_i32_15 c1_i32_16
  let v15 : BitVec 32 := Scalar.addi v13 v14
  let c1_i32_17 : BitVec 32 := 1#32
  let v16 : BitVec 32 := Scalar.divsi v15 c1_i32_17
  let v17 : BitVec 32 := Scalar.subi v16 c0_i32_20
  let c1_i32_21 : BitVec 32 := 1#32
  let v19 : BitVec 32 := Scalar.divsi v17 c1_i32_21
  let v20 : BitVec 32 := Scalar.muli v19 c1_i32_21
  let v21 : BitVec 32 := Scalar.addi c0_i32_20 v20
  let c1_i32_23 : BitVec 32 := 1#32
  let arg13 : BitVec 32 := Scf.iv v21 c1_i32_23 k0_t5
  let c1_i32_18 : BitVec 32 := 1#32
  let v22 : BitVec 32 := Scalar.muli arg13 c1_i32_18
  let v23 : BitVec 32 := Scalar.addi c0_i32_19 v22
  let v25 : BitVec 32 := Scalar.addi v24 v23
  let c2_i32 : BitVec 32 := 2#32
  let v26 : BitVec 32 := Scalar.muli v25 c2_i32
  let c1024_i32 : BitVec 32 := 1024#32
  let v27 : BitVec 32 := Scalar.muli v26 c1024_i32
  v27
def k0_off20 (k0_t2 : Fin k0_t2_loop.trips) (v12 : BitVec 32) (k0_t5 : Fin (k0_t5_loop v12).trips) : Fin 1 → Nat :=
  let c0_i32_12 : BitVec 32 := 0#32
  let c0_i32_4 : BitVec 32 := 0#32
  let c1_i32_5 : BitVec 32 := 1#32
  let arg12 : BitVec 32 := Scf.iv c0_i32_4 c1_i32_5 k0_t2
  let c1_i32_11 : BitVec 32 := 1#32
  let v9 : BitVec 32 := Scalar.muli arg12 c1_i32_11
  let v10 : BitVec 32 := Scalar.addi c0_i32_12 v9
  let c144_i32 : BitVec 32 := 144#32
  let v24 : BitVec 32 := Scalar.muli v10 c144_i32
  let c0_i32_19 : BitVec 32 := 0#32
  let c0_i32_20 : BitVec 32 := 0#32
  let c0_i32_14 : BitVec 32 := 0#32
  let v13 : BitVec 32 := Scalar.subi v12 c0_i32_14
  let c1_i32_15 : BitVec 32 := 1#32
  let c1_i32_16 : BitVec 32 := 1#32
  let v14 : BitVec 32 := Scalar.subi c1_i32_15 c1_i32_16
  let v15 : BitVec 32 := Scalar.addi v13 v14
  let c1_i32_17 : BitVec 32 := 1#32
  let v16 : BitVec 32 := Scalar.divsi v15 c1_i32_17
  let v17 : BitVec 32 := Scalar.subi v16 c0_i32_20
  let c1_i32_21 : BitVec 32 := 1#32
  let v19 : BitVec 32 := Scalar.divsi v17 c1_i32_21
  let v20 : BitVec 32 := Scalar.muli v19 c1_i32_21
  let v21 : BitVec 32 := Scalar.addi c0_i32_20 v20
  let c1_i32_23 : BitVec 32 := 1#32
  let arg13 : BitVec 32 := Scf.iv v21 c1_i32_23 k0_t5
  let c1_i32_18 : BitVec 32 := 1#32
  let v22 : BitVec 32 := Scalar.muli arg13 c1_i32_18
  let v23 : BitVec 32 := Scalar.addi c0_i32_19 v22
  let v25 : BitVec 32 := Scalar.addi v24 v23
  let c2_i32 : BitVec 32 := 2#32
  let v26 : BitVec 32 := Scalar.muli v25 c2_i32
  let c1024_i32 : BitVec 32 := 1024#32
  let v27 : BitVec 32 := Scalar.muli v26 c1024_i32
  let v28 : BitVec 32 := v27
  ![v28.toNat]

def k0_chk1 (k0_t2 : Fin k0_t2_loop.trips) (v12 : BitVec 32) : Prop :=
  ((k0_t3_loop v12).OK) ∧
  (∀ k0_t3 : Fin (k0_t3_loop v12).trips, 2048 ∣ (k0_mult2 k0_t2 v12 k0_t3).toNat) ∧
  (∀ k0_t3 : Fin (k0_t3_loop v12).trips, ∀ a, (k0_off15 k0_t2 v12 k0_t3) a + S2048.size a ≤ S9437184.size a) ∧
  ((k0_t5_loop v12).OK) ∧
  (∀ k0_t5 : Fin (k0_t5_loop v12).trips, 2048 ∣ (k0_mult5 k0_t2 v12 k0_t5).toNat) ∧
  (∀ k0_t5 : Fin (k0_t5_loop v12).trips, ∀ a, (k0_off20 k0_t2 v12 k0_t5) a + S2048.size a ≤ S9437184.size a)
theorem k0_t3_ok : ∀ (k0_t2 : Fin k0_t2_loop.trips) (v12 : BitVec 32) (k0_hw1 : k0_chk1 k0_t2 v12), (k0_t3_loop v12).OK := fun k0_t2 v12 k0_hw1 => k0_hw1.1
theorem k0_mult2_dvd : ∀ (k0_t2 : Fin k0_t2_loop.trips) (v12 : BitVec 32) (k0_hw1 : k0_chk1 k0_t2 v12) (k0_t3 : Fin (k0_t3_loop v12).trips), 2048 ∣ (k0_mult2 k0_t2 v12 k0_t3).toNat := fun k0_t2 v12 k0_hw1 k0_t3 => k0_hw1.2.1 k0_t3
theorem k0_off15_inb : ∀ (k0_t2 : Fin k0_t2_loop.trips) (v12 : BitVec 32) (k0_hw1 : k0_chk1 k0_t2 v12) (k0_t3 : Fin (k0_t3_loop v12).trips), ∀ a, (k0_off15 k0_t2 v12 k0_t3) a + S2048.size a ≤ S9437184.size a := fun k0_t2 v12 k0_hw1 k0_t3 => k0_hw1.2.2.1 k0_t3
theorem k0_t5_ok : ∀ (k0_t2 : Fin k0_t2_loop.trips) (v12 : BitVec 32) (k0_hw1 : k0_chk1 k0_t2 v12), (k0_t5_loop v12).OK := fun k0_t2 v12 k0_hw1 => k0_hw1.2.2.2.1
theorem k0_mult5_dvd : ∀ (k0_t2 : Fin k0_t2_loop.trips) (v12 : BitVec 32) (k0_hw1 : k0_chk1 k0_t2 v12) (k0_t5 : Fin (k0_t5_loop v12).trips), 2048 ∣ (k0_mult5 k0_t2 v12 k0_t5).toNat := fun k0_t2 v12 k0_hw1 k0_t5 => k0_hw1.2.2.2.2.1 k0_t5
theorem k0_off20_inb : ∀ (k0_t2 : Fin k0_t2_loop.trips) (v12 : BitVec 32) (k0_hw1 : k0_chk1 k0_t2 v12) (k0_t5 : Fin (k0_t5_loop v12).trips), ∀ a, (k0_off20 k0_t2 v12 k0_t5) a + S2048.size a ≤ S9437184.size a := fun k0_t2 v12 k0_hw1 k0_t5 => k0_hw1.2.2.2.2.2 k0_t5

@[reducible] def k0_t6_loop : Scf.Loop 32 :=
  let c0_i32_24 : BitVec 32 := 0#32
  let c1024_i32_25 : BitVec 32 := 1024#32
  let v31 : BitVec 32 := Scalar.addi c0_i32_24 c1024_i32_25
  let c1_i32_26 : BitVec 32 := 1#32
  ⟨c0_i32_24, v31, c1_i32_26⟩
def k0_off21 (k0_t6 : Fin k0_t6_loop.trips) : Fin 1 → Nat :=
  let c0_i32_29 : BitVec 32 := 0#32
  let c0_i32_24 : BitVec 32 := 0#32
  let c1_i32_26 : BitVec 32 := 1#32
  let arg14 : BitVec 32 := Scf.iv c0_i32_24 c1_i32_26 k0_t6
  let c1_i32_28 : BitVec 32 := 1#32
  let v32 : BitVec 32 := Scalar.muli arg14 c1_i32_28
  let v33 : BitVec 32 := Scalar.addi c0_i32_29 v32
  let v34 : Index := Scalar.indexCast v33
  ![v34.toNat]
def k0_off22 (k0_t6 : Fin k0_t6_loop.trips) : Fin 1 → Nat :=
  let c1024_i32_30 : BitVec 32 := 1024#32
  let c0_i32_29 : BitVec 32 := 0#32
  let c0_i32_24 : BitVec 32 := 0#32
  let c1_i32_26 : BitVec 32 := 1#32
  let arg14 : BitVec 32 := Scf.iv c0_i32_24 c1_i32_26 k0_t6
  let c1_i32_28 : BitVec 32 := 1#32
  let v32 : BitVec 32 := Scalar.muli arg14 c1_i32_28
  let v33 : BitVec 32 := Scalar.addi c0_i32_29 v32
  let v36 : BitVec 32 := Scalar.addi c1024_i32_30 v33
  let v37 : Index := Scalar.indexCast v36
  ![v37.toNat]
def k0_mult6 (v35 : BitVec 32) : BitVec 32 :=
  let c0_i32_36 : BitVec 32 := 0#32
  let v62 : BitVec 1 := Scalar.cmpi .sgt v35 c0_i32_36
  let v63 : BitVec 32 := Scalar.extui v62
  let c0_i32_37 : BitVec 32 := 0#32
  let v64 : BitVec 1 := Scalar.cmpi .slt v35 c0_i32_37
  let v65 : BitVec 32 := Scalar.extui v64
  let v66 : BitVec 32 := Scalar.subi v63 v65
  let c128_i32_35 : BitVec 32 := 128#32
  let c0_i32_38 : BitVec 32 := 0#32
  let v67 : BitVec 1 := Scalar.cmpi .sgt c128_i32_35 c0_i32_38
  let v68 : BitVec 32 := Scalar.extui v67
  let c0_i32_39 : BitVec 32 := 0#32
  let v69 : BitVec 1 := Scalar.cmpi .slt c128_i32_35 c0_i32_39
  let v70 : BitVec 32 := Scalar.extui v69
  let v71 : BitVec 32 := Scalar.subi v68 v70
  let v72 : BitVec 1 := Scalar.cmpi .ne v66 v71
  let v73 : BitVec 32 := Scalar.remsi v35 c128_i32_35
  let c0_i32_40 : BitVec 32 := 0#32
  let v74 : BitVec 1 := Scalar.cmpi .ne v73 c0_i32_40
  let v75 : BitVec 1 := Scalar.andi v72 v74
  let v61 : BitVec 32 := Scalar.divsi v35 c128_i32_35
  let c1_i32_41 : BitVec 32 := 1#32
  let v76 : BitVec 32 := Scalar.subi v61 c1_i32_41
  let v77 : BitVec 32 := Scalar.select v75 v76 v61
  let c128_i32_42 : BitVec 32 := 128#32
  let v78 : BitVec 32 := Scalar.muli v77 c128_i32_42
  v78
def k0_cond2 (i : grid0.Coords) (v35 : BitVec 32) (v38 : BitVec 32) : BitVec 1 :=
  let c0_i32_31 : BitVec 32 := 0#32
  let v40 : BitVec 1 := Scalar.cmpi .sge v35 c0_i32_31
  let c65535_i32 : BitVec 32 := 65535#32
  let v39 : BitVec 32 := Scalar.andi v38 c65535_i32
  let c10_i32_32 : BitVec 32 := 10#32
  let v41 : BitVec 32 := Scalar.shrui v39 c10_i32_32
  let arg0 : BitVec 32 := BitVec.ofNat 32 (i 0).val
  let v42 : BitVec 1 := Scalar.cmpi .eq v41 arg0
  let v43 : BitVec 1 := Scalar.andi v40 v42
  let v44 : BitVec 32 := Scalar.extui v43
  let c0_i32_33 : BitVec 32 := 0#32
  let v45 : BitVec 1 := Scalar.cmpi .ne v44 c0_i32_33
  v45

def k0_off23 (v35 : BitVec 32) : Fin 2 → Nat :=
  let c0_43 : Index := 0#32
  let c0_i32_36 : BitVec 32 := 0#32
  let v62 : BitVec 1 := Scalar.cmpi .sgt v35 c0_i32_36
  let v63 : BitVec 32 := Scalar.extui v62
  let c0_i32_37 : BitVec 32 := 0#32
  let v64 : BitVec 1 := Scalar.cmpi .slt v35 c0_i32_37
  let v65 : BitVec 32 := Scalar.extui v64
  let v66 : BitVec 32 := Scalar.subi v63 v65
  let c128_i32_35 : BitVec 32 := 128#32
  let c0_i32_38 : BitVec 32 := 0#32
  let v67 : BitVec 1 := Scalar.cmpi .sgt c128_i32_35 c0_i32_38
  let v68 : BitVec 32 := Scalar.extui v67
  let c0_i32_39 : BitVec 32 := 0#32
  let v69 : BitVec 1 := Scalar.cmpi .slt c128_i32_35 c0_i32_39
  let v70 : BitVec 32 := Scalar.extui v69
  let v71 : BitVec 32 := Scalar.subi v68 v70
  let v72 : BitVec 1 := Scalar.cmpi .ne v66 v71
  let v73 : BitVec 32 := Scalar.remsi v35 c128_i32_35
  let c0_i32_40 : BitVec 32 := 0#32
  let v74 : BitVec 1 := Scalar.cmpi .ne v73 c0_i32_40
  let v75 : BitVec 1 := Scalar.andi v72 v74
  let v61 : BitVec 32 := Scalar.divsi v35 c128_i32_35
  let c1_i32_41 : BitVec 32 := 1#32
  let v76 : BitVec 32 := Scalar.subi v61 c1_i32_41
  let v77 : BitVec 32 := Scalar.select v75 v76 v61
  let c128_i32_42 : BitVec 32 := 128#32
  let v78 : BitVec 32 := Scalar.muli v77 c128_i32_42
  let v79 : BitVec 32 := v78
  let v80 : Index := Scalar.indexCast v79
  ![0, v80.toNat]
def k0_mult7 (v38 : BitVec 32) : BitVec 32 :=
  let c65535_i32 : BitVec 32 := 65535#32
  let v39 : BitVec 32 := Scalar.andi v38 c65535_i32
  let c1024_i32_44 : BitVec 32 := 1024#32
  let v83 : BitVec 32 := Scalar.remsi v39 c1024_i32_44
  let c0_i32_46 : BitVec 32 := 0#32
  let v85 : BitVec 1 := Scalar.cmpi .sgt v83 c0_i32_46
  let v86 : BitVec 32 := Scalar.extui v85
  let c0_i32_47 : BitVec 32 := 0#32
  let v87 : BitVec 1 := Scalar.cmpi .slt v83 c0_i32_47
  let v88 : BitVec 32 := Scalar.extui v87
  let v89 : BitVec 32 := Scalar.subi v86 v88
  let c128_i32_45 : BitVec 32 := 128#32
  let c0_i32_48 : BitVec 32 := 0#32
  let v90 : BitVec 1 := Scalar.cmpi .sgt c128_i32_45 c0_i32_48
  let v91 : BitVec 32 := Scalar.extui v90
  let c0_i32_49 : BitVec 32 := 0#32
  let v92 : BitVec 1 := Scalar.cmpi .slt c128_i32_45 c0_i32_49
  let v93 : BitVec 32 := Scalar.extui v92
  let v94 : BitVec 32 := Scalar.subi v91 v93
  let v95 : BitVec 1 := Scalar.cmpi .ne v89 v94
  let v96 : BitVec 32 := Scalar.remsi v83 c128_i32_45
  let c0_i32_50 : BitVec 32 := 0#32
  let v97 : BitVec 1 := Scalar.cmpi .ne v96 c0_i32_50
  let v98 : BitVec 1 := Scalar.andi v95 v97
  let v84 : BitVec 32 := Scalar.divsi v83 c128_i32_45
  let c1_i32_51 : BitVec 32 := 1#32
  let v99 : BitVec 32 := Scalar.subi v84 c1_i32_51
  let v100 : BitVec 32 := Scalar.select v98 v99 v84
  let c128_i32_52 : BitVec 32 := 128#32
  let v101 : BitVec 32 := Scalar.muli v100 c128_i32_52
  v101
def k0_off24 (v38 : BitVec 32) : Fin 2 → Nat :=
  let c0_53 : Index := 0#32
  let c65535_i32 : BitVec 32 := 65535#32
  let v39 : BitVec 32 := Scalar.andi v38 c65535_i32
  let c1024_i32_44 : BitVec 32 := 1024#32
  let v83 : BitVec 32 := Scalar.remsi v39 c1024_i32_44
  let c0_i32_46 : BitVec 32 := 0#32
  let v85 : BitVec 1 := Scalar.cmpi .sgt v83 c0_i32_46
  let v86 : BitVec 32 := Scalar.extui v85
  let c0_i32_47 : BitVec 32 := 0#32
  let v87 : BitVec 1 := Scalar.cmpi .slt v83 c0_i32_47
  let v88 : BitVec 32 := Scalar.extui v87
  let v89 : BitVec 32 := Scalar.subi v86 v88
  let c128_i32_45 : BitVec 32 := 128#32
  let c0_i32_48 : BitVec 32 := 0#32
  let v90 : BitVec 1 := Scalar.cmpi .sgt c128_i32_45 c0_i32_48
  let v91 : BitVec 32 := Scalar.extui v90
  let c0_i32_49 : BitVec 32 := 0#32
  let v92 : BitVec 1 := Scalar.cmpi .slt c128_i32_45 c0_i32_49
  let v93 : BitVec 32 := Scalar.extui v92
  let v94 : BitVec 32 := Scalar.subi v91 v93
  let v95 : BitVec 1 := Scalar.cmpi .ne v89 v94
  let v96 : BitVec 32 := Scalar.remsi v83 c128_i32_45
  let c0_i32_50 : BitVec 32 := 0#32
  let v97 : BitVec 1 := Scalar.cmpi .ne v96 c0_i32_50
  let v98 : BitVec 1 := Scalar.andi v95 v97
  let v84 : BitVec 32 := Scalar.divsi v83 c128_i32_45
  let c1_i32_51 : BitVec 32 := 1#32
  let v99 : BitVec 32 := Scalar.subi v84 c1_i32_51
  let v100 : BitVec 32 := Scalar.select v98 v99 v84
  let c128_i32_52 : BitVec 32 := 128#32
  let v101 : BitVec 32 := Scalar.muli v100 c128_i32_52
  let v102 : BitVec 32 := v101
  let v103 : Index := Scalar.indexCast v102
  ![0, v103.toNat]

def k0_chk3 (i : grid0.Coords) (v35 : BitVec 32) (v38 : BitVec 32) : Prop :=
  (∀ (k0_h2 : k0_cond2 i v35 v38 = 1#1), 128 ∣ (k0_mult6 v35).toNat) ∧
  (∀ (k0_h2 : k0_cond2 i v35 v38 = 1#1), ∀ a, (k0_off23 v35) a + S128x128.size a ≤ S128x5120.size a) ∧
  (∀ (k0_h2 : k0_cond2 i v35 v38 = 1#1), 128 ∣ (k0_mult7 v38).toNat) ∧
  (∀ (k0_h2 : k0_cond2 i v35 v38 = 1#1), ∀ a, (k0_off24 v38) a + S128x128.size a ≤ S128x1024.size a)
theorem k0_mult6_dvd : ∀ (i : grid0.Coords) (v35 : BitVec 32) (v38 : BitVec 32) (k0_hw3 : k0_chk3 i v35 v38), ∀ (k0_h2 : k0_cond2 i v35 v38 = 1#1), 128 ∣ (k0_mult6 v35).toNat := fun i v35 v38 k0_hw3 k0_h2 => k0_hw3.1 k0_h2
theorem k0_off23_inb : ∀ (i : grid0.Coords) (v35 : BitVec 32) (v38 : BitVec 32) (k0_hw3 : k0_chk3 i v35 v38), ∀ (k0_h2 : k0_cond2 i v35 v38 = 1#1), ∀ a, (k0_off23 v35) a + S128x128.size a ≤ S128x5120.size a := fun i v35 v38 k0_hw3 k0_h2 => k0_hw3.2.1 k0_h2
theorem k0_mult7_dvd : ∀ (i : grid0.Coords) (v35 : BitVec 32) (v38 : BitVec 32) (k0_hw3 : k0_chk3 i v35 v38), ∀ (k0_h2 : k0_cond2 i v35 v38 = 1#1), 128 ∣ (k0_mult7 v38).toNat := fun i v35 v38 k0_hw3 k0_h2 => k0_hw3.2.2.1 k0_h2
theorem k0_off24_inb : ∀ (i : grid0.Coords) (v35 : BitVec 32) (v38 : BitVec 32) (k0_hw3 : k0_chk3 i v35 v38), ∀ (k0_h2 : k0_cond2 i v35 v38 = 1#1), ∀ a, (k0_off24 v38) a + S128x128.size a ≤ S128x1024.size a := fun i v35 v38 k0_hw3 k0_h2 => k0_hw3.2.2.2 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S80x1x8x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SparseReferenceIdeal.lean ====
abbrev S1x128x5120 : Shape := ⟨3, ![1, 128, 5120]⟩
abbrev S80x27x8x8x128 : Shape := ⟨5, ![80, 27, 8, 8, 128]⟩
abbrev S80x27x4x8x128 : Shape := ⟨5, ![80, 27, 4, 8, 128]⟩
abbrev S9437184 : Shape := ⟨1, ![9437184]⟩
abbrev S32x128 : Shape := ⟨2, ![32, 128]⟩
abbrev S128x27648 : Shape := ⟨2, ![128, 27648]⟩
abbrev S128x5120 : Shape := ⟨2, ![128, 5120]⟩
abbrev S4 : Shape := ⟨1, ![4]⟩
abbrev S_ : Shape := ⟨0, ![]⟩
abbrev S4x1x1 : Shape := ⟨3, ![4, 1, 1]⟩
abbrev S80x27x8x1x8x128 : Shape := ⟨6, ![80, 27, 8, 1, 8, 128]⟩
abbrev S80x27x8x4x8x128 : Shape := ⟨6, ![80, 27, 8, 4, 8, 128]⟩
abbrev S80x27x1x4x8x128 : Shape := ⟨6, ![80, 27, 1, 4, 8, 128]⟩
abbrev S80x27x8x4x8x128x1 : Shape := ⟨7, ![80, 27, 8, 4, 8, 128, 1]⟩
abbrev S80x27x8x4x8x128x2 : Shape := ⟨7, ![80, 27, 8, 4, 8, 128, 2]⟩
abbrev S80x27x8x4x2x4x128x2 : Shape := ⟨8, ![80, 27, 8, 4, 2, 4, 128, 2]⟩
abbrev S80x2x2x4x4x27x8x128 : Shape := ⟨8, ![80, 2, 2, 4, 4, 27, 8, 128]⟩
abbrev S5120x27648 : Shape := ⟨2, ![5120, 27648]⟩
abbrev S32x144x2x1024 : Shape := ⟨4, ![32, 144, 2, 1024]⟩
abbrev S32x144x1x1024 : Shape := ⟨4, ![32, 144, 1, 1024]⟩
abbrev S32x144x1024 : Shape := ⟨3, ![32, 144, 1024]⟩
abbrev S32x1 : Shape := ⟨2, ![32, 1]⟩
abbrev S32x1x1 : Shape := ⟨3, ![32, 1, 1]⟩
abbrev S4718592 : Shape := ⟨1, ![4718592]⟩
abbrev S4718592x1 : Shape := ⟨2, ![4718592, 1]⟩
abbrev S128x4718592 : Shape := ⟨2, ![128, 4718592]⟩
abbrev S1x4718592 : Shape := ⟨2, ![1, 4718592]⟩

abbrev nBuf : Space → Nat
  | .hbm => 85
  | .vmem => 0
  | .smem => 0
  | _ => 0

abbrev bufTy : (tb : Table) → Fin (tcTables nBuf tb) → BufTy
  | .hbm, ⟨0, _⟩ => ⟨S1x128x5120, .bf16⟩
  | .hbm, ⟨1, _⟩ => ⟨S80x27x8x8x128, .i32⟩
  | .hbm, ⟨2, _⟩ => ⟨S80x27x4x8x128, .i32⟩
  | .hbm, ⟨3, _⟩ => ⟨S9437184, .i32⟩
  | .hbm, ⟨4, _⟩ => ⟨S32x128, .i32⟩
  | .hbm, ⟨5, _⟩ => ⟨S128x27648, .f32⟩
  | .hbm, ⟨6, _⟩ => ⟨S128x5120, .bf16⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4x1x1, .i32⟩
  | .hbm, ⟨12, _⟩ => ⟨S80x27x8x1x8x128, .i32⟩
  | .hbm, ⟨13, _⟩ => ⟨S80x27x8x4x8x128, .i32⟩
  | .hbm, ⟨14, _⟩ => ⟨S80x27x8x4x8x128, .i32⟩
  | .hbm, ⟨15, _⟩ => ⟨S80x27x8x4x8x128, .i32⟩
  | .hbm, ⟨16, _⟩ => ⟨S_, .i32⟩
  | .hbm, ⟨17, _⟩ => ⟨S80x27x8x4x8x128, .i32⟩
  | .hbm, ⟨18, _⟩ => ⟨S80x27x8x4x8x128, .i32⟩
  | .hbm, ⟨19, _⟩ => ⟨S80x27x1x4x8x128, .i32⟩
  | .hbm, ⟨20, _⟩ => ⟨S80x27x8x4x8x128, .i32⟩
  | .hbm, ⟨21, _⟩ => ⟨S_, .i32⟩
  | .hbm, ⟨22, _⟩ => ⟨S80x27x8x4x8x128, .i32⟩
  | .hbm, ⟨23, _⟩ => ⟨S80x27x8x4x8x128, .i1⟩
  | .hbm, ⟨24, _⟩ => ⟨S_, .i32⟩
  | .hbm, ⟨25, _⟩ => ⟨S80x27x8x4x8x128, .i32⟩
  | .hbm, ⟨26, _⟩ => ⟨S80x27x8x4x8x128, .i32⟩
  | .hbm, ⟨27, _⟩ => ⟨S80x27x8x4x8x128, .i32⟩
  | .hbm, ⟨28, _⟩ => ⟨S80x27x8x4x8x128x1, .i32⟩
  | .hbm, ⟨29, _⟩ => ⟨S80x27x8x4x8x128, .i32⟩
  | .hbm, ⟨30, _⟩ => ⟨S80x27x8x4x8x128x2, .bf16⟩
  | .hbm, ⟨31, _⟩ => ⟨S80x27x8x4x2x4x128x2, .bf16⟩
  | .hbm, ⟨32, _⟩ => ⟨S80x2x2x4x4x27x8x128, .bf16⟩
  | .hbm, ⟨33, _⟩ => ⟨S5120x27648, .bf16⟩
  | .hbm, ⟨34, _⟩ => ⟨S32x144x2x1024, .i32⟩
  | .hbm, ⟨35, _⟩ => ⟨S32x144x1x1024, .i32⟩
  | .hbm, ⟨36, _⟩ => ⟨S32x144x1024, .i32⟩
  | .hbm, ⟨37, _⟩ => ⟨S32x144x1x1024, .i32⟩
  | .hbm, ⟨38, _⟩ => ⟨S32x144x1024, .i32⟩
  | .hbm, ⟨39, _⟩ => ⟨S32x144x1024, .i32⟩
  | .hbm, ⟨40, _⟩ => ⟨S32x1, .i32⟩
  | .hbm, ⟨41, _⟩ => ⟨S32x1x1, .i32⟩
  | .hbm, ⟨42, _⟩ => ⟨S32x144x1024, .i32⟩
  | .hbm, ⟨43, _⟩ => ⟨S32x144x1024, .i1⟩
  | .hbm, ⟨44, _⟩ => ⟨S_, .i32⟩
  | .hbm, ⟨45, _⟩ => ⟨S32x144x1024, .i32⟩
  | .hbm, ⟨46, _⟩ => ⟨S32x144x1024, .i32⟩
  | .hbm, ⟨47, _⟩ => ⟨S32x144x1024, .f32⟩
  | .hbm, ⟨48, _⟩ => ⟨S32x144x1024, .bf16⟩
  | .hbm, ⟨49, _⟩ => ⟨S32x144x1024, .f32⟩
  | .hbm, ⟨50, _⟩ => ⟨S_, .i32⟩
  | .hbm, ⟨51, _⟩ => ⟨S32x144x1024, .i32⟩
  | .hbm, ⟨52, _⟩ => ⟨S32x144x1024, .i1⟩
  | .hbm, ⟨53, _⟩ => ⟨S32x144x1024, .i1⟩
  | .hbm, ⟨54, _⟩ => ⟨S_, .f32⟩
  | .hbm, ⟨55, _⟩ => ⟨S_, .f32⟩
  | .hbm, ⟨56, _⟩ => ⟨S32x144x1024, .f32⟩
  | .hbm, ⟨57, _⟩ => ⟨S32x144x1024, .f32⟩
  | .hbm, ⟨58, _⟩ => ⟨S4718592, .f32⟩
  | .hbm, ⟨59, _⟩ => ⟨S4718592, .i32⟩
  | .hbm, ⟨60, _⟩ => ⟨S4718592x1, .i32⟩
  | .hbm, ⟨61, _⟩ => ⟨S128x4718592, .bf16⟩
  | .hbm, ⟨62, _⟩ => ⟨S128x4718592, .f32⟩
  | .hbm, ⟨63, _⟩ => ⟨S1x4718592, .f32⟩
  | .hbm, ⟨64, _⟩ => ⟨S128x4718592, .f32⟩
  | .hbm, ⟨65, _⟩ => ⟨S128x4718592, .f32⟩
  | .hbm, ⟨66, _⟩ => ⟨S_, .f32⟩
  | .hbm, ⟨67, _⟩ => ⟨S128x27648, .f32⟩
  | .hbm, ⟨68, _⟩ => ⟨S_, .i32⟩
  | .hbm, ⟨69, _⟩ => ⟨S32x144x1024, .i32⟩
  | .hbm, ⟨70, _⟩ => ⟨S32x144x1024, .i32⟩
  | .hbm, ⟨71, _⟩ => ⟨S4718592, .i32⟩
  | .hbm, ⟨72, _⟩ => ⟨S_, .i32⟩
  | .hbm, ⟨73, _⟩ => ⟨S4718592, .i32⟩
  | .hbm, ⟨74, _⟩ => ⟨S4718592, .i1⟩
  | .hbm, ⟨75, _⟩ => ⟨S_, .i32⟩
  | .hbm, ⟨76, _⟩ => ⟨S4718592, .i32⟩
  | .hbm, ⟨77, _⟩ => ⟨S4718592, .i32⟩
  | .hbm, ⟨78, _⟩ => ⟨S4718592, .i32⟩
  | .hbm, ⟨79, _⟩ => ⟨S4718592x1, .i32⟩
  | .hbm, ⟨80, _⟩ => ⟨S128x27648, .f32⟩
  | .hbm, ⟨81, _⟩ => ⟨S128x27648, .f32⟩
  | .hbm, ⟨82, _⟩ => ⟨S128x27648, .f32⟩
  | .hbm, ⟨83, _⟩ => ⟨S128x27648, .f32⟩
  | .hbm, ⟨84, _⟩ => ⟨S128x27648, .bf16⟩
  | _, _ => ⟨S1x128x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_c_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_c_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Pack.lean ====
abbrev S5120x864 : Shape := ⟨2, ![5120, 864]⟩
abbrev S864x5120 : Shape := ⟨2, ![864, 5120]⟩
abbrev S864x1024 : Shape := ⟨2, ![864, 1024]⟩

abbrev nBuf : Space → Nat
  | .hbm => 5
  | .vmem => 6
  | .smem => 0
  | _ => 0

abbrev bufTy : (tb : Table) → Fin (tcTables nBuf tb) → BufTy
  | .hbm, ⟨0, _⟩ => ⟨S5120x864, .i32⟩
  | .hbm, ⟨1, _⟩ => ⟨S5120x864, .bf16⟩
  | .hbm, ⟨2, _⟩ => ⟨S864x5120, .i32⟩
  | .hbm, ⟨3, _⟩ => ⟨S864x5120, .bf16⟩
  | .hbm, ⟨4, _⟩ => ⟨S864x5120, .i32⟩
  | .local _ .vmem, ⟨0, _⟩ => ⟨S864x1024, .i32⟩
  | .local _ .vmem, ⟨1, _⟩ => ⟨S864x1024, .i32⟩
  | .local _ .vmem, ⟨2, _⟩ => ⟨S864x1024, .bf16⟩
  | .local _ .vmem, ⟨3, _⟩ => ⟨S864x1024, .bf16⟩
  | .local _ .vmem, ⟨4, _⟩ => ⟨S864x1024, .i32⟩
  | .local _ .vmem, ⟨5, _⟩ => ⟨S864x1024, .i32⟩
  | _, _ => ⟨S5120x864, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S864x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S864x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S864x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackReference.lean ====
abbrev S5120x864 : Shape := ⟨2, ![5120, 864]⟩
abbrev S864x5120 : Shape := ⟨2, ![864, 5120]⟩

abbrev nBuf : Space → Nat
  | .hbm => 6
  | .vmem => 0
  | .smem => 0
  | _ => 0

abbrev bufTy : (tb : Table) → Fin (tcTables nBuf tb) → BufTy
  | .hbm, ⟨0, _⟩ => ⟨S5120x864, .i32⟩
  | .hbm, ⟨1, _⟩ => ⟨S5120x864, .bf16⟩
  | .hbm, ⟨2, _⟩ => ⟨S5120x864, .f32⟩
  | .hbm, ⟨3, _⟩ => ⟨S5120x864, .i32⟩
  | .hbm, ⟨4, _⟩ => ⟨S5120x864, .i32⟩
  | .hbm, ⟨5, _⟩ => ⟨S864x5120, .i32⟩
  | _, _ => ⟨S5120x864, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [BitOps F]
-- ==== Proof.Block.lean ====
/-
  What one grid point of the kernel computes, at any float instance: the contents of the output tile and of the
  low-rank scratch after the body, as plain functions of the point's input blocks (hand-written, untrusted).
-/
module

public import proofs.«01_k».proof.Defs
public import proofs.«01_k».proof.Proof.Gen.KernelIdeal.Frame
public import proofs.«01_k».proof.Proof.Gen.KernelIdeal.Value
public import Idealize.ShloMosaic.Lib.Pipeline.ValueKit
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- What trip `k` of the loop leaves in the output tile when it finds `acc` there: `acc` plus the product of 1024 columns
    of the activations with the 1024 weight rows decoded from 512 rows of packed codes and 8 rows of scales. -/
def tripVal (x0 : Vec F S128x5120 .bf16) (x1 : Vec F S2560x1024 .i8) (x2 : Vec F S40x1024 .f32) (k : Fin k0_t1_loop.trips)
    (acc : Vec F S128x1024 .f32) : Vec F S128x1024 .f32 :=
  k0_pay3
    (View.ld (Val := Elt F) x1 (Rect.unit (s := S2560x1024) (k0_off1 k) S512x1024.size (k0_off1_inb k)))
    (View.ld (Val := Elt F) x2 (Rect.unit (s := S40x1024) (k0_off2 k) S8x1024.size (k0_off2_inb k)))
    acc
    (View.ld (Val := Elt F) x0 (Rect.unit (s := S128x5120) (k0_off3 k) S128x1024.size (k0_off3_inb k)))

/-- The output tile after the first `n` trips, started from `init`. -/
def tripsVal (x0 : Vec F S128x5120 .bf16) (x1 : Vec F S2560x1024 .i8) (x2 : Vec F S40x1024 .f32) (init : Vec F S128x1024 .f32) :
    ℕ → Vec F S128x1024 .f32
  | 0 => init
  | n + 1 => if h : n < k0_t1_loop.trips then tripVal x0 x1 x2 ⟨n, h⟩ (tripsVal x0 x1 x2 init n) else tripsVal x0 x1 x2 init n

/-- A trip stores one piece, the whole tile, with the value `tripVal` of the tile as it finds it. -/
theorem trip_pieces (𝒱 : Variants) (c : Dev nD) (bd : Option 𝒱.V) (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole)
    (x0 : Vec F S128x5120 .bf16) (x1 : Vec F S2560x1024 .i8) (x2 : Vec F S40x1024 .f32)
    (k : Fin k0_t1_loop.trips) (f : BufTy.Contents (Elt F) arg6.view.ty) :
    tripL_k0_t1 (F := F) 𝒱 c bd i arg1 harg1 arg2 harg2 arg3 harg3 arg4 harg4 arg5 harg5 arg6 harg6 arg7 harg7
        (harg1.unread x0) (harg2.unread x1) (harg3.unread x2) k f
      = [⟨Rect.unit (s := S128x1024) ![0, 0] S128x1024.size inb_S128x1024_S128x1024_0_0,
          tripVal x0 x1 x2 k (arg6.view.read (Elt F) f)⟩] := by
  unfold tripL_k0_t1 trip_k0_t1
  dsimp only
  sl_unfold_words
  simp only [View.readAt_eq_ld, harg1.read_unread, harg2.read_unread, harg3.read_unread,
    View.ld_unit_zero (S := S128x1024) hz]
  rfl

/-- The stores before the loop and of its first `n` trips, read back: `tripsVal`. -/
theorem canon_trips (𝒱 : Variants) (c : Dev nD) (bd : Option 𝒱.V) (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole)
    (x0 : Vec F S128x5120 .bf16) (x1 : Vec F S2560x1024 .i8) (x2 : Vec F S40x1024 .f32) (init : Vec F S128x1024 .f32) :
    ∀ n, n ≤ k0_t1_loop.trips →
      View.canon (pb_k0_t1 (F := F) 𝒱 c bd i arg1 harg1 arg2 harg2 arg3 harg3 arg4 harg4 arg5 harg5 arg6 harg6 arg7 harg7
          (harg1.unread x0) (harg2.unread x1) (harg3.unread x2)
          (arg6.view.writes (Elt F) arg6.view.junk
            [⟨Rect.unit (s := S128x1024) ![0, 0] S128x1024.size inb_S128x1024_S128x1024_0_0, init⟩]) n
        ++ [(⟨Rect.unit (s := S128x1024) ![0, 0] S128x1024.size inb_S128x1024_S128x1024_0_0, init⟩ : View.Piece (Elt F) S128x1024 .f32)])
      = tripsVal x0 x1 x2 init n
  | 0, _ => View.canon_cons_unit_zero (S := S128x1024) hz _ _ _
  | n + 1, hn => by
    have ih := canon_trips 𝒱 c bd i arg1 harg1 arg2 harg2 arg3 harg3 arg4 harg4 arg5 harg5 arg6 harg6 arg7 harg7 x0 x1 x2 init n (Nat.le_of_succ_le hn)
    rw [pb_k0_t1_succ 𝒱 c bd i arg1 harg1 arg2 harg2 arg3 harg3 arg4 harg4 arg5 harg5 arg6 harg6 arg7 harg7
      (harg1.unread x0) (harg2.unread x1) (harg3.unread x2) _ ⟨n, hn⟩, trip_pieces]
    refine (View.canon_cons_unit_zero (S := S128x1024) hz _ _ _).trans ?_
    rw [← View.writes_append, View.read_writes_junk_eq_canon]
    rw [tripsVal, dif_pos (show n < k0_t1_loop.trips from hn)]
    exact congrArg _ ih

/-- The output tile after the body where the scratch is found holding `xs0`: five trips from the scaled low-rank product. -/
theorem out_B (c : Dev nD)  (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole) (hc0 : ¬cond0_0 i)
    (x0 : Vec F S128x5120 .bf16) (x1 : Vec F S2560x1024 .i8) (x2 : Vec F S40x1024 .f32) (x3 : Vec F S96x5120 .bf16) (x4 : Vec F S96x1024 .bf16)
    (xs0 : Vec F S128x96 .bf16) :
    out0_B_5 c i arg1 harg1 arg2 harg2 arg3 harg3 arg4 harg4 arg5 harg5 arg6 harg6 arg7 harg7 hc0 x0 x1 x2 x3 x4 xs0
      = tripsVal x0 x1 x2 (k0_pay2 xs0 x4) k0_t1_loop.trips := by
  unfold out0_B_5
  unfold kernelRun0_B
  dsimp only
  sl_unfold_words
  rw [View.read_writes_junk_eq_canon]
  simp only [View.readAt_eq_ld, harg5.read_unread, harg7.read_unread, View.ld_unit_zero (S := S128x96) hz,
    View.ld_unit_zero (S := S96x1024) hz]
  exact canon_trips Variants.none c none i arg1 harg1 arg2 harg2 arg3 harg3 arg4 harg4 arg5 harg5 arg6 harg6 arg7 harg7 x0 x1 x2 _ _ (le_refl _)

/-- The output tile after the body at the first point, which fills the scratch before reading it. -/
theorem out_A (c : Dev nD)  (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole) (hc0 : cond0_0 i)
    (x0 : Vec F S128x5120 .bf16) (x1 : Vec F S2560x1024 .i8) (x2 : Vec F S40x1024 .f32) (x3 : Vec F S96x5120 .bf16) (x4 : Vec F S96x1024 .bf16) :
    out0_A_5 c i arg1 harg1 arg2 harg2 arg3 harg3 arg4 harg4 arg5 harg5 arg6 harg6 arg7 harg7 hc0 x0 x1 x2 x3 x4
      = tripsVal x0 x1 x2 (k0_pay2 (k0_pay1 x0 x3) x4) k0_t1_loop.trips := by
  unfold out0_A_5
  unfold kernelRun0_A
  dsimp only
  sl_unfold_words
  rw [View.read_writes_junk_eq_canon]
  simp only [View.readCov_unit_zero (S := S128x96) _ hz, View.readAt_eq_ld, harg1.read_unread, harg4.read_unread, harg5.read_unread,
    View.ld_unit_zero (S := S128x5120) hz, View.ld_unit_zero (S := S96x5120) hz, View.ld_unit_zero (S := S96x1024) hz]
  exact canon_trips Variants.none c none i arg1 harg1 arg2 harg2 arg3 harg3 arg4 harg4 arg5 harg5 arg6 harg6 arg7 harg7 x0 x1 x2 _ _ (le_refl _)

/-- The scratch after the first point: the low-rank projection of the activations. -/
theorem sout_A (c : Dev nD)  (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole) (hc0 : cond0_0 i)
    (x0 : Vec F S128x5120 .bf16) (x1 : Vec F S2560x1024 .i8) (x2 : Vec F S40x1024 .f32) (x3 : Vec F S96x5120 .bf16) (x4 : Vec F S96x1024 .bf16) :
    sout0_A_0 c i arg1 harg1 arg2 harg2 arg3 harg3 arg4 harg4 arg5 harg5 arg6 harg6 arg7 harg7 hc0 x0 x1 x2 x3 x4
      = k0_pay1 x0 x3 := by
  unfold sout0_A_0
  unfold kernelRun0_A
  dsimp only
  sl_unfold_words
  rw [View.read_writes_junk_eq_canon, View.canon_unit_zero (S := S128x96) hz]
  simp only [View.readAt_eq_ld, harg1.read_unread, harg4.read_unread,
    View.ld_unit_zero (S := S128x5120) hz, View.ld_unit_zero (S := S96x5120) hz]

/-- At every later point the scratch stays as it was found. -/
theorem sout_B (c : Dev nD)  (i : grid0.Coords) (arg1 : Memref sig .tc .vmem S128x5120 .bf16) (harg1 : arg1.IsWhole) (arg2 : Memref sig .tc .vmem S2560x1024 .i8) (harg2 : arg2.IsWhole)
    (arg3 : Memref sig .tc .vmem S40x1024 .f32) (harg3 : arg3.IsWhole) (arg4 : Memref sig .tc .vmem S96x5120 .bf16) (harg4 : arg4.IsWhole)
    (arg5 : Memref sig .tc .vmem S96x1024 .bf16) (harg5 : arg5.IsWhole) (arg6 : Memref sig .tc .vmem S128x1024 .f32) (harg6 : arg6.IsWhole)
    (arg7 : Memref sig .tc .vmem S128x96 .bf16) (harg7 : arg7.IsWhole) (hc0 : ¬cond0_0 i)
    (x0 : Vec F S128x5120 .bf16) (x1 : Vec F S2560x1024 .i8) (x2 : Vec F S40x1024 .f32) (x3 : Vec F S96x5120 .bf16) (x4 : Vec F S96x1024 .bf16)
    (xs0 : Vec F S128x96 .bf16) :
    sout0_B_0 c i arg1 harg1 arg2 harg2 arg3 harg3 arg4 harg4 arg5 harg5 arg6 harg6 arg7 harg7 hc0 x0 x1 x2 x3 x4 xs0 = xs0 := rfl

end Cert.KernelIdeal.Block
end
-- ==== Proof.Tile.lean ====
/-
  One grid point of the kernel over the extended reals, read at an index: the tile's element is the scaled low-rank term
  plus one sum over all 5120 input features of activation times dequantized weight (hand-written, untrusted).
-/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

/-- The signed value of a 4-bit field: fields of 8 and more stand for the field minus 16. -/
def signed (q : BitVec 32) : BitVec 32 :=
  Scalar.select (IntOp.cmpi .sge q 8#32) (IntOp.subi q 16#32) q

/-- The weight code of input feature `d` in its packed byte: features `2r` and `2r + 1` share byte `r`, the even one in the
    low four bits, the odd one in the high four. -/
def code (b : BitVec 8) (d : ℕ) : EReal :=
  FloatOps.sitofp (F := Ideal) .bf16
    (if d % 2 < 1 then signed (IntOp.andi (BitVec.setWidth 32 b) 15#32)
      else signed (IntOp.shrsi .host (BitVec.setWidth 32 b) 4#32))

/-- Shifting the byte's low field to the top of a word and back signs it. -/
theorem low_signed : ∀ b : BitVec 8, IntOp.shrsi .vector (IntOp.shli .vector (BitVec.setWidth 32 b) 28#32) 28#32
    = signed (IntOp.andi (BitVec.setWidth 32 b) 15#32) := by decide +kernel

/-- Shifting the byte's high field to the top of a word and back signs it. -/
theorem high_signed : ∀ b : BitVec 8, IntOp.shrsi .vector (IntOp.shli .vector (BitVec.setWidth 32 b) 24#32) 28#32
    = signed (IntOp.shrsi .host (BitVec.setWidth 32 b) 4#32) := by decide +kernel

/-- The term of input feature `d` in the product: activation times code times the scale of the feature's group of 128. -/
def term (x0 : FVec Ideal S128x5120 .bf16) (x1 : Vec Ideal S2560x1024 .i8) (x2 : FVec Ideal S40x1024 .f32) (i : Fin 128) (j : Fin 1024)
    (d : Fin 5120) : EReal :=
  x0 (ix2 i d) * (code (x1 (ix2 ⟨d.val / 2, by omega⟩ j)) d.val * x2 (ix2 ⟨d.val / 128, by omega⟩ j))

/-- The low-rank projection at an index. -/
theorem pay1_apply (x : FVec Ideal S128x5120 .bf16) (a : FVec Ideal S96x5120 .bf16) (i : Fin 128) (r : Fin 96) :
    k0_pay1 (F := Ideal) x a (ix2 i r) = ∑ d : Fin 5120, x (ix2 i d) * a (ix2 r d) := by
  pointwise [k0_pay1]

/-- The scaled low-rank term at an index. -/
theorem pay2_apply (t : FVec Ideal S128x96 .bf16) (b : FVec Ideal S96x1024 .bf16) (i : Fin 128) (j : Fin 1024) :
    k0_pay2 (F := Ideal) t b (ix2 i j)
      = Ideal.ofBits FTy.f32 0x3E2AAAAB#32 * ∑ r : Fin 96, t (ix2 i r) * b (ix2 r j) := by
  pointwise [k0_pay2]

/-- The loop takes five trips. -/
theorem trips_eq : k0_t1_loop.trips = 5 := by decide +kernel

/-- The packed rows a trip loads are the window's rows from `512 k` on. -/
theorem ld_codes (x1 : Vec Ideal S2560x1024 .i8) (k : Fin k0_t1_loop.trips) (r : Fin 512) (j : Fin 1024) (h : 512 * k.val + r.val < 2560) :
    View.ld (Val := Elt Ideal) x1 (Rect.unit (s := S2560x1024) (k0_off1 k) S512x1024.size (k0_off1_inb k)) (ix2 r j)
      = x1 (ix2 ⟨512 * k.val + r.val, h⟩ j) :=
  View.ld_unit_apply_of _ _ _ _ _ _ (by
    intro a
    rw [show k0_off1 k a = (![512 * k.val, 0] : Fin 2 → ℕ) a from congrFun (k0_off1_eq k) a]
    fin_cases a
    · rfl
    · show j.val = 0 + j.val
      omega)

/-- The scale rows a trip loads are the window's rows from `8 k` on. -/
theorem ld_scales (x2 : Vec Ideal S40x1024 .f32) (k : Fin k0_t1_loop.trips) (r : Fin 8) (j : Fin 1024) (h : 8 * k.val + r.val < 40) :
    View.ld (Val := Elt Ideal) x2 (Rect.unit (s := S40x1024) (k0_off2 k) S8x1024.size (k0_off2_inb k)) (ix2 r j)
      = x2 (ix2 ⟨8 * k.val + r.val, h⟩ j) :=
  View.ld_unit_apply_of _ _ _ _ _ _ (by
    intro a
    rw [show k0_off2 k a = (![8 * k.val, 0] : Fin 2 → ℕ) a from congrFun (k0_off2_eq k) a]
    fin_cases a
    · rfl
    · show j.val = 0 + j.val
      omega)

/-- The activation columns a trip loads are the window's columns from `1024 k` on. -/
theorem ld_acts (x0 : Vec Ideal S128x5120 .bf16) (k : Fin k0_t1_loop.trips) (i : Fin 128) (q : Fin 1024) (h : 1024 * k.val + q.val < 5120) :
    View.ld (Val := Elt Ideal) x0 (Rect.unit (s := S128x5120) (k0_off3 k) S128x1024.size (k0_off3_inb k)) (ix2 i q)
      = x0 (ix2 i ⟨1024 * k.val + q.val, h⟩) :=
  View.ld_unit_apply_of _ _ _ _ _ _ (by
    intro a
    rw [show k0_off3 k a = (![0, 1024 * k.val] : Fin 2 → ℕ) a from congrFun (k0_off3_eq k) a]
    fin_cases a
    · show i.val = 0 + i.val
      omega
    · rfl)

/-- The stored payload of one trip at an index. -/
theorem pay3_apply (w : Vec Ideal S512x1024 .i8) (s : FVec Ideal S8x1024 .f32) (acc : FVec Ideal S128x1024 .f32)
    (x : FVec Ideal S128x1024 .bf16) (i : Fin 128) (j : Fin 1024) :
    k0_pay3 (F := Ideal) w s acc x (ix2 i j)
      = acc (ix2 i j) + ∑ q : Fin 1024, x (ix2 i q)
          * (code (w (ix2 ⟨q.val / 2, by omega⟩ j)) q.val * s (ix2 ⟨q.val / 128, by omega⟩ j)) := by
  pointwise [k0_pay3]
  simp only [low_signed, high_signed, dite_eq_ite]
  rfl

/-- One trip at an index: the tile as found plus the terms of 1024 consecutive features. -/
theorem tripVal_apply (x0 : FVec Ideal S128x5120 .bf16) (x1 : Vec Ideal S2560x1024 .i8) (x2 : FVec Ideal S40x1024 .f32)
    (k : Fin k0_t1_loop.trips) (acc : FVec Ideal S128x1024 .f32) (i : Fin 128) (j : Fin 1024) :
    tripVal (F := Ideal) x0 x1 x2 k acc (ix2 i j)
      = acc (ix2 i j) + ∑ q : Fin 1024, term x0 x1 x2 i j
          ⟨k.val * 1024 + q.val, by have := lt_of_lt_of_eq k.isLt trips_eq; omega⟩ := by
  have hk := lt_of_lt_of_eq k.isLt trips_eq
  unfold tripVal
  rw [pay3_apply]
  refine congrArg _ (Finset.sum_congr rfl fun q _ => ?_)
  rw [ld_acts x0 k i q (by omega), ld_codes x1 k ⟨q.val / 2, by omega⟩ j (by dsimp only; omega),
    ld_scales x2 k ⟨q.val / 128, by omega⟩ j (by dsimp only; omega)]
  unfold term
  have e1 : 1024 * k.val + q.val = k.val * 1024 + q.val := by omega
  have e2 : 512 * k.val + q.val / 2 = (k.val * 1024 + q.val) / 2 := by omega
  have e3 : 8 * k.val + q.val / 128 = (k.val * 1024 + q.val) / 128 := by omega
  have e4 : q.val % 2 = (k.val * 1024 + q.val) % 2 := by omega
  simp only [e1, e2, e3, code, e4]

/-- The tile after all trips at an index: what it started from plus the terms of all 5120 features. -/
theorem tripsVal_apply (x0 : FVec Ideal S128x5120 .bf16) (x1 : Vec Ideal S2560x1024 .i8) (x2 : FVec Ideal S40x1024 .f32)
    (init : FVec Ideal S128x1024 .f32) (i : Fin 128) (j : Fin 1024) :
    tripsVal (F := Ideal) x0 x1 x2 init k0_t1_loop.trips (ix2 i j)
      = init (ix2 i j) + ∑ d : Fin 5120, term x0 x1 x2 i j d := by
  have key : ∀ n (hn : n ≤ 5), tripsVal (F := Ideal) x0 x1 x2 init n (ix2 i j)
      = init (ix2 i j) + ∑ k : Fin n, ∑ q : Fin 1024, term x0 x1 x2 i j ⟨k.val * 1024 + q.val, by omega⟩ := by
    intro n
    induction n with
    | zero => intro _; simp [tripsVal]
    | succ n ih =>
      intro hn
      rw [tripsVal, dif_pos (show n < k0_t1_loop.trips by rw [trips_eq]; omega), tripVal_apply, ih (by omega), Fin.sum_univ_castSucc (n := n), add_assoc]
      rfl
  rw [trips_eq, key 5 (le_refl _)]
  refine congrArg _ ?_
  exact (Fin.sum_univ_tiles 5 1024 rfl (fun d => term x0 x1 x2 i j d)).symm

end Cert.KernelIdeal.Block
end
-- ==== Proof.Array.lean ====
/-
  What the result array holds after the whole grid, in terms of the program's arguments: the scratch carries the low-rank
  projection from the first point on, every point's blocks are columns of the arguments, and each element of the array is
  the scaled low-rank term plus the sum over all input features (hand-written, untrusted).
-/
module

public import proofs.«01_k».proof.Proof.Tile
public import Idealize.ShloMosaic.Lib.Claim

@[expose] public section

set_option maxRecDepth 16384

noncomputable section

namespace Cert.KernelIdeal.Block

open Cert.KernelIdeal Cert.KernelIdeal.Gen Idealize.ShloMosaic Idealize.ShloMosaic.TcCoe Idealize.SL.Sem

section Carried

variable {F : FTy → Type} [FloatOps F]
variable (m : (ℓ : Loc nD τ sig) → Buf (Elt F) ℓ)

/-- The grid has a first point. -/
theorem N_pos : 0 < cfg0.N := by rw [show cfg0.N = 27 from N_0]; omega

/-- The scratch holds, after every point, the low-rank projection the first point stored. -/
theorem carried (c : Dev nD) : ∀ (n : ℕ) (h : n < cfg0.N),
    (outsAt0 m c n h).2 = k0_pay1 (iblk m c 0 ⟨0, N_pos⟩) (iblk m c 3 ⟨0, N_pos⟩)
  | 0, h => by
    rw [outsAt0_A m c ⟨0, h⟩ (Nat.zero_mod _)]
    dsimp only
    rw [sout_A]
  | n + 1, h => by
    have hN := lt_of_lt_of_eq h (show cfg0.N = 27 from N_0)
    rw [outsAt0_B m c ⟨n + 1, h⟩ (by dsimp only; omega)]
    exact carried c n (Nat.lt_of_succ_lt h)

/-- What point `t` leaves in its tile, from its blocks and the first point's projection. -/
theorem tile_at (c : Dev nD) (t : Fin cfg0.N) :
    (outsAt0 m c t.val t.isLt).1
      = tripsVal (iblk m c 0 t) (iblk m c 1 t) (iblk m c 2 t)
          (k0_pay2 (k0_pay1 (iblk m c 0 ⟨0, N_pos⟩) (iblk m c 3 ⟨0, N_pos⟩)) (iblk m c 4 t)) k0_t1_loop.trips := by
  have hN := lt_of_lt_of_eq t.isLt (show cfg0.N = 27 from N_0)
  by_cases h0 : t.val % 27 = 0
  · have ht : t = ⟨0, N_pos⟩ := Fin.ext (by dsimp only; omega)
    subst ht
    rw [outsAt0_A m c ⟨0, N_pos⟩ h0]
    dsimp only
    rw [out_A]
  · rw [outsAt0_B m c t h0]
    dsimp only
    rw [out_B, carried m c]

end Carried

variable (m : (ℓ : Loc nD τ sig) → Buf (Elt Ideal) ℓ)

/-- Where each window's block lies at each grid point. -/
theorem places : ∀ t : Fin cfg0.N, win0_0.index t = ![0, 0] ∧ win0_1.index t = ![0, t.val] ∧ win0_2.index t = ![0, t.val]
    ∧ win0_3.index t = ![0, 0] ∧ win0_4.index t = ![0, t.val] :=
  (by decide +kernel : ∀ t : Fin grid0.N, _)

/-- The activations without their leading axis of one. -/
theorem cast_x (x : FVec Ideal S1x128x5120 .bf16) (i : Fin 128) (d : Fin 5120) :
    shapeCast S128x5120 x shapeCasts_S1x128x5120_S128x5120 (ix2 i d) = x (ix3 0 i d) := by
  pointwise

/-- The transposed projection. -/
theorem transpose_a (a : FVec Ideal S5120x96 .bf16) (r : Fin 96) (d : Fin 5120) :
    transpose S96x5120 [1, 0] a transposes_S5120x96_S96x5120_1_0 (ix2 r d) = a (ix2 d r) := by
  pointwise

/-- Window 0 holds all activations at every point. -/
theorem read_x (c : Dev nD) (t : Fin cfg0.N) (i : Fin 128) (d : Fin 5120) :
    iblk m c 0 t (ix2 i d) = m ((c : Thread nD τ).loc main_arg0) (ix3 0 i d) := by
  obtain ⟨e0, e1, e2, e3, e4⟩ := places t
  blk_simp [iblk]
  entry_read
  refine Eq.trans (congrArg _ (funext fun a => Fin.ext ?_)) (cast_x _ i d)
  match a with
  | ⟨0, _⟩ =>
    show win0_0.index t 0 * 128 + 1 * i.val = i.val
    rw [show win0_0.index t 0 = 0 from congrFun e0 0]; omega
  | ⟨1, _⟩ =>
    show win0_0.index t 1 * 5120 + 1 * d.val = d.val
    rw [show win0_0.index t 1 = 0 from congrFun e0 1]; omega

/-- Window 1 holds 1024 columns of packed codes, the ones from `1024 t` on. -/
theorem read_w (c : Dev nD) (t : Fin cfg0.N) (p : Fin 2560) (j : Fin 1024) (h : 1024 * t.val + j.val < 27648) :
    iblk m c 1 t (ix2 p j) = m ((c : Thread nD τ).loc main_arg1) (ix2 p ⟨1024 * t.val + j.val, h⟩) := by
  obtain ⟨e0, e1, e2, e3, e4⟩ := places t
  blk_ext [iblk, V, e1]

/-- Window 2 holds the same columns of the scales. -/
theorem read_s (c : Dev nD) (t : Fin cfg0.N) (p : Fin 40) (j : Fin 1024) (h : 1024 * t.val + j.val < 27648) :
    iblk m c 2 t (ix2 p j) = m ((c : Thread nD τ).loc main_arg2) (ix2 p ⟨1024 * t.val + j.val, h⟩) := by
  obtain ⟨e0, e1, e2, e3, e4⟩ := places t
  blk_ext [iblk, V, e2]

/-- Window 3 holds the whole transposed projection at every point. -/
theorem read_a (c : Dev nD) (t : Fin cfg0.N) (r : Fin 96) (d : Fin 5120) :
    iblk m c 3 t (ix2 r d) = m ((c : Thread nD τ).loc main_arg3) (ix2 d r) := by
  obtain ⟨e0, e1, e2, e3, e4⟩ := places t
  blk_simp [iblk]
  entry_read
  refine Eq.trans (congrArg _ (funext fun k => Fin.ext ?_)) (transpose_a _ r d)
  match k with
  | ⟨0, _⟩ =>
    show win0_3.index t 0 * 96 + 1 * r.val = r.val
    rw [show win0_3.index t 0 = 0 from congrFun e3 0]; omega
  | ⟨1, _⟩ =>
    show win0_3.index t 1 * 5120 + 1 * d.val = d.val
    rw [show win0_3.index t 1 = 0 from congrFun e3 1]; omega

/-- Window 4 holds the same columns of the second low-rank factor. -/
theorem read_b (c : Dev nD) (t : Fin cfg0.N) (p : Fin 96) (j : Fin 1024) (h : 1024 * t.val + j.val < 27648) :
    iblk m c 4 t (ix2 p j) = m ((c : Thread nD τ).loc main_arg4) (ix2 p ⟨1024 * t.val + j.val, h⟩) := by
  obtain ⟨e0, e1, e2, e3, e4⟩ := places t
  blk_ext [iblk, V, e4]

/-- The result at row `i`, column `j`, as a function of the five arguments. -/
def result (x : FVec Ideal S1x128x5120 .bf16) (w : Vec Ideal S2560x27648 .i8) (s : FVec Ideal S40x27648 .f32)
    (a : FVec Ideal S5120x96 .bf16) (b : FVec Ideal S96x27648 .bf16) (i : Fin 128) (j : Fin 27648) : EReal :=
  Ideal.ofBits FTy.f32 0x3E2AAAAB#32 * (∑ r : Fin 96, (∑ d : Fin 5120, x (ix3 0 i d) * a (ix2 d r)) * b (ix2 r j))
    + ∑ d : Fin 5120, x (ix3 0 i d) * (code (w (ix2 ⟨d.val / 2, by omega⟩ j)) d.val * s (ix2 ⟨d.val / 128, by omega⟩ j))

/-- The array the program leaves, read at row `i`, column `j`. -/
theorem array_apply (c : Dev nD) (i : Fin 128) (j : Fin 27648) :
    Value.G5 m c (ix2 i j)
      = result (m ((c : Thread nD τ).loc main_arg0)) (m ((c : Thread nD τ).loc main_arg1)) (m ((c : Thread nD τ).loc main_arg2))
          (m ((c : Thread nD τ).loc main_arg3)) (m ((c : Thread nD τ).loc main_arg4)) i j := by
  have hN : cfg0.N = 27 := N_0
  have hp : Value.pt5Of (ix2 i j) = j.val / 1024 := by
    show 27 * (i.val / 128 - 0) + 1 * (j.val / 1024 - 0) = _
    omega
  have hlt : Value.pt5Of (ix2 i j) < cfg0.N := by rw [hp, hN]; omega
  have hl : Value.loc5Of (ix2 i j) = ix2 i ⟨j.val % 1024, Nat.mod_lt _ (by decide)⟩ := by
    funext a; apply Fin.ext
    match a with
    | ⟨0, _⟩ => show i.val % 128 = i.val; omega
    | ⟨1, _⟩ => rfl
  unfold Value.G5
  rw [dif_pos hlt, ← Value.outsAt0_sweep m c _ hlt, hl]
  refine (congrFun (tile_at m c ⟨Value.pt5Of (ix2 i j), hlt⟩) _).trans ?_
  rw [tripsVal_apply, pay2_apply]
  have hj : 1024 * Value.pt5Of (ix2 i j) + j.val % 1024 = j.val := by rw [hp]; omega
  unfold result
  refine congrArg₂ (· + ·) (congrArg _ (Finset.sum_congr rfl fun r _ => ?_)) (Finset.sum_congr rfl fun d _ => ?_)
  · rw [pay1_apply, read_b m c _ _ _ (by dsimp only; omega)]
    simp only [read_x, read_a, hj]
  · unfold term
    rw [read_x, read_w m c _ _ _ (by dsimp only; omega), read_s m c _ _ _ (by dsimp only; omega)]
    simp only [hj]

end Cert.KernelIdeal.Block
end
-- ==== Proof.Reference.lean ====
/-
  What the reference computes, read at an index over the extended reals: two half-length products, one over the even input
  features and one over the odd ones, plus the scaled low-rank term (hand-written, untrusted).
-/
module

public import proofs.«01_k».proof.Defs
public import proofs.«01_k».proof.Proof.Gen.ReferenceIdeal.Run
public import proofs.«01_k».proof.Proof.Tile
public import Idealize.ShloMosaic.Lib.Pointwise

@[expose] public section

set_option maxRecDepth 16384

noncomputable section

namespace Cert.ReferenceIdeal.Block

open Cert.ReferenceIdeal Cert.ReferenceIdeal.Gen Idealize.ShloMosaic Idealize.ShloMosaic.TcCoe Idealize.SL.Sem
open Cert.KernelIdeal.Block (signed code)

variable {F : FTy → Type} [FloatOps F]

/-- The reference's result as one term of its arguments. -/
def REF (x : Vec F S1x128x5120 .bf16) (w : Vec F S2560x27648 .i8) (s : Vec F S40x27648 .f32) (a : Vec F S5120x96 .bf16) (b : Vec F S96x27648 .bf16) : Vec F S128x27648 .f32 :=
  shapeCast _ (addf (addf (Host.dotGeneral dot_S1x128x2560_S2560x27648_S1x128x27648_2_0_01_1_n_n none (Host.slice S1x128x2560 ![0, 0, 0] ![1, 1, 2] x slicesBy_S1x128x5120_S1x128x2560_0s1_0s1_0s2) (shapeCast _ (mulf (shapeCast _ (sitofp .bf16 (select (cmpi .sge (andi (extui 32 w natLt_8_32) (broadcastInDim S2560x27648 ![] bcast_S_S2560x27648 (constantI S_ 32 15#32))) (broadcastInDim S2560x27648 ![] bcast_S_S2560x27648 (constantI S_ 32 8#32))) (subi (andi (extui 32 w natLt_8_32) (broadcastInDim S2560x27648 ![] bcast_S_S2560x27648 (constantI S_ 32 15#32))) (broadcastInDim S2560x27648 ![] bcast_S_S2560x27648 (constantI S_ 32 16#32))) (andi (extui 32 w natLt_8_32) (broadcastInDim S2560x27648 ![] bcast_S_S2560x27648 (constantI S_ 32 15#32))))) shapeCasts_S2560x27648_S40x64x27648) (broadcastInDim S40x64x27648 ![0, 1, 2] bcast_S40x1x27648_S40x64x27648_0_1_2 (broadcastInDim S40x1x27648 ![0, 2] bcast_S40x27648_S40x1x27648_0_2 (truncf .bf16 s bitsLt_bf16_f32)))) shapeCasts_S40x64x27648_S2560x27648)) (Host.dotGeneral dot_S1x128x2560_S2560x27648_S1x128x27648_2_0_01_1_n_n none (Host.slice S1x128x2560 ![0, 0, 1] ![1, 1, 2] x slicesBy_S1x128x5120_S1x128x2560_0s1_0s1_1s2) (shapeCast _ (mulf (shapeCast _ (sitofp .bf16 (select (cmpi .sge (Host.shrsi (extui 32 w natLt_8_32) (broadcastInDim S2560x27648 ![] bcast_S_S2560x27648 (constantI S_ 32 4#32))) (broadcastInDim S2560x27648 ![] bcast_S_S2560x27648 (constantI S_ 32 8#32))) (subi (Host.shrsi (extui 32 w natLt_8_32) (broadcastInDim S2560x27648 ![] bcast_S_S2560x27648 (constantI S_ 32 4#32))) (broadcastInDim S2560x27648 ![] bcast_S_S2560x27648 (constantI S_ 32 16#32))) (Host.shrsi (extui 32 w natLt_8_32) (broadcastInDim S2560x27648 ![] bcast_S_S2560x27648 (constantI S_ 32 4#32))))) shapeCasts_S2560x27648_S40x64x27648) (broadcastInDim S40x64x27648 ![0, 1, 2] bcast_S40x1x27648_S40x64x27648_0_1_2 (broadcastInDim S40x1x27648 ![0, 2] bcast_S40x27648_S40x1x27648_0_2 (truncf .bf16 s bitsLt_bf16_f32)))) shapeCasts_S40x64x27648_S2560x27648))) (mulf (broadcastInDim S1x128x27648 ![] bcast_S_S1x128x27648 (constant S_ .f32 0x3E2AAAAB#32)) (Host.dotGeneral dot_S1x128x96_S96x27648_S1x128x27648_2_0_01_1_n_n none (truncf .bf16 (Host.dotGeneral dot_S1x128x5120_S5120x96_S1x128x96_2_0_01_1_n_n none x a) bitsLt_bf16_f32) b))) shapeCasts_S1x128x27648_S128x27648

/-- The reference at row `i`, column `j`. -/
theorem ref_apply (x : FVec Ideal S1x128x5120 .bf16) (w : Vec Ideal S2560x27648 .i8) (s : FVec Ideal S40x27648 .f32)
    (a : FVec Ideal S5120x96 .bf16) (b : FVec Ideal S96x27648 .bf16) (i : Fin 128) (j : Fin 27648) :
    REF (F := Ideal) x w s a b (ix2 i j)
      = (∑ r : Fin 2560, x (ix3 0 i ⟨2 * r.val, by omega⟩)
            * (FloatOps.sitofp (F := Ideal) .bf16 (signed (IntOp.andi (BitVec.setWidth 32 (w (ix2 r j))) 15#32)) * s (ix2 ⟨r.val / 64, by omega⟩ j)))
        + (∑ r : Fin 2560, x (ix3 0 i ⟨1 + 2 * r.val, by omega⟩)
            * (FloatOps.sitofp (F := Ideal) .bf16 (signed (IntOp.shrsi .host (BitVec.setWidth 32 (w (ix2 r j))) 4#32)) * s (ix2 ⟨r.val / 64, by omega⟩ j)))
        + Ideal.ofBits FTy.f32 0x3E2AAAAB#32 * ∑ r : Fin 96, (∑ d : Fin 5120, x (ix3 0 i d) * a (ix2 d r)) * b (ix2 r j) := by
  pointwise [REF]
  rfl

/-- A sum over all features is the sum over the even ones plus the sum over the odd ones. -/
theorem sum_even_odd (f : Fin 5120 → EReal) :
    ∑ d : Fin 5120, f d = (∑ r : Fin 2560, f ⟨2 * r.val, by omega⟩) + ∑ r : Fin 2560, f ⟨1 + 2 * r.val, by omega⟩ := by
  rw [Fin.sum_univ_tiles 2560 2 rfl f, ← Finset.sum_add_distrib]
  refine Finset.sum_congr rfl fun r _ => ?_
  rw [Fin.sum_univ_two]
  refine congrArg₂ (· + ·) (congrArg f (Fin.ext ?_)) (congrArg f (Fin.ext ?_))
  · show r.val * 2 + 0 = 2 * r.val
    omega
  · show r.val * 2 + 1 = 1 + 2 * r.val
    omega

/-- The code of an even feature is its byte's signed low field. -/
theorem code_even (q : BitVec 8) (r : ℕ) :
    code q (2 * r) = FloatOps.sitofp (F := Ideal) .bf16 (signed (IntOp.andi (BitVec.setWidth 32 q) 15#32)) := by
  unfold code; rw [if_pos (by omega)]

/-- The code of an odd feature is its byte's signed high field. -/
theorem code_odd (q : BitVec 8) (r : ℕ) :
    code q (1 + 2 * r) = FloatOps.sitofp (F := Ideal) .bf16 (signed (IntOp.shrsi .host (BitVec.setWidth 32 q) 4#32)) := by
  unfold code; rw [if_neg (by omega)]

end Cert.ReferenceIdeal.Block
end
-- ==== Proof.Equation.lean ====
/-
  The equation: the array the kernel leaves is the reference's, element by element (hand-written, untrusted).
-/
module

public import proofs.«01_k».proof.Proof.Array
public import proofs.«01_k».proof.Proof.Reference

@[expose] public section

set_option maxRecDepth 16384

noncomputable section

namespace Cert.Equation

open Idealize.ShloMosaic Idealize.ShloMosaic.TcCoe Idealize.SL.Sem
open Cert.KernelIdeal Cert.KernelIdeal.Gen Cert.KernelIdeal.Block

/-- The reference's element is the kernel's: the even and the odd features together are all features. -/
theorem ref_eq_result (x : FVec Ideal S1x128x5120 .bf16) (w : Vec Ideal S2560x27648 .i8) (s : FVec Ideal S40x27648 .f32)
    (a : FVec Ideal S5120x96 .bf16) (b : FVec Ideal S96x27648 .bf16) (i : Fin 128) (j : Fin 27648) :
    Cert.ReferenceIdeal.Block.REF (F := Ideal) x w s a b (ix2 i j) = result x w s a b i j := by
  rw [Cert.ReferenceIdeal.Block.ref_apply]
  unfold result
  rw [Cert.ReferenceIdeal.Block.sum_even_odd, add_comm]
  refine congrArg _ (congrArg₂ (· + ·) (Finset.sum_congr rfl fun r _ => ?_) (Finset.sum_congr rfl fun r _ => ?_))
  · have e1 : 2 * r.val / 2 = r.val := by omega
    have e2 : 2 * r.val / 128 = r.val / 64 := by omega
    simp only [Cert.ReferenceIdeal.Block.code_even, e1, e2]
  · have e1 : (1 + 2 * r.val) / 2 = r.val := by omega
    have e2 : (1 + 2 * r.val) / 128 = r.val / 64 := by omega
    simp only [Cert.ReferenceIdeal.Block.code_odd, e1, e2]

/-- The whole arrays agree. -/
theorem arrays (m : (ℓ : Loc nD τ sig) → Buf (Elt Ideal) ℓ) (c : Dev nD) :
    Cert.ReferenceIdeal.Block.REF (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = Value.G5 m c := by
  funext k
  have hk : k = ix2 (k 0) (k 1) := by
    funext a
    match a with
    | ⟨0, _⟩ => rfl
    | ⟨1, _⟩ => rfl
  rw [hk]
  exact (ref_eq_result _ _ _ _ _ (k 0) (k 1)).trans (array_apply m c (k 0) (k 1)).symm

end Cert.Equation
end
-- ==== Proof.PackArray.lean ====
/-
  The packing call: a value's bits and its column in one word. What one grid point stores, what the array holds, and that it is
  the reference's array, bit for bit (hand-written, untrusted).
-/
module

public import proofs.«01_k».proof.Defs
public import proofs.«01_k».proof.Proof.Gen.Pack.Value
public import proofs.«01_k».proof.Proof.Gen.PackReference.Run
public import Idealize.ShloMosaic.Lib.Pipeline.ValueKit
public import Idealize.ShloMosaic.Lib.Pointwise

@[expose] public section

set_option maxRecDepth 16384

noncomputable section

namespace Cert.Pack.Hand

open Cert.Pack Cert.Pack.Gen Idealize.ShloMosaic Idealize.ShloMosaic.TcCoe Idealize.SL.Sem

variable {F : FTy → Type} [BitOps F]
variable (m : (ℓ : Loc nD τ sig) → Buf (Elt F) ℓ)

/-- A value and its column in one word. -/
def word (col : Elt F .i32) (val : F .bf16) : BitVec 32 :=
  IntOp.ori (BitOps.toBits (FloatOps.extf .f32 bitsLt_bf16_f32 val)) col

/-- Where each window's block lies at each grid point. -/
theorem places : ∀ t : Fin cfg0.N, win0_0.index t = ![0, t.val] ∧ win0_1.index t = ![0, t.val] ∧ win0_2.index t = ![0, t.val] :=
  (by decide +kernel : ∀ t : Fin grid0.N, _)

/-- The columns, transposed. -/
theorem transpose_cols (x : IVec S5120x864 32) (k : Fin 864) (r : Fin 5120) :
    transpose S864x5120 [1, 0] x transposes_S5120x864_S864x5120_1_0 (ix2 k r) = x (ix2 r k) := by
  pointwise

/-- The values, transposed. -/
theorem transpose_vals (x : FVec F S5120x864 .bf16) (k : Fin 864) (r : Fin 5120) :
    transpose S864x5120 [1, 0] x transposes_S5120x864_S864x5120_1_0 (ix2 k r) = x (ix2 r k) := by
  pointwise

/-- Window 0 holds the columns of 1024 rows, the ones from `1024 t` on. -/
theorem read_cols (c : Dev nD) (t : Fin cfg0.N) (k : Fin 864) (r : Fin 1024) (h : 1024 * t.val + r.val < 5120) :
    iblk m c 0 t (ix2 k r) = m ((c : Thread nD τ).loc main_arg0) (ix2 ⟨1024 * t.val + r.val, h⟩ k) := by
  obtain ⟨e0, e1, e2⟩ := places t
  blk_simp [iblk]
  entry_read
  refine Eq.trans (congrArg _ (funext fun a => Fin.ext ?_)) (transpose_cols _ k ⟨1024 * t.val + r.val, h⟩)
  match a with
  | ⟨0, _⟩ =>
    show win0_0.index t 0 * 864 + 1 * k.val = k.val
    rw [show win0_0.index t 0 = 0 from congrFun e0 0]; omega
  | ⟨1, _⟩ =>
    show win0_0.index t 1 * 1024 + 1 * r.val = 1024 * t.val + r.val
    rw [show win0_0.index t 1 = t.val from congrFun e0 1]; omega

/-- Window 1 holds the values of the same rows. -/
theorem read_vals (c : Dev nD) (t : Fin cfg0.N) (k : Fin 864) (r : Fin 1024) (h : 1024 * t.val + r.val < 5120) :
    iblk m c 1 t (ix2 k r) = m ((c : Thread nD τ).loc main_arg1) (ix2 ⟨1024 * t.val + r.val, h⟩ k) := by
  obtain ⟨e0, e1, e2⟩ := places t
  blk_simp [iblk]
  entry_read
  refine Eq.trans (congrArg _ (funext fun a => Fin.ext ?_)) (transpose_vals _ k ⟨1024 * t.val + r.val, h⟩)
  match a with
  | ⟨0, _⟩ =>
    show win0_1.index t 0 * 864 + 1 * k.val = k.val
    rw [show win0_1.index t 0 = 0 from congrFun e1 0]; omega
  | ⟨1, _⟩ =>
    show win0_1.index t 1 * 1024 + 1 * r.val = 1024 * t.val + r.val
    rw [show win0_1.index t 1 = t.val from congrFun e1 1]; omega

/-- What one grid point stores, at an index. -/
theorem out_apply (X : IVec S864x1024 32) (Y : FVec F S864x1024 .bf16) (k : Fin 864) (r : Fin 1024) :
    out0_2 (F := F) X Y (ix2 k r) = word (F := F) (X (ix2 k r)) (Y (ix2 k r)) := by
  unfold out0_2
  rw [Value.canon2_eq]
  have e : r0_0.idx (ix2 k r) = ix2 k r := by
    funext a; apply Fin.ext
    match a with
    | ⟨0, _⟩ => show 0 + 1 * k.val = k.val; omega
    | ⟨1, _⟩ => show 0 + 1 * r.val = r.val; omega
  have e0 : Value.ix2_0 (ix2 k r) = ix2 k r := by
    funext a; match a with | ⟨0, _⟩ => rfl | ⟨1, _⟩ => rfl
  have e1 : Value.ix2_1 (ix2 k r) = ix2 k r := by
    funext a; match a with | ⟨0, _⟩ => rfl | ⟨1, _⟩ => rfl
  show IntOp.ori (BitOps.toBits (FloatOps.extf .f32 bitsLt_bf16_f32 (Y (r0_0.idx (Value.ix2_0 (ix2 k r)))))) (X (r0_0.idx (Value.ix2_1 (ix2 k r)))) = _
  rw [e0, e1, e]
  rfl

/-- The array the call leaves, at an index. -/
theorem array_apply (c : Dev nD) (k : Fin 864) (R : Fin 5120) :
    (dats m 0 c).arrAt 2 cfg0.N (ix2 k R)
      = word (F := F) (m ((c : Thread nD τ).loc main_arg0) (ix2 R k)) (m ((c : Thread nD τ).loc main_arg1) (ix2 R k)) := by
  have hN : cfg0.N = 5 := N_0
  obtain ⟨t, ht⟩ : ∃ t : Fin cfg0.N, t.val = R.val / 1024 := ⟨⟨R.val / 1024, by omega⟩, rfl⟩
  obtain ⟨r, hr⟩ : ∃ r : Fin 1024, r.val = R.val % 1024 := ⟨⟨R.val % 1024, by omega⟩, rfl⟩
  have h : 1024 * t.val + r.val < 5120 := by omega
  have hR : R = ⟨1024 * t.val + r.val, h⟩ := Fin.ext (by dsimp only; omega)
  subst hR
  obtain ⟨e0, e1, e2⟩ := places t
  have hb := congrFun ((Value.blocks2 m c t (flush0_2 t)).trans (Value.flushed2 m c t)) (ix2 k r)
  refine Eq.trans (congrArg _ (funext fun a => Fin.ext ?_)) (hb.trans ?_)
  · match a with
    | ⟨0, _⟩ =>
      show k.val = win0_2.index t 0 * 864 + 1 * k.val
      rw [show win0_2.index t 0 = 0 from congrFun e2 0]; omega
    | ⟨1, _⟩ =>
      show 1024 * t.val + r.val = win0_2.index t 1 * 1024 + 1 * r.val
      rw [show win0_2.index t 1 = t.val from congrFun e2 1]; omega
  · refine Eq.trans (b := out0_2 (F := F) (iblk m c 0 t) (iblk m c 1 t) (ix2 k r)) rfl ?_
    refine (out_apply (iblk m c 0 t) (iblk m c 1 t) k r).trans ?_
    rw [read_cols m c t k r h, read_vals m c t k r h]

/-- The array the call leaves is the reference's, of the same arguments. -/
theorem arrays (c : Dev nD) :
    (dats m 0 c).arrAt 2 cfg0.N
      = transpose S864x5120 [1, 0] (ori (bitcastToInt (extf (F := F) .f32 (m ((c : Thread nD τ).loc main_arg1)) bitsLt_bf16_f32)) (m ((c : Thread nD τ).loc main_arg0))) transposes_S5120x864_S864x5120_1_0 := by
  funext j
  obtain ⟨k, R, rfl⟩ : ∃ k R, j = ix2 k R := ⟨_, _, (ix2_eta j).symm⟩
  rw [array_apply]
  exact (transpose_cols (ori (bitcastToInt (extf (F := F) .f32 (m ((c : Thread nD τ).loc main_arg1)) bitsLt_bf16_f32)) (m ((c : Thread nD τ).loc main_arg0))) k R).symm

end Cert.Pack.Hand

end
-- ==== Proof.SparseTrip.lean ====
/-
  One trip of the kernel's loop over 512 rows of the decoded matrix: what it stores into the accumulator, as a plain
  function of the blocks it reads, at any float instance (hand-written, untrusted).
-/
module

public import proofs.«01_k».proof.Defs
public import proofs.«01_k».proof.Proof.Gen.SparseIdeal.Frame
public import proofs.«01_k».proof.Proof.Gen.SparseIdeal.Loops
public import proofs.«01_k».proof.Proof.Gen.Pre_entries_in_range
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.Transfers

@[expose] public section

set_option maxRecDepth 65536
set_option maxHeartbeats 40000000

noncomputable section

namespace Cert.SparseIdeal.Hand

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Sixteen rows of the decoded matrix: the table `tab` looked up at the seven-bit slots that the words of `word` hold
    from bit `b` on, every 32-bit table entry read as two bf16 rows. -/
def piece (word tab : Vec F S1x1x1x8x128 .i32) (b : BitVec 32) : FVec F S16x128 .bf16 :=
  have w : IVec S8x128 32 := shapeCast S8x128 word shapeCasts_S1x1x1x8x128_S8x128
  have t : IVec S8x128 32 := shapeCast S8x128 tab shapeCasts_S1x1x1x8x128_S8x128
  have slot : IVec S8x128 32 := andi (shrui w (broadcast S8x128 b)) (broadcast S8x128 127#32)
  have slot' : IVec S8x128 32 := select (cmpi .slt slot (broadcast S8x128 0#32)) (addi slot (broadcast S8x128 128#32)) slot
  bitcastToFloat .bf16 (bitcast S16x128 16
    (dynamicGather 1 t (shapeCast S8x128 (shapeCast S8x128x1 slot' shapeCasts_S8x128_S8x128x1) shapeCasts_S8x128x1_S8x128))
    bitcasts_S8x128_w32_S16x128_w16)

/-- A strip of 128 columns and 512 rows: 32 pieces, four per group of 64 rows. -/
def strip (word : Fin 8 → Vec F S1x1x1x8x128 .i32) (tab : Fin 8 → Fin 4 → Vec F S1x1x1x8x128 .i32) : FVec F S512x128 .bf16 :=
  concatenate S512x128 0
    [⟨S16x128, piece (word 0) (tab 0 0) 0#32⟩, ⟨S16x128, piece (word 0) (tab 0 1) 8#32⟩, ⟨S16x128, piece (word 0) (tab 0 2) 16#32⟩, ⟨S16x128, piece (word 0) (tab 0 3) 24#32⟩,
     ⟨S16x128, piece (word 1) (tab 1 0) 0#32⟩, ⟨S16x128, piece (word 1) (tab 1 1) 8#32⟩, ⟨S16x128, piece (word 1) (tab 1 2) 16#32⟩, ⟨S16x128, piece (word 1) (tab 1 3) 24#32⟩,
     ⟨S16x128, piece (word 2) (tab 2 0) 0#32⟩, ⟨S16x128, piece (word 2) (tab 2 1) 8#32⟩, ⟨S16x128, piece (word 2) (tab 2 2) 16#32⟩, ⟨S16x128, piece (word 2) (tab 2 3) 24#32⟩,
     ⟨S16x128, piece (word 3) (tab 3 0) 0#32⟩, ⟨S16x128, piece (word 3) (tab 3 1) 8#32⟩, ⟨S16x128, piece (word 3) (tab 3 2) 16#32⟩, ⟨S16x128, piece (word 3) (tab 3 3) 24#32⟩,
     ⟨S16x128, piece (word 4) (tab 4 0) 0#32⟩, ⟨S16x128, piece (word 4) (tab 4 1) 8#32⟩, ⟨S16x128, piece (word 4) (tab 4 2) 16#32⟩, ⟨S16x128, piece (word 4) (tab 4 3) 24#32⟩,
     ⟨S16x128, piece (word 5) (tab 5 0) 0#32⟩, ⟨S16x128, piece (word 5) (tab 5 1) 8#32⟩, ⟨S16x128, piece (word 5) (tab 5 2) 16#32⟩, ⟨S16x128, piece (word 5) (tab 5 3) 24#32⟩,
     ⟨S16x128, piece (word 6) (tab 6 0) 0#32⟩, ⟨S16x128, piece (word 6) (tab 6 1) 8#32⟩, ⟨S16x128, piece (word 6) (tab 6 2) 16#32⟩, ⟨S16x128, piece (word 6) (tab 6 3) 24#32⟩,
     ⟨S16x128, piece (word 7) (tab 7 0) 0#32⟩, ⟨S16x128, piece (word 7) (tab 7 1) 8#32⟩, ⟨S16x128, piece (word 7) (tab 7 2) 16#32⟩, ⟨S16x128, piece (word 7) (tab 7 3) 24#32⟩]
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0

/-- The index words of column tile `ct` that trip `k` loads for its group `q`. -/
def wordAt (x4 : Vec F S80x1x8x8x128 .i32) (k : Fin k0_t1_loop.trips) (ct q : Fin 8) : Vec F S1x1x1x8x128 .i32 :=
  match ct with
  | 0 => View.ld (Val := Elt F) x4 (Rect.unit (s := S80x1x8x8x128) (k0_off1 k (BitVec.ofNat 32 q.val)) S1x1x1x8x128.size (k0_off1_inb k q))
  | 1 => View.ld (Val := Elt F) x4 (Rect.unit (s := S80x1x8x8x128) (k0_off6 k (BitVec.ofNat 32 q.val)) S1x1x1x8x128.size (k0_off6_inb k q))
  | 2 => View.ld (Val := Elt F) x4 (Rect.unit (s := S80x1x8x8x128) (k0_off7 k (BitVec.ofNat 32 q.val)) S1x1x1x8x128.size (k0_off7_inb k q))
  | 3 => View.ld (Val := Elt F) x4 (Rect.unit (s := S80x1x8x8x128) (k0_off8 k (BitVec.ofNat 32 q.val)) S1x1x1x8x128.size (k0_off8_inb k q))
  | 4 => View.ld (Val := Elt F) x4 (Rect.unit (s := S80x1x8x8x128) (k0_off9 k (BitVec.ofNat 32 q.val)) S1x1x1x8x128.size (k0_off9_inb k q))
  | 5 => View.ld (Val := Elt F) x4 (Rect.unit (s := S80x1x8x8x128) (k0_off10 k (BitVec.ofNat 32 q.val)) S1x1x1x8x128.size (k0_off10_inb k q))
  | 6 => View.ld (Val := Elt F) x4 (Rect.unit (s := S80x1x8x8x128) (k0_off11 k (BitVec.ofNat 32 q.val)) S1x1x1x8x128.size (k0_off11_inb k q))
  | 7 => View.ld (Val := Elt F) x4 (Rect.unit (s := S80x1x8x8x128) (k0_off12 k (BitVec.ofNat 32 q.val)) S1x1x1x8x128.size (k0_off12_inb k q))

/-- The tables of byte `b` that trip `k` loads for its group `q`. -/
def tabAt (x5 : Vec F S80x1x4x8x128 .i32) (k : Fin k0_t1_loop.trips) (b : Fin 4) (q : Fin 8) : Vec F S1x1x1x8x128 .i32 :=
  match b with
  | 0 => View.ld (Val := Elt F) x5 (Rect.unit (s := S80x1x4x8x128) (k0_off2 k (BitVec.ofNat 32 q.val)) S1x1x1x8x128.size (k0_off2_inb k q))
  | 1 => View.ld (Val := Elt F) x5 (Rect.unit (s := S80x1x4x8x128) (k0_off3 k (BitVec.ofNat 32 q.val)) S1x1x1x8x128.size (k0_off3_inb k q))
  | 2 => View.ld (Val := Elt F) x5 (Rect.unit (s := S80x1x4x8x128) (k0_off4 k (BitVec.ofNat 32 q.val)) S1x1x1x8x128.size (k0_off4_inb k q))
  | 3 => View.ld (Val := Elt F) x5 (Rect.unit (s := S80x1x4x8x128) (k0_off5 k (BitVec.ofNat 32 q.val)) S1x1x1x8x128.size (k0_off5_inb k q))

/-- What trip `k` leaves in the accumulator that held `acc`. -/
def tileTrip (x3 : Vec F S128x5120 .bf16) (x4 : Vec F S80x1x8x8x128 .i32) (x5 : Vec F S80x1x4x8x128 .i32)
    (k : Fin k0_t1_loop.trips) (acc : Vec F S128x1024 .f32) : Vec F S128x1024 .f32 :=
  k0_pay4 (strip (fun q => wordAt x4 k 0 q) (fun q b => tabAt x5 k b q)) (strip (fun q => wordAt x4 k 1 q) (fun q b => tabAt x5 k b q)) (strip (fun q => wordAt x4 k 2 q) (fun q b => tabAt x5 k b q)) (strip (fun q => wordAt x4 k 3 q) (fun q b => tabAt x5 k b q)) (strip (fun q => wordAt x4 k 4 q) (fun q b => tabAt x5 k b q)) (strip (fun q => wordAt x4 k 5 q) (fun q b => tabAt x5 k b q)) (strip (fun q => wordAt x4 k 6 q) (fun q b => tabAt x5 k b q)) (strip (fun q => wordAt x4 k 7 q) (fun q b => tabAt x5 k b q)) acc
    (View.ld (Val := Elt F) x3 (Rect.unit (s := S128x5120) (k0_off13 k) S128x512.size (k0_off13_inb k)))

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg7 : Memref sig .tc .hbm S9437184 .i32) (harg7 : arg7.IsWhole) (arg8 : Memref sig .tc .vmem S128x1024 .bf16) (harg8 : arg8.IsWhole)
  (arg9 : Memref sig .tc .vmem S128x1024 .f32) (harg9 : arg9.IsWhole) (arg10 : Memref sig .tc .smem S2048 .i32) (harg10 : arg10.IsWhole)
  (arg11 : DmaSems sig S_)

/-- The whole of what a memref shows, held on core `c` at contents `f`. -/
abbrev at' (c : Dev nD) {sp : Space} {S : Shape} {e : EltTy} (M : Memref sig .tc sp S e) (f : BufTy.Contents (Elt F) M.view.ty) : sProp 𝕄 :=
  M.view.loc (c : Thread nD τ) ↦[M.view.set]{fullShare} f

/-- One trip run: the blocks read stay, and the accumulator reads as `tileTrip` of what it read before. -/
theorem tile_run (X3 : BufTy.Contents (Elt F) arg3.view.ty) (X4 : BufTy.Contents (Elt F) arg4.view.ty)
    (X5 : BufTy.Contents (Elt F) arg5.view.ty) (k : Fin k0_t1_loop.trips) (E : Set ℕ) (f9 : BufTy.Contents (Elt F) arg9.view.ty) :
    iprop(at' c arg3 X3 ∗ at' c arg4 X4 ∗ at' c arg5 X5 ∗ at' c arg9 f9)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 k PUnit.unit)
          (fun _ => iprop(at' c arg3 X3 ∗ at' c arg4 X4 ∗ at' c arg5 X5
            ∗ (∃ f, at' c arg9 f ∗ ⌜arg9.view.read (Elt F) f
                = tileTrip (arg3.view.read (Elt F) X3) (arg4.view.read (Elt F) X4) (arg5.view.read (Elt F) X5) k (arg9.view.read (Elt F) f9)⌝))) := by
  have hk : k.val < 10 := Nat.lt_of_lt_of_le k.isLt k0_t1_abs.2.1
  unfold k0_t1_body
  iintro ⟨H3, H4, H5, H9⟩
  sl_exec
  sl_step
  isplitl [H3]; · iexact H3
  isplitl [H4]; · iexact H4
  isplitl [H5]; · iexact H5
  iexists _; isplitl [H9]; · iexact H9
  ipureintro
  sl_unfold_words
  rw [View.read_writes_full]
  simp only [View.readAt_eq_ld]
  unfold tileTrip
  congr 1
  exact View.ld_unit_zero (S := S128x1024) (by funext a; fin_cases a <;> rfl) _ _

end Cert.SparseIdeal.Hand

end
-- ==== Proof.SparseEntry.lean ====
/-
  One listed entry: what the kernel's innermost trip stores into the accumulator for the entry's row word and column
  word, and what the 1024 trips over one block of the list leave, at any float instance (hand-written, untrusted).
-/
module

public import proofs.«01_k».proof.Proof.SparseTrip

@[expose] public section

set_option maxRecDepth 65536
set_option maxHeartbeats 40000000

noncomputable section

namespace Cert.SparseIdeal.Hand

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `n` steps `f 0, …, f (n - 1)` taken from `a`: the state after the first `k` of them. -/
def iter {α : Type} (n : ℕ) (f : Fin n → α → α) (a : α) : ℕ → α
  | 0 => a
  | k + 1 => if h : k < n then f ⟨k, h⟩ (iter n f a k) else iter n f a k

/-- One more trip: the last step applied to what the earlier ones leave. -/
theorem iter_succ {α : Type} (n : ℕ) (f : Fin n → α → α) (a : α) (k : Fin n) : iter n f a (k.val + 1) = f k (iter n f a k.val) := by
  rw [iter, dif_pos k.isLt]

/-- The row word of entry `k` of a block of the list: word `k` of the block. -/
abbrev rowAt (x10 : Vec F S2048 .i32) (k : Fin k0_t4_loop.trips) : Elt F .i32 :=
  View.ld (Val := Elt F) x10 (Rect.unit (s := S2048) (k0_off16 k) S1.size (k0_off16_inb k)) (Shape.Idx.first (numel1_S1.symm ▸ Nat.one_pos))

/-- The value-and-column word of entry `k`: word `1024 + k` of the block. -/
abbrev colAt (x10 : Vec F S2048 .i32) (k : Fin k0_t4_loop.trips) : Elt F .i32 :=
  View.ld (Val := Elt F) x10 (Rect.unit (s := S2048) (k0_off17 k) S1.size (k0_off17_inb k)) (Shape.Idx.first (numel1_S1.symm ▸ Nat.one_pos))

open Classical in
/-- What an entry with row word `row` and value-and-column word `word` makes of the accumulator `acc`: where the entry is
    the chunk's, 128 columns are replaced by themselves plus a product with a one-entry matrix. -/
def entryStep (i : grid0.Coords) (x2 : Vec F S128x5120 .bf16) (row word : Elt F .i32) (acc : Vec F S128x1024 .f32) :
    Vec F S128x1024 .f32 :=
  if h : k0_chk2 i row word ∧ k0_cond1 i row word = 1#1 then
    VecWindow.put acc (k0_off19 word) S128x128.size
      (k0_pay5 (k0_pay507 row word (Scalar.andi word 65535#32))
        (k0_pay508 (View.ld (Val := Elt F) x2 (Rect.unit (s := S128x5120) (k0_off18 row) S128x128.size (k0_off18_inb i row word h.1 h.2))))
        (View.ld (Val := Elt F) acc (Rect.unit (s := S128x1024) (k0_off19 word) S128x128.size (k0_off19_inb i row word h.1 h.2))))
  else acc

/-- What the 1024 entries of the block `x10` make of the accumulator, after the first `k`. -/
abbrev blockIter (i : grid0.Coords) (x2 : Vec F S128x5120 .bf16) (x10 : Vec F S2048 .i32) (acc : Vec F S128x1024 .f32) : ℕ → Vec F S128x1024 .f32 :=
  iter k0_t4_loop.trips (fun k => entryStep i x2 (rowAt x10 k) (colAt x10 k)) acc

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg7 : Memref sig .tc .hbm S9437184 .i32) (harg7 : arg7.IsWhole) (arg8 : Memref sig .tc .vmem S128x1024 .bf16) (harg8 : arg8.IsWhole)
  (arg9 : Memref sig .tc .vmem S128x1024 .f32) (harg9 : arg9.IsWhole) (arg10 : Memref sig .tc .smem S2048 .i32) (harg10 : arg10.IsWhole)
  (arg11 : DmaSems sig S_)

/-- One entry run: the accumulator reads as `entryStep` of what it read before. -/
theorem entry_run (v12 : Elt F .i32) (X2 : BufTy.Contents (Elt F) arg2.view.ty) (X10 : BufTy.Contents (Elt F) arg10.view.ty)
    (k : Fin k0_t4_loop.trips) (hw : k0_chk2 i (rowAt (arg10.view.read (Elt F) X10) k) (colAt (arg10.view.read (Elt F) X10) k))
    (E : Set ℕ) (f9 : BufTy.Contents (Elt F) arg9.view.ty) :
    iprop(at' c arg2 X2 ∗ at' c arg10 X10 ∗ at' c arg9 f9)
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 harg10 arg11 v12 k PUnit.unit)
          (fun _ => iprop(at' c arg2 X2 ∗ at' c arg10 X10
            ∗ (∃ f, at' c arg9 f ∗ ⌜arg9.view.read (Elt F) f
                = entryStep i (arg2.view.read (Elt F) X2) (rowAt (arg10.view.read (Elt F) X10) k) (colAt (arg10.view.read (Elt F) X10) k)
                    (arg9.view.read (Elt F) f9)⌝))) := by
  have hk : k.val < 1024 := Nat.lt_of_lt_of_le k.isLt k0_t4_abs.2.1
  have k0_hw2 : k0_chk2 i (arg10.view.readAt (Elt F) (Rect.unit (s := S2048) (k0_off16 k) S1.size (k0_off16_inb k)).toLoadRect X10 (Shape.Idx.first (numel1_S1.symm ▸ Nat.one_pos))) (arg10.view.readAt (Elt F) (Rect.unit (s := S2048) (k0_off17 k) S1.size (k0_off17_inb k)).toLoadRect X10 (Shape.Idx.first (numel1_S1.symm ▸ Nat.one_pos))) := hw
  unfold k0_t4_body
  iintro ⟨H2, H10, H9⟩
  by_cases k0_h1 : k0_cond1 i (arg10.view.readAt (Elt F) (Rect.unit (s := S2048) (k0_off16 k) S1.size (k0_off16_inb k)).toLoadRect X10 (Shape.Idx.first (numel1_S1.symm ▸ Nat.one_pos))) (arg10.view.readAt (Elt F) (Rect.unit (s := S2048) (k0_off17 k) S1.size (k0_off17_inb k)).toLoadRect X10 (Shape.Idx.first (numel1_S1.symm ▸ Nat.one_pos))) = 1#1
  · sl_exec
    sl_step
    isplitl [H2]; · iexact H2
    isplitl [H10]; · iexact H10
    iexists _; isplitl [H9]; · iexact H9
    ipureintro
    unfold entryStep
    rw [dif_pos ⟨hw, k0_h1⟩]
    exact View.read_writes_cons_put arg9.view f9 _ _ [] rfl
  · sl_exec
    sl_step
    isplitl [H2]; · iexact H2
    isplitl [H10]; · iexact H10
    iexists _; isplitl [H9]; · iexact H9
    ipureintro
    unfold entryStep
    rw [dif_neg fun h => k0_h1 h.2]

/-- What the loop over a block's entries holds before entry `k`: `x`, the block, and the accumulator after `k` entries. -/
def entryInv (c : Dev nD) (i : grid0.Coords) (arg2 : Memref sig .tc .vmem S128x5120 .bf16) (arg9 : Memref sig .tc .vmem S128x1024 .f32)
    (arg10 : Memref sig .tc .smem S2048 .i32) (X2 : BufTy.Contents (Elt F) arg2.view.ty) (X10 : BufTy.Contents (Elt F) arg10.view.ty)
    (acc : Vec F S128x1024 .f32) (k : ℕ) (_ : Unit) : sProp 𝕄 :=
  iprop(at' c arg2 X2 ∗ at' c arg10 X10
      ∗ (∃ f, at' c arg9 f ∗ ⌜arg9.view.read (Elt F) f = blockIter i (arg2.view.read (Elt F) X2) (arg10.view.read (Elt F) X10) acc k⌝))

/-- One trip over a block's entries keeps what holds between trips. -/
theorem entry_step (v12 : Elt F .i32) (X2 : BufTy.Contents (Elt F) arg2.view.ty) (X10 : BufTy.Contents (Elt F) arg10.view.ty)
    (acc : Vec F S128x1024 .f32)
    (hw : ∀ k, k0_chk2 i (rowAt (arg10.view.read (Elt F) X10) k) (colAt (arg10.view.read (Elt F) X10) k)) (E : Set ℕ)
    (k : Fin k0_t4_loop.trips) (u : Unit) :
    entryInv c i arg2 arg9 arg10 X2 X10 acc k.val u
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 harg10 arg11 v12 k u)
          (entryInv c i arg2 arg9 arg10 X2 X10 acc (k.val + 1)) := by
  unfold entryInv
  iintro ⟨H2, H10, ⟨%f, H9, %hf⟩⟩
  iapply (wp_wand_r Idealize.ShloMosaic.frame (wpE (defs₀ (F := F)) 𝒱 (c : Thread nD τ) bd) E)
  isplitl [H2 H10 H9]
  · iapply (entry_run 𝒱 c bd i arg1 harg1 arg2 harg2 arg3 harg3 arg4 harg4 arg5 harg5 arg6 harg6 arg7 harg7 arg8 harg8 arg9 harg9 arg10 harg10 arg11 v12 X2 X10 k (hw k) E f)
    isplitl [H2]; · iexact H2
    isplitl [H10]; · iexact H10
    iexact H9
  · iintro %_ ⟨H2, H10, ⟨%f', H9, %hf'⟩⟩
    isplitl [H2]; · iexact H2
    isplitl [H10]; · iexact H10
    iexists f'; isplitl [H9]; · iexact H9
    ipureintro; rw [hf', hf, blockIter, iter_succ]

end Cert.SparseIdeal.Hand

end
-- ==== Proof.SparseList.lean ====
/-
  The list of entries: one block of it fetched and gone through, one list of blocks, and all 32 lists, at any float
  instance (hand-written, untrusted).
-/
module

public import proofs.«01_k».proof.Proof.SparseEntry
public import Idealize.ShloMosaic.Lib.LoopRemainder

@[expose] public section

set_option maxRecDepth 65536
set_option maxHeartbeats 40000000

noncomputable section

namespace Cert.SparseIdeal.Hand

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The accumulator, the block buffer, the list left in place, and the transfers' semaphore. -/
abbrev scM : Memref sig .tc .vmem S128x1024 .f32 := Memref.whole cc0_scratch0
abbrev blM : Memref sig .tc .smem S2048 .i32 := Memref.whole cc0_scratch1
abbrev hbM : Memref sig .tc .hbm S9437184 .i32 := Memref.whole main_arg3

/-- A memref's buffer held whole on core `c` at contents `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The 2048 words of block `k3` of list `k2`, as they lie in the array of all lists. -/
abbrev blockWords (x7 : Vec F S9437184 .i32) (k2 : Fin k0_t2_loop.trips) (v12 : Elt F .i32) (hw1 : k0_chk1 k2 v12)
    (k3 : Fin (k0_t3_loop v12).trips) : Vec F S2048 .i32 :=
  View.ld (Val := Elt F) x7 (Rect.unit (s := S9437184) (k0_off15 k2 v12 k3) S2048.size (k0_off15_inb k2 v12 hw1 k3))

/-- What list `k2` makes of the accumulator, after its first `k` blocks. -/
abbrev listIter (i : grid0.Coords) (x2 : Vec F S128x5120 .bf16) (x7 : Vec F S9437184 .i32) (k2 : Fin k0_t2_loop.trips) (v12 : Elt F .i32)
    (hw1 : k0_chk1 k2 v12) (acc : Vec F S128x1024 .f32) : ℕ → Vec F S128x1024 .f32 :=
  iter (k0_t3_loop v12).trips (fun k3 a => blockIter i x2 (blockWords x7 k2 v12 hw1 k3) a k0_t4_loop.trips) acc

/-- The number of blocks list `k2` has in use. -/
abbrev cntAt (x1 : Vec F S32x128 .i32) (k2 : Fin k0_t2_loop.trips) : Elt F .i32 :=
  View.ld (Val := Elt F) x1 (Rect.unit (s := S32x128) (k0_off14 k2) S1x1.size (k0_off14_inb k2)) (Shape.Idx.first (numel1_S1x1.symm ▸ Nat.one_pos))

/-- What the lists make of the accumulator, after the first `k` of them. -/
abbrev listsIter (i : grid0.Coords) (x1 : Vec F S32x128 .i32) (x2 : Vec F S128x5120 .bf16) (x7 : Vec F S9437184 .i32)
    (hc1 : ∀ k2, k0_chk1 k2 (cntAt x1 k2)) (acc : Vec F S128x1024 .f32) : ℕ → Vec F S128x1024 .f32 :=
  iter k0_t2_loop.trips (fun k2 a => listIter i x2 x7 k2 (cntAt x1 k2) (hc1 k2) a (k0_t3_loop (cntAt x1 k2)).trips) acc

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg8 : Memref sig .tc .vmem S128x1024 .bf16) (harg8 : arg8.IsWhole)

/-- What is read of the block buffer after it is written whole. -/
theorem read_block (w : Vec F S2048 .i32) : blM.view.read (Elt F) (blM.view.writes (Elt F) blM.view.junk [⟨Rect.whole S2048, w⟩]) = w :=
  View.read_writes_full blM.view _ _ w []

/-- One block run: fetched into the block buffer, then its 1024 entries gone through. -/
theorem block_run (X2 : BufTy.Contents (Elt F) arg2.view.ty) (X7 : Buf (Elt F) (hbM.view.loc (c : Thread nD τ)))
    (k2 : Fin k0_t2_loop.trips) (v12 : Elt F .i32) (hw1 : k0_chk1 k2 v12) (k3 : Fin (k0_t3_loop v12).trips)
    (hw : ∀ k, k0_chk2 i (rowAt (blockWords (hbM.view.read (Elt F) X7) k2 v12 hw1 k3) k) (colAt (blockWords (hbM.view.read (Elt F) X7) k2 v12 hw1 k3) k))
    (f9 : BufTy.Contents (Elt F) scM.view.ty) (f10 : BufTy.Contents (Elt F) blM.view.ty) (W : Waits sig Unit) :
    iprop(at' c arg2 X2 ∗ hbPt c hbM X7 ∗ at' c blM f10 ∗ at' c scM f9 ∗ semVal ((c : Thread nD τ), SemLoc.dma 11) 0 ∗ owes (c : Thread nD τ) 0 W)
      ⊢ wp frame (wpE (defs₀ (F := F)) 𝒱 (c : Thread nD τ) bd) Set.univ
          (k0_t3_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 v12 hw1 k3 PUnit.unit)
          (fun _ => iprop(at' c arg2 X2 ∗ hbPt c hbM X7 ∗ (∃ f, at' c blM f)
            ∗ (∃ f, at' c scM f ∗ ⌜scM.view.read (Elt F) f
                = blockIter i (arg2.view.read (Elt F) X2) (blockWords (hbM.view.read (Elt F) X7) k2 v12 hw1 k3) (scM.view.read (Elt F) f9) k0_t4_loop.trips⌝)
            ∗ semVal ((c : Thread nD τ), SemLoc.dma 11) 0 ∗ (∃ W, owes (c : Thread nD τ) 0 W))) := by
  unfold k0_t3_body
  iintro ⟨H2, H7, H10, H9, Hq, HO⟩
  sl_exec
  have hX : blM.view.read (Elt F) (blM.view.writes (Elt F) blM.view.junk [⟨Rect.whole S2048, block_run.sl.dma0 c X7 k2 v12 hw1 k3⟩]) = blockWords (hbM.view.read (Elt F) X7) k2 v12 hw1 k3 := read_block _
  iapply (Scf.wp_for_bind frame (wpE (defs₀ (F := F)) 𝒱 (c : Thread nD τ) bd) Set.univ k0_t4_loop.lb k0_t4_loop.ub k0_t4_loop.st k0_t4_ok _ _
    (entryInv c i arg2 scM blM X2 (blM.view.writes (Elt F) blM.view.junk [⟨Rect.whole S2048, block_run.sl.dma0 c X7 k2 v12 hw1 k3⟩]) (scM.view.read (Elt F) f9))
    (entry_step 𝒱 c bd i arg1 harg1 arg2 harg2 arg3 harg3 arg4 harg4 arg5 harg5 arg6 harg6 hbM (Memref.isWhole_whole _) arg8 harg8 scM (Memref.isWhole_whole _) blM (Memref.isWhole_whole _) cc0_scratch2 v12 X2 (blM.view.writes (Elt F) blM.view.junk [⟨Rect.whole S2048, block_run.sl.dma0 c X7 k2 v12 hw1 k3⟩]) (scM.view.read (Elt F) f9) (by rw [hX]; exact hw) Set.univ)) $$ [H2 H10 H9]
  · unfold entryInv
    isplitl [H2]; · iexact H2
    isplitl [H10]; · iexact H10
    iexists f9; isplitl [H9]; · iexact H9
    ipureintro; rfl
  · unfold entryInv
    iintro %_ ⟨H2, H10, ⟨%f, H9, %hf⟩⟩
    sl_step
    isplitl [H2]; · iexact H2
    isplitl [H7]; · iexact H7
    isplitl [H10]; · iexists _; iexact H10
    isplitl [H9]
    · iexists f; isplitl [H9]; · iexact H9
      ipureintro; rw [hf, hX]
    isplitl [Hq]; · iexact Hq
    iexists _; iexact HO

/-- What the loop over a list's blocks holds before block `k`. -/
def blockInv (c : Dev nD) (i : grid0.Coords) (arg2 : Memref sig .tc .vmem S128x5120 .bf16) (X2 : BufTy.Contents (Elt F) arg2.view.ty)
    (X7 : Buf (Elt F) (hbM.view.loc (c : Thread nD τ))) (k2 : Fin k0_t2_loop.trips) (v12 : Elt F .i32) (hw1 : k0_chk1 k2 v12)
    (acc : Vec F S128x1024 .f32) (k : ℕ) (_ : Unit) : sProp 𝕄 :=
  iprop(at' c arg2 X2 ∗ hbPt c hbM X7 ∗ (∃ f, at' c blM f)
      ∗ (∃ f, at' c scM f ∗ ⌜scM.view.read (Elt F) f = listIter i (arg2.view.read (Elt F) X2) (hbM.view.read (Elt F) X7) k2 v12 hw1 acc k⌝)
      ∗ semVal ((c : Thread nD τ), SemLoc.dma 11) 0 ∗ (∃ W, owes (c : Thread nD τ) 0 W))

/-- One trip over a list's blocks, with its copy, keeps what holds between trips. -/
theorem block_step (X2 : BufTy.Contents (Elt F) arg2.view.ty) (X7 : Buf (Elt F) (hbM.view.loc (c : Thread nD τ)))
    (k2 : Fin k0_t2_loop.trips) (v12 : Elt F .i32) (hw1 : k0_chk1 k2 v12) (acc : Vec F S128x1024 .f32)
    (hw : ∀ k3 k, k0_chk2 i (rowAt (blockWords (hbM.view.read (Elt F) X7) k2 v12 hw1 k3) k) (colAt (blockWords (hbM.view.read (Elt F) X7) k2 v12 hw1 k3) k))
    (k3 : Fin (k0_t3_loop v12).trips) (u : Unit) :
    blockInv c i arg2 X2 X7 k2 v12 hw1 acc k3.val u
      ⊢ wp frame (wpE (defs₀ (F := F)) 𝒱 (c : Thread nD τ) bd) Set.univ
          (k0_t3_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 v12 hw1 k3 u)
          (blockInv c i arg2 X2 X7 k2 v12 hw1 acc (k3.val + 1)) := by
  unfold blockInv
  iintro ⟨H2, H7, ⟨%f10, H10⟩, ⟨%f, H9, %hf⟩, Hq, ⟨%W, HO⟩⟩
  iapply (wp_wand_r Idealize.ShloMosaic.frame (wpE (defs₀ (F := F)) 𝒱 (c : Thread nD τ) bd) Set.univ)
  isplitl [H2 H7 H10 H9 Hq HO]
  · iapply (block_run 𝒱 c bd i arg1 harg1 arg2 harg2 arg3 harg3 arg4 harg4 arg5 harg5 arg6 harg6 arg8 harg8 X2 X7 k2 v12 hw1 k3 (hw k3) f f10 W)
    isplitl [H2]; · iexact H2
    isplitl [H7]; · iexact H7
    isplitl [H10]; · iexact H10
    isplitl [H9]; · iexact H9
    isplitl [Hq]; · iexact Hq
    iexact HO
  · iintro %_ ⟨H2, H7, H10, ⟨%f', H9, %hf'⟩, Hq, HO⟩
    isplitl [H2]; · iexact H2
    isplitl [H7]; · iexact H7
    isplitl [H10]; · iexact H10
    isplitl [H9]
    · iexists f'; isplitl [H9]; · iexact H9
      ipureintro; rw [hf', hf, listIter, iter_succ]
    isplitl [Hq]; · iexact Hq
    iexact HO

/-- What the loop over the lists holds before list `k`. -/
def listInv (c : Dev nD) (i : grid0.Coords) (arg1 : Memref sig .tc .smem S32x128 .i32) (arg2 : Memref sig .tc .vmem S128x5120 .bf16)
    (X1 : BufTy.Contents (Elt F) arg1.view.ty) (X2 : BufTy.Contents (Elt F) arg2.view.ty)
    (X7 : Buf (Elt F) (hbM.view.loc (c : Thread nD τ))) (hc1 : ∀ k2, k0_chk1 k2 (cntAt (arg1.view.read (Elt F) X1) k2))
    (acc : Vec F S128x1024 .f32) (k : ℕ) (_ : Unit) : sProp 𝕄 :=
  iprop(at' c arg1 X1 ∗ at' c arg2 X2 ∗ hbPt c hbM X7 ∗ (∃ f, at' c blM f)
      ∗ (∃ f, at' c scM f ∗ ⌜scM.view.read (Elt F) f
          = listsIter i (arg1.view.read (Elt F) X1) (arg2.view.read (Elt F) X2) (hbM.view.read (Elt F) X7) hc1 acc k⌝)
      ∗ semVal ((c : Thread nD τ), SemLoc.dma 11) 0 ∗ (∃ W, owes (c : Thread nD τ) 0 W))

/-- One trip over the lists keeps what holds between trips. -/
theorem list_step (X1 : BufTy.Contents (Elt F) arg1.view.ty) (X2 : BufTy.Contents (Elt F) arg2.view.ty)
    (X7 : Buf (Elt F) (hbM.view.loc (c : Thread nD τ))) (hc1 : ∀ k2, k0_chk1 k2 (cntAt (arg1.view.read (Elt F) X1) k2))
    (acc : Vec F S128x1024 .f32)
    (hw : ∀ k2 k3 k, k0_chk2 i (rowAt (blockWords (hbM.view.read (Elt F) X7) k2 _ (hc1 k2) k3) k) (colAt (blockWords (hbM.view.read (Elt F) X7) k2 _ (hc1 k2) k3) k))
    (k2 : Fin k0_t2_loop.trips) (u : Unit) :
    listInv c i arg1 arg2 X1 X2 X7 hc1 acc k2.val u
      ⊢ wp frame (wpE (defs₀ (F := F)) 𝒱 (c : Thread nD τ) bd) Set.univ
          (k0_t2_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 u)
          (listInv c i arg1 arg2 X1 X2 X7 hc1 acc (k2.val + 1)) := by
  have k0_hw1 : k0_chk1 k2 (arg1.view.readAt (Elt F) (Rect.unit (s := S32x128) (k0_off14 k2) S1x1.size (k0_off14_inb k2)).toLoadRect X1 (Shape.Idx.first (numel1_S1x1.symm ▸ Nat.one_pos))) := hc1 k2
  unfold listInv k0_t2_body
  iintro ⟨H1, H2, H7, H10, ⟨%f, H9, %hf⟩, Hq, HO⟩
  sl_exec
  iapply (Scf.wp_for_bind frame (wpE (defs₀ (F := F)) 𝒱 (c : Thread nD τ) bd) Set.univ _ _ _ _ _ _
    (blockInv c i arg2 X2 X7 k2 _ (hc1 k2) (scM.view.read (Elt F) f))
    (block_step 𝒱 c bd i arg1 harg1 arg2 harg2 arg3 harg3 arg4 harg4 arg5 harg5 arg6 harg6 arg8 harg8 X2 X7 k2 _ (hc1 k2) (scM.view.read (Elt F) f) (hw k2))) $$ [H2 H7 H10 H9 Hq HO]
  · unfold blockInv
    isplitl [H2]; · iexact H2
    isplitl [H7]; · iexact H7
    isplitl [H10]; · iexact H10
    isplitl [H9]
    · iexists f; isplitl [H9]; · iexact H9
      ipureintro; rfl
    isplitl [Hq]; · iexact Hq
    iexact HO
  · unfold blockInv
    iintro %_ ⟨H2, H7, H10, ⟨%f', H9, %hf'⟩, Hq, HO⟩
    sl_exec
    sl_step
    isplitl [H1]; · iexact H1
    isplitl [H2]; · iexact H2
    isplitl [H7]; · iexact H7
    isplitl [H10]; · iexact H10
    isplitl [H9]
    · iexists f'; isplitl [H9]; · iexact H9
      ipureintro; rw [hf', hf, listsIter, iter_succ]
    isplitl [Hq]; · iexact Hq
    iexact HO

end Cert.SparseIdeal.Hand

end
-- ==== Proof.SparseBody.lean ====
/-
  The kernel's body run once, on any staging buffers: the accumulator starts from the partial result, takes up ten tiles of
  the table part and then the 32 lists of entries, and is rounded into the result's tile (hand-written, untrusted).
-/
module

public import proofs.«01_k».proof.Proof.SparseList

@[expose] public section

set_option maxRecDepth 65536
set_option maxHeartbeats 40000000

noncomputable section

namespace Cert.SparseIdeal.Hand

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the tiles make of the accumulator, after the first `k`. -/
abbrev tilesIter (x3 : Vec F S128x5120 .bf16) (x4 : Vec F S80x1x8x8x128 .i32) (x5 : Vec F S80x1x4x8x128 .i32) (acc : Vec F S128x1024 .f32) :
    ℕ → Vec F S128x1024 .f32 :=
  iter k0_t1_loop.trips (fun k a => tileTrip x3 x4 x5 k a) acc

/-- What the words read at grid point `i` must satisfy for the body's assumptions to hold. -/
abbrev WordsOK (i : grid0.Coords) (x1 : Vec F S32x128 .i32) (x7 : Vec F S9437184 .i32) : Prop :=
  ∃ hc1 : ∀ k2, k0_chk1 k2 (cntAt x1 k2), ∀ k2 k3 k, k0_chk2 i (rowAt (blockWords x7 k2 _ (hc1 k2) k3) k) (colAt (blockWords x7 k2 _ (hc1 k2) k3) k)

/-- The tile the body leaves, from the blocks it is handed. -/
def outVal (i : grid0.Coords) (x1 : Vec F S32x128 .i32) (x2 x3 : Vec F S128x5120 .bf16) (x4 : Vec F S80x1x8x8x128 .i32)
    (x5 : Vec F S80x1x4x8x128 .i32) (x6 : Vec F S128x1024 .f32) (x7 : Vec F S9437184 .i32) (h : WordsOK i x1 x7) : Vec F S128x1024 .bf16 :=
  k0_pay7 (listsIter i x1 x2 x7 h.fst (tilesIter x3 x4 x5 (k0_pay1 x6) k0_t1_loop.trips) k0_t2_loop.trips)

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg8 : Memref sig .tc .vmem S128x1024 .bf16) (harg8 : arg8.IsWhole)

/-- What the loop over the tiles holds before tile `k`. -/
def tileInv (c : Dev nD) (arg3 : Memref sig .tc .vmem S128x5120 .bf16) (arg4 : Memref sig .tc .vmem S80x1x8x8x128 .i32)
    (arg5 : Memref sig .tc .vmem S80x1x4x8x128 .i32) (X3 : BufTy.Contents (Elt F) arg3.view.ty) (X4 : BufTy.Contents (Elt F) arg4.view.ty)
    (X5 : BufTy.Contents (Elt F) arg5.view.ty) (acc : Vec F S128x1024 .f32) (k : ℕ) (_ : Unit) : sProp 𝕄 :=
  iprop(at' c arg3 X3 ∗ at' c arg4 X4 ∗ at' c arg5 X5
      ∗ (∃ f, at' c scM f ∗ ⌜scM.view.read (Elt F) f
          = tilesIter (arg3.view.read (Elt F) X3) (arg4.view.read (Elt F) X4) (arg5.view.read (Elt F) X5) acc k⌝))

/-- One trip over the tables keeps what holds between trips. -/
theorem tile_step (X3 : BufTy.Contents (Elt F) arg3.view.ty) (X4 : BufTy.Contents (Elt F) arg4.view.ty)
    (X5 : BufTy.Contents (Elt F) arg5.view.ty) (acc : Vec F S128x1024 .f32) (k : Fin k0_t1_loop.trips) (u : Unit) :
    tileInv c arg3 arg4 arg5 X3 X4 X5 acc k.val u
      ⊢ wp frame (wpE (defs₀ (F := F)) 𝒱 (c : Thread nD τ) bd) Set.univ
          (k0_t1_body (F := F) i arg1 harg1 arg2 harg2 arg3 harg3 arg4 harg4 arg5 harg5 arg6 harg6 hbM (Memref.isWhole_whole _) arg8 harg8 scM (Memref.isWhole_whole _) blM (Memref.isWhole_whole _) cc0_scratch2 k u)
          (tileInv c arg3 arg4 arg5 X3 X4 X5 acc (k.val + 1)) := by
  unfold tileInv
  iintro ⟨H3, H4, H5, ⟨%f, H9, %hf⟩⟩
  iapply (wp_wand_r Idealize.ShloMosaic.frame (wpE (defs₀ (F := F)) 𝒱 (c : Thread nD τ) bd) Set.univ)
  isplitl [H3 H4 H5 H9]
  · iapply (tile_run 𝒱 c bd i arg1 harg1 arg2 harg2 arg3 harg3 arg4 harg4 arg5 harg5 arg6 harg6 hbM (Memref.isWhole_whole _) arg8 harg8 scM (Memref.isWhole_whole _) blM (Memref.isWhole_whole _) cc0_scratch2 X3 X4 X5 k Set.univ f)
    isplitl [H3]; · iexact H3
    isplitl [H4]; · iexact H4
    isplitl [H5]; · iexact H5
    iexact H9
  · iintro %_ ⟨H3, H4, H5, ⟨%f', H9, %hf'⟩⟩
    isplitl [H3]; · iexact H3
    isplitl [H4]; · iexact H4
    isplitl [H5]; · iexact H5
    iexists f'; isplitl [H9]; · iexact H9
    ipureintro; rw [hf', hf, tilesIter, iter_succ]

/-- The body's triple. -/
theorem kernelRun (x1 : Vec F S32x128 .i32) (x2 x3 : Vec F S128x5120 .bf16) (x4 : Vec F S80x1x8x8x128 .i32) (x5 : Vec F S80x1x4x8x128 .i32)
    (x6 : Vec F S128x1024 .f32) (X7 : Buf (Elt F) (hbM.view.loc (c : Thread nD τ))) (h : WordsOK i x1 (hbM.view.read (Elt F) X7))
    (W : Waits sig Unit) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg8 fullShare d) ∗ (∃ d, owns (c : Thread nD τ) scM fullShare d)
        ∗ (∃ d, owns (c : Thread nD τ) blM fullShare d) ∗ hbPt c hbM X7
        ∗ semVal ((c : Thread nD τ), SemLoc.dma 11) 0 ∗ owes (c : Thread nD τ) 0 W
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg8 fullShare (outVal i x1 x2 x3 x4 x5 x6 (hbM.view.read (Elt F) X7) h)
            ∗ (∃ d, owns (c : Thread nD τ) scM fullShare d) ∗ (∃ d, owns (c : Thread nD τ) blM fullShare d) ∗ hbPt c hbM X7
            ∗ semVal ((c : Thread nD τ), SemLoc.dma 11) 0 ∗ (∃ W', owes (c : Thread nD τ) 0 W')) -∗ K ⟨⟩))
      ⊢ wp frame (wpE (defs₀ (F := F)) 𝒱 (c : Thread nD τ) bd) Set.univ (cc0_sparse (F := F) i arg1 harg1 arg2 harg2 arg3 harg3 arg4 harg4 arg5 harg5 arg6 harg6 hbM (Memref.isWhole_whole _) arg8 harg8 scM (Memref.isWhole_whole _) blM (Memref.isWhole_whole _) cc0_scratch2) K := by
  simp only [cc0_sparse_eq_skeleton]; unfold cc0_sparse_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d8, %f8, -, H8⟩, ⟨%d9, %f9, -, H9⟩, ⟨%d10, %f10, -, H10⟩, H7, Hq, HO, Hk⟩
  subst h1 h2 h3 h4 h5 h6
  sl_exec
  have h0 : scM.view.read (Elt F) (scM.view.writes (Elt F) scM.view.junk (kernelRun.sl.H9_1 c arg6 f6)) = k0_pay1 (arg6.view.read (Elt F) f6) := by
    sl_unfold_words
    rw [View.read_writes_full]
    simp only [View.readAt_eq_ld]
    refine congrArg k0_pay1 ?_
    exact View.ld_unit_zero (S := S128x1024) (by funext a; fin_cases a <;> rfl) _ _
  iapply (Scf.wp_for_bind frame (wpE (defs₀ (F := F)) 𝒱 (c : Thread nD τ) bd) Set.univ _ _ _ _ _ _
    (tileInv c arg3 arg4 arg5 f3 f4 f5 (k0_pay1 (arg6.view.read (Elt F) f6)))
    (tile_step 𝒱 c bd i arg1 harg1 arg2 harg2 arg3 harg3 arg4 harg4 arg5 harg5 arg6 harg6 arg8 harg8 f3 f4 f5 (k0_pay1 (arg6.view.read (Elt F) f6)))) $$ [H3 H4 H5 H9]
  · unfold tileInv
    isplitl [H3]; · iexact H3
    isplitl [H4]; · iexact H4
    isplitl [H5]; · iexact H5
    iexists _; isplitl [H9]; · iexact H9
    ipureintro; exact h0
  unfold tileInv
  iintro %_ ⟨H3, H4, H5, ⟨%g, H9, %hg⟩⟩
  iapply (Scf.wp_for_bind frame (wpE (defs₀ (F := F)) 𝒱 (c : Thread nD τ) bd) Set.univ _ _ _ _ _ _
    (listInv c i arg1 arg2 f1 f2 X7 h.fst (scM.view.read (Elt F) g))
    (list_step 𝒱 c bd i arg1 harg1 arg2 harg2 arg3 harg3 arg4 harg4 arg5 harg5 arg6 harg6 arg8 harg8 f1 f2 X7 h.fst (scM.view.read (Elt F) g) h.snd)) $$ [H1 H2 H7 H10 H9 Hq HO]
  · unfold listInv
    isplitl [H1]; · iexact H1
    isplitl [H2]; · iexact H2
    isplitl [H7]; · iexact H7
    isplitl [H10]; · iexists _; iexact H10
    isplitl [H9]
    · iexists _; isplitl [H9]; · iexact H9
      ipureintro; rfl
    isplitl [Hq]; · iexact Hq
    iexists _; iexact HO
  unfold listInv
  iintro %_ ⟨H1, H2, H7, ⟨%g10, H10⟩, ⟨%g', H9, %hg'⟩, Hq, HO⟩
  sl_exec
  sl_step
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H8]
  · iexists _; isplitr; swap; · iexact H8
    ipureintro
    sl_unfold_words
    rw [View.read_writes_full]
    simp only [View.readAt_eq_ld]
    unfold outVal
    refine congrArg k0_pay7 ?_
    refine (View.ld_unit_zero (S := S128x1024) (by funext a; fin_cases a <;> rfl) _ _).trans ?_
    rw [hg', hg]
  isplitl [H9]
  · iexists _, _; isplitr; swap; · iexact H9
    ipureintro; rfl
  isplitl [H10]
  · iexists _, _; isplitr; swap; · iexact H10
    ipureintro; rfl
  isplitl [H7]; · iexact H7
  isplitl [Hq]; · iexact Hq
  iexact HO

end Cert.SparseIdeal.Hand

end
-- ==== Proof.SparseRun.lean ====
/-
  The launch: the body obligation at every grid point, the whole run, and what the result array and the arguments hold
  after it (hand-written, untrusted).
-/
module

public import proofs.«01_k».proof.Proof.SparseBody

@[expose] public section

set_option maxRecDepth 65536
set_option maxHeartbeats 40000000

noncomputable section

namespace Cert.SparseIdeal.Hand

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-- The words every grid point reads make the body's assumptions hold. -/
abbrev WordsAt : Prop := ∀ (c : Dev nD) (t : Fin cfg0.N), WordsOK (F := F) (grid0.coords t) (iblk m c 0 t) (hbM.view.read (Elt F) (V m c main_arg3))

/-- The transfers' semaphore, by its number. -/
abbrev osem0 : Fin 1 → SemLoc sig := fun j => (![SemLoc.dma 11] : Fin 1 → SemLoc sig) j
/-- What the launch asks of the body's own semaphore. -/
theorem ownSemFacts0 : Pipeline.OwnSemFacts spec0 osem0 := by decide
/-- The body's own semaphores are the one the copies wait on. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The lists, left in place. -/
def H0 : Finset (Ref sig .tc) := {main_arg3}
/-- The buffers the body reads outside its windows are among those no window stages. -/
theorem H0_sub : H0 ⊆ Pipeline.restRefs sig spec0 := by decide
/-- Those buffers are the lists of entries alone. -/
theorem hbmPts0_eq (c : Dev nD) :
    (bigSep H0 (fun b => ((c : Thread nD τ).loc b) ↦{fullShare} V m c b) : sProp 𝕄) = iprop(hbPt c hbM (V m c main_arg3)) := by
  rw [BI.bigSep_eq_bigSepL_of_eq [main_arg3] (by decide) (by decide)]; rfl

/-- What is held between grid points, part by part. -/
theorem PhiD0_eq (c : Dev nD) :
    (Pipeline.ΦD osem0 spec0 H0 (V m) c : sProp 𝕄)
      = iprop(iprop((∃ d, owns (c : Thread nD τ) scM fullShare d) ∗ (∃ d, owns (c : Thread nD τ) blM fullShare d)) ∗ (∃ r, prngReg c r)
          ∗ iprop(semVal ((c : Thread nD τ), SemLoc.dma 11) 0)
          ∗ iprop(hbPt c hbM (V m c main_arg3))) := by
  rw [Pipeline.ΦD_eq, scopedRest0_eq, ownSems00_eq, hbmPts0_eq]; simp only [scM, blM, owns_whole]; try rfl

/-- The proof data on core `c`: every input left in place, the result's tile at what the body makes of the point's blocks. -/
def dats (hok : WordsAt m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal (grid0.coords t) (iblk m c 0 t) (iblk m c 1 t) (iblk m c 2 t) (iblk m c 3 t) (iblk m c 4 t) (iblk m c 5 t)
        (hbM.view.read (Elt F) (V m c main_arg3)) (hok c t)
  Φ _ := Pipeline.ΦD osem0 spec0 H0 (V m) c
  q _ := fullShare
  owed _ := 0

/-- Each window's array holds, at the start, what the host lines before the call left in it. -/
theorem A_eq (hok : WordsAt m) (c : Dev nD) (w : Fin cfg0.W) : (dats m hok 0 c).A w = V m c (Pipeline.arrRef spec0 w) := by dsimp only [dats]

/-- What window 0 holds after a point. -/
theorem aft_0 (hok : WordsAt m) (c : Dev nD) (t : Fin cfg0.N) : (dats m hok 0 c).after 0 t = iblk m c 0 t := by dsimp only [dats]
/-- What window 1 holds after a point. -/
theorem aft_1 (hok : WordsAt m) (c : Dev nD) (t : Fin cfg0.N) : (dats m hok 0 c).after 1 t = iblk m c 1 t := by dsimp only [dats]
/-- What window 2 holds after a point. -/
theorem aft_2 (hok : WordsAt m) (c : Dev nD) (t : Fin cfg0.N) : (dats m hok 0 c).after 2 t = iblk m c 2 t := by dsimp only [dats]
/-- What window 3 holds after a point. -/
theorem aft_3 (hok : WordsAt m) (c : Dev nD) (t : Fin cfg0.N) : (dats m hok 0 c).after 3 t = iblk m c 3 t := by dsimp only [dats]
/-- What window 4 holds after a point. -/
theorem aft_4 (hok : WordsAt m) (c : Dev nD) (t : Fin cfg0.N) : (dats m hok 0 c).after 4 t = iblk m c 4 t := by dsimp only [dats]
/-- What window 5 holds after a point. -/
theorem aft_5 (hok : WordsAt m) (c : Dev nD) (t : Fin cfg0.N) : (dats m hok 0 c).after 5 t = iblk m c 5 t := by dsimp only [dats]
/-- What window 6 holds after a point. -/
theorem aft_6 (hok : WordsAt m) (c : Dev nD) (t : Fin cfg0.N) : (dats m hok 0 c).after 6 t
    = outVal (grid0.coords t) (iblk m c 0 t) (iblk m c 1 t) (iblk m c 2 t) (iblk m c 3 t) (iblk m c 4 t) (iblk m c 5 t)
        (hbM.view.read (Elt F) (V m c main_arg3)) (hok c t) := by dsimp only [dats]

/-- What window 0 holds before a point: its block. -/
theorem bef_0 (hok : WordsAt m) (c : Dev nD) (t : Fin cfg0.N) (d) : (dats m hok 0 c).before 0 t d = iblk m c 0 t :=
  ((dats m hok 0 c).before_in_eq_fetched 0 rfl (fun _ => rfl) (fun _ _ _ => rfl) (fun t => by rw [aft_0]; unfold Dat.blockOf iblk; rw [A_eq]; try rfl) t d).trans
    (by unfold Dat.fetched Dat.blockOf iblk; rw [A_eq]; try rfl)
/-- What window 1 holds before a point: its block. -/
theorem bef_1 (hok : WordsAt m) (c : Dev nD) (t : Fin cfg0.N) (d) : (dats m hok 0 c).before 1 t d = iblk m c 1 t :=
  ((dats m hok 0 c).before_in_eq_fetched 1 rfl (fun _ => rfl) (fun _ _ _ => rfl) (fun t => by rw [aft_1]; unfold Dat.blockOf iblk; rw [A_eq]; try rfl) t d).trans
    (by unfold Dat.fetched Dat.blockOf iblk; rw [A_eq]; try rfl)
/-- What window 2 holds before a point: its block. -/
theorem bef_2 (hok : WordsAt m) (c : Dev nD) (t : Fin cfg0.N) (d) : (dats m hok 0 c).before 2 t d = iblk m c 2 t :=
  ((dats m hok 0 c).before_in_eq_fetched 2 rfl (fun _ => rfl) (fun _ _ _ => rfl) (fun t => by rw [aft_2]; unfold Dat.blockOf iblk; rw [A_eq]; try rfl) t d).trans
    (by unfold Dat.fetched Dat.blockOf iblk; rw [A_eq]; try rfl)
/-- What window 3 holds before a point: its block. -/
theorem bef_3 (hok : WordsAt m) (c : Dev nD) (t : Fin cfg0.N) (d) : (dats m hok 0 c).before 3 t d = iblk m c 3 t :=
  ((dats m hok 0 c).before_in_eq_fetched 3 rfl (fun _ => rfl) (fun _ _ _ => rfl) (fun t => by rw [aft_3]; unfold Dat.blockOf iblk; rw [A_eq]; try rfl) t d).trans
    (by unfold Dat.fetched Dat.blockOf iblk; rw [A_eq]; try rfl)
/-- What window 4 holds before a point: its block. -/
theorem bef_4 (hok : WordsAt m) (c : Dev nD) (t : Fin cfg0.N) (d) : (dats m hok 0 c).before 4 t d = iblk m c 4 t :=
  ((dats m hok 0 c).before_in_eq_fetched 4 rfl (fun _ => rfl) (fun _ _ _ => rfl) (fun t => by rw [aft_4]; unfold Dat.blockOf iblk; rw [A_eq]; try rfl) t d).trans
    (by unfold Dat.fetched Dat.blockOf iblk; rw [A_eq]; try rfl)
/-- What window 5 holds before a point: its block. -/
theorem bef_5 (hok : WordsAt m) (c : Dev nD) (t : Fin cfg0.N) (d) : (dats m hok 0 c).before 5 t d = iblk m c 5 t :=
  ((dats m hok 0 c).before_in_eq_fetched 5 rfl (fun _ => rfl) (fun _ _ _ => rfl) (fun t => by rw [aft_5]; unfold Dat.blockOf iblk; rw [A_eq]; try rfl) t d).trans
    (by unfold Dat.fetched Dat.blockOf iblk; rw [A_eq]; try rfl)

def bodyPre (hok : WordsAt m) (c : Dev nD) (t : Fin cfg0.N) : sProp 𝕄 :=
  iprop((dats m hok 0 c).Φ t.castSucc ∗ (dats m hok 0 c).owesAt () t.castSucc
    ∗ (∃ d, owns (c : Thread nD τ) (st0_0 t) fullShare ((dats m hok 0 c).before 0 t d))
    ∗ (∃ d, owns (c : Thread nD τ) (st0_1 t) fullShare ((dats m hok 0 c).before 1 t d))
    ∗ (∃ d, owns (c : Thread nD τ) (st0_2 t) fullShare ((dats m hok 0 c).before 2 t d))
    ∗ (∃ d, owns (c : Thread nD τ) (st0_3 t) fullShare ((dats m hok 0 c).before 3 t d))
    ∗ (∃ d, owns (c : Thread nD τ) (st0_4 t) fullShare ((dats m hok 0 c).before 4 t d))
    ∗ (∃ d, owns (c : Thread nD τ) (st0_5 t) fullShare ((dats m hok 0 c).before 5 t d))
    ∗ (∃ d, owns (c : Thread nD τ) (st0_6 t) fullShare ((dats m hok 0 c).before 6 t d)))
def bodyPost (hok : WordsAt m) (c : Dev nD) (t : Fin cfg0.N) : sProp 𝕄 :=
  iprop((dats m hok 0 c).Φ t.succ ∗ (dats m hok 0 c).owesAt () t.succ
    ∗ owns (c : Thread nD τ) (st0_0 t) fullShare ((dats m hok 0 c).after 0 t)
    ∗ owns (c : Thread nD τ) (st0_1 t) fullShare ((dats m hok 0 c).after 1 t)
    ∗ owns (c : Thread nD τ) (st0_2 t) fullShare ((dats m hok 0 c).after 2 t)
    ∗ owns (c : Thread nD τ) (st0_3 t) fullShare ((dats m hok 0 c).after 3 t)
    ∗ owns (c : Thread nD τ) (st0_4 t) fullShare ((dats m hok 0 c).after 4 t)
    ∗ owns (c : Thread nD τ) (st0_5 t) fullShare ((dats m hok 0 c).after 5 t)
    ∗ owns (c : Thread nD τ) (st0_6 t) fullShare ((dats m hok 0 c).after 6 t))

/-- The body at any grid point. -/
theorem sound_body (hok : WordsAt m) (c : Dev nD) (t : Fin cfg0.N) :
    bodyPre m hok c t ⊢ wp frame (wpE (defs₀ (F := F)) Variants.none c none) Set.univ (bodyAt0 t) (fun _ => bodyPost m hok c t) := by
  unfold bodyPre bodyPost bodyAt0
  simp only [bef_0, bef_1, bef_2, bef_3, bef_4, bef_5]
  rw [aft_0, aft_1, aft_2, aft_3, aft_4, aft_5, aft_6]
  rw [show (dats m hok 0 c).Φ t.succ = (dats m hok 0 c).Φ t.castSucc from rfl,
    show (dats m hok 0 c).owesAt () t.succ = (dats m hok 0 c).owesAt () t.castSucc from rfl,
    show (dats m hok 0 c).Φ t.castSucc = Pipeline.ΦD osem0 spec0 H0 (V m) c from rfl, PhiD0_eq]
  unfold Dat.owesAt Pipeline.owesWithin
  rw [show (dats m hok 0 c).owed t.castSucc = 0 from rfl]
  iintro ⟨⟨⟨HS, HB⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (kernelRun Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) (V m c main_arg3) (hok c t) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  isplitl [HB]; · iexact HB
  isplitl [Hh]; · iexact Hh
  isplitl [Hq]; · iexact Hq
  isplitl [HO]; · iexact HO
  iintro ⟨H0, H1, H2, H3, H4, H5, H6, HS, HB, Hh, Hq, ⟨%W', HO⟩⟩
  isplitl [HS HB Hg Hq Hh]
  · isplitl [HS HB]
    · isplitl [HS]; · iexact HS
      iexact HB
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body at each grid point, from each window's block, leaves what the data above says. -/
theorem body_obligation (hok : WordsAt m) (c : Dev nD) :
    BodyObligation (dats (F := F) m hok 0 c) (defs₀ (F := F)) Variants.none () Set.univ := fun t => by
  rw [bigSep_W0, bigSep_W0, defs₀_row]
  exact triple_restated (sound_body m hok c t) rfl .rfl fun _ => .rfl

set_option maxHeartbeats 800000 in
/-- @main up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole run. -/
theorem run_main (hok : WordsAt m) :
    θ_run defs (onTc (τ := τ) (main (F := F))) (s₀ m ρ)
      (fun r => Pipeline.FramePost cfgs (dats m hok) 0 (V m) r ∧ r.2.sem = fun _ => 0) :=
  Pipeline.θ_run_frame_dma (Q' := _) cfgs (dats m hok) (0 : Fin 1) launch0 osem0 defs₀ Variants.none ownSemFacts0 H0 H0_sub m ρ main
    (hbody := fun c => (body_obligation m hok c).loose) (hshare := fun c => (dats m hok 0 c).share_full fun _ => rfl)
    (howed := fun _ _ => rfl) (V := V m) (hmain := hmainD m Variants.none) (hA := A_eq m hok)
    (hin := fun _ => .rfl) (hout := fun _ => .rfl)

/-- The run with the result array named and the arguments as launched. -/
theorem run (hok : WordsAt m) : θ_run defs (onTc (τ := τ) (main (F := F))) ⟨m, fun _ => 0, ρ⟩ (fun r => (∀ c : Dev nD,
      r.2.mem ((c.tc : Thread nD τ).loc main_v4) = (dats m hok 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).1 3).trans (((dats m hok 0 c).arrAt_in 3 rfl _).trans ((A_eq m hok c 3).trans (V_main_arg1 m c))),
      ((h.1 c).1 4).trans (((dats m hok 0 c).arrAt_in 4 rfl _).trans ((A_eq m hok c 4).trans (V_main_arg2 m c))),
      ((h.1 c).2 main_arg3 (Pipeline.mem_restRefs_of main_arg3 (by decide) (by decide))).trans (V_main_arg3 m c),
      ((h.1 c).1 0).trans (((dats m hok 0 c).arrAt_in 0 rfl _).trans ((A_eq m hok c 0).trans (V_main_arg4 m c))),
      ((h.1 c).1 5).trans (((dats m hok 0 c).arrAt_in 5 rfl _).trans ((A_eq m hok c 5).trans (V_main_arg5 m c)))⟩, h.2⟩)
    (run_main m ρ hok)

end Cert.SparseIdeal.Hand

end
-- ==== Proof.SparseWords.lean ====
/-
  The words of the lists: how many blocks a list has, where a block lies, and which offsets an entry's row and column
  words give, with every assumption the body makes of them (hand-written, untrusted).
-/
module

public import proofs.«01_k».proof.Proof.SparseBody
public import Idealize.ShloMosaic.Lib.Pipeline.ValueKit
public import Idealize.ShloMosaic.Lib.Pointwise

@[expose] public section

set_option maxRecDepth 65536
set_option maxHeartbeats 40000000

noncomputable section

namespace Cert.SparseIdeal.Hand

open Cert.SparseIdeal Cert.SparseIdeal.Gen
open Idealize.ShloMosaic Idealize.ShloMosaic.TcCoe
open Idealize.SL.Sem

variable {F : FTy → Type} [FloatOps F]

/-- A list of `v` blocks is walked from 0 to `v` by ones. -/
theorem t3_loop_eq (v : BitVec 32) : k0_t3_loop v = ⟨0#32, v, 1#32⟩ := by
  have h1 : Scalar.subi (Scalar.divsi (Scalar.addi (Scalar.subi v 0#32) (Scalar.subi 1#32 1#32)) 1#32) 0#32 = v := by
    simp [Scalar.subi, Scalar.addi, Scalar.divsi, IntOp.subi, IntOp.addi, WordArith.divsi_one]
  unfold k0_t3_loop
  simp only [h1, Scalar.muli_divsi_one]
  simp [Scalar.addi, IntOp.addi]

/-- The trips of that walk. -/
theorem t3_trips (v : BitVec 32) : (k0_t3_loop v).trips = v.toInt.toNat := by
  rw [t3_loop_eq]
  show Scf.trips 0#32 v 1#32 = _
  have h1 : (1#32).toInt = 1 := by decide
  have h0 : (0#32).toInt = 0 := by decide
  unfold Scf.trips; rw [h1, h0]; omega

/-- The lists are 32. -/
theorem t2_trips : k0_t2_loop.trips = 32 := by decide +kernel
/-- The entries of a block are 1024. -/
theorem t4_trips : k0_t4_loop.trips = 1024 := by decide +kernel

/-- Where block `k3` of list `k2` lies. -/
theorem off15_eq (k2 : Fin k0_t2_loop.trips) (v : BitVec 32) (hv : v.toInt ≤ 144) (k3 : Fin (k0_t3_loop v).trips) :
    k0_off15 k2 v k3 = ![(144 * k2.val + k3.val) * 2048] := by
  have h2 : k2.val < 32 := lt_of_lt_of_eq k2.isLt t2_trips
  have h3 : k3.val < 144 := by have := lt_of_lt_of_eq k3.isLt (t3_trips v); omega
  unfold k0_off15
  funext a; fin_cases a
  simp [Scf.iv, Scalar.muli, Scalar.addi, IntOp.muli, IntOp.addi, Scalar.indexCast, BitVec.toNat_mul, BitVec.toNat_add]
  omega

/-- The same place, as the multiple of 2048 the body takes it for. -/
theorem mult2_eq (k2 : Fin k0_t2_loop.trips) (v : BitVec 32) (hv : v.toInt ≤ 144) (k3 : Fin (k0_t3_loop v).trips) :
    (k0_mult2 k2 v k3).toNat = (144 * k2.val + k3.val) * 2048 := by
  have h2 : k2.val < 32 := lt_of_lt_of_eq k2.isLt t2_trips
  have h3 : k3.val < 144 := by have := lt_of_lt_of_eq k3.isLt (t3_trips v); omega
  unfold k0_mult2
  simp [Scf.iv, Scalar.muli, Scalar.addi, IntOp.muli, IntOp.addi, BitVec.toNat_mul, BitVec.toNat_add]
  omega

/-- A list of at most 144 blocks meets what the body assumes of its length. -/
theorem chk1_of (k2 : Fin k0_t2_loop.trips) (v : BitVec 32) (hv : v.toInt ≤ 144) : k0_chk1 k2 v := by
  have h2 : k2.val < 32 := lt_of_lt_of_eq k2.isLt t2_trips
  refine ⟨?_, ?_, ?_, ?_, ?_, ?_⟩
  · rw [t3_loop_eq]
    show Scf.OK 0#32 v 1#32
    have h1 : (1#32).toInt = 1 := by decide
    have h0 : (0#32).toInt = 0 := by decide
    unfold Scf.OK Scf.trips; rw [h1, h0]; omega
  · intro k3; rw [mult2_eq k2 v hv k3]; exact ⟨144 * k2.val + k3.val, by ring⟩
  · intro k3 a
    have h3 : k3.val < 144 := by have := lt_of_lt_of_eq k3.isLt (t3_trips v); omega
    rw [off15_eq k2 v hv k3]; fin_cases a
    show (144 * k2.val + k3.val) * 2048 + 2048 ≤ 9437184
    omega
  · exact Scf.rem_ok _ _
  · intro k5; exact (Scf.rem_no_trip _ _ k5).elim
  · intro k5; exact (Scf.rem_no_trip _ _ k5).elim

/-- What the test of an entry says: its row is not negative and its column is in the chunk. -/
theorem cond1_iff (i : grid0.Coords) (row word : BitVec 32) :
    k0_cond1 i row word = 1#1 ↔ 0 ≤ row.toInt ∧ (word &&& 65535#32).toNat / 1024 = (i 0).val := by
  have hi : (i 0).val < 27 := (i 0).isLt
  have e : ∀ a b : BitVec 1, Scalar.cmpi .ne (Scalar.extui (Scalar.andi a b) : BitVec 32) 0#32 = 1#1 ↔ a = 1#1 ∧ b = 1#1 := by decide
  unfold k0_cond1
  rw [e]
  refine and_congr ?_ ?_
  · simp only [Scalar.cmpi, IntOp.cmpi, BitVec.sle, show (0#32).toInt = 0 from by decide]
    by_cases h : 0 ≤ row.toInt <;> simp [h]
  · have hs : Scalar.shrui (word &&& 65535#32) 10#32 = (word &&& 65535#32) >>> 10 := by
      simp [Scalar.shrui, IntOp.shrui]
    show Scalar.cmpi .eq (Scalar.shrui (word &&& 65535#32) 10#32) (BitVec.ofNat 32 (i 0).val) = 1#1 ↔ _
    rw [hs]
    generalize word &&& 65535#32 = q
    have hq : (q >>> 10).toNat = q.toNat / 1024 := by simp [Nat.shiftRight_eq_div_pow]
    have hc : ∀ x y : BitVec 32, Scalar.cmpi .eq x y = 1#1 ↔ x = y := by
      intro x y; simp only [Scalar.cmpi, IntOp.cmpi]
      by_cases h : x = y
      · simp [h]
      · rw [beq_eq_false_iff_ne.2 h]; simp [h]
    rw [hc, ← BitVec.toNat_inj, hq, BitVec.toNat_ofNat, Nat.mod_eq_of_lt (by omega)]

/-- Where the columns of an entry's row begin, for every row. -/
theorem mult3_tab : ∀ (a : Fin 40) (b : Fin 128), (k0_mult3 (BitVec.ofNat 32 (128 * a.val + b.val))).toNat = 128 * a.val := by decide +kernel

/-- A row that is not negative is the number its word is. -/
theorem toInt_of_nonneg (row : BitVec 32) (h0 : 0 ≤ row.toInt) : row.toInt = row.toNat := by
  have := row.isLt
  rw [BitVec.toInt_eq_toNat_cond] at h0 ⊢
  split at h0
  · rw [if_pos (by assumption)]
  · omega

/-- The 128 columns of the activations an entry takes are those of its row's 128. -/
theorem mult3_eq (row : BitVec 32) (h0 : 0 ≤ row.toInt) (h1 : row.toInt < 5120) : (k0_mult3 row).toNat = 128 * (row.toNat / 128) := by
  have e := toInt_of_nonneg row h0
  have h : row = BitVec.ofNat 32 (128 * (row.toNat / 128) + row.toNat % 128) := by
    rw [Nat.div_add_mod]; simp
  have := mult3_tab ⟨row.toNat / 128, by omega⟩ ⟨row.toNat % 128, by omega⟩
  simp only [← h] at this; exact this

/-- The same columns, as the offsets of the load. -/
theorem off18_eq (row : BitVec 32) (h0 : 0 ≤ row.toInt) (h1 : row.toInt < 5120) : k0_off18 row = ![0, 128 * (row.toNat / 128)] := by
  rw [← mult3_eq row h0 h1]; rfl

/-- The 128 columns of the accumulator an entry adds to are those of its column's 128 within the chunk. -/
theorem mult4_eq (word : BitVec 32) : (k0_mult4 word).toNat = 128 * ((word &&& 65535#32).toNat % 1024 / 128) := by
  have hl : (word &&& 65535#32).toNat < 65536 := by
    rw [BitVec.toNat_and]; exact lt_of_le_of_lt Nat.and_le_right (by decide)
  have e : k0_mult4 word = k0_mult3 (Scalar.remsi (word &&& 65535#32) 1024#32) := rfl
  rw [e]
  generalize word &&& 65535#32 = q at *
  have h : Scalar.remsi q 1024#32 = BitVec.ofNat 32 (q.toNat % 1024) := by
    rw [← BitVec.toNat_inj, BitVec.toNat_ofNat, Nat.mod_eq_of_lt (by omega)]
    exact IntOp.toNat_remsi .scalar (by omega) 1024 (by decide) (by decide)
  have h2 : (BitVec.ofNat 32 (q.toNat % 1024)).toNat = q.toNat % 1024 := by
    rw [BitVec.toNat_ofNat]; omega
  have h3 : (BitVec.ofNat 32 (q.toNat % 1024)).toInt = q.toNat % 1024 := by
    rw [BitVec.toInt_eq_toNat_cond, h2, if_pos (by omega)]; simp
  rw [h, mult3_eq _ (by rw [h3]; omega) (by rw [h3]; omega), h2]

/-- The same columns, as the offsets of the load and the store. -/
theorem off19_eq (word : BitVec 32) : k0_off19 word = ![0, 128 * ((word &&& 65535#32).toNat % 1024 / 128)] := by
  rw [← mult4_eq word]; rfl

/-- An entry whose row is below 5120 wherever its column is one of the result's meets what the body assumes of it. -/
theorem chk2_of (i : grid0.Coords) (row word : BitVec 32) (h : (word &&& 65535#32).toNat < 27648 → row.toInt < 5120) :
    k0_chk2 i row word := by
  have hi : (i 0).val < 27 := (i 0).isLt
  have key : k0_cond1 i row word = 1#1 → 0 ≤ row.toInt ∧ row.toInt < 5120 := by
    intro hc
    obtain ⟨h0, h1⟩ := (cond1_iff i row word).1 hc
    exact ⟨h0, h (by omega)⟩
  refine ⟨?_, ?_, ?_, ?_⟩
  · intro hc; rw [mult3_eq row (key hc).1 (key hc).2]; exact ⟨_, rfl⟩
  · intro hc a
    have e := toInt_of_nonneg row (key hc).1
    have := (key hc).2
    rw [off18_eq row (key hc).1 (key hc).2]; fin_cases a
    · show 0 + 128 ≤ 128; omega
    · show 128 * (row.toNat / 128) + 128 ≤ 5120; omega
  · intro hc; rw [mult4_eq]; exact ⟨_, rfl⟩
  · intro hc a
    rw [off19_eq]; fin_cases a
    · show 0 + 128 ≤ 128; omega
    · show 128 * ((word &&& 65535#32).toNat % 1024 / 128) + 128 ≤ 1024; omega

/-- Word `e` of a block. -/
theorem blockWords_apply (x7 : Vec F S9437184 .i32) (k2 : Fin k0_t2_loop.trips) (v : BitVec 32) (hv : v.toInt ≤ 144) (hw : k0_chk1 k2 v)
    (k3 : Fin (k0_t3_loop v).trips) (e : Fin 2048) (h : (144 * k2.val + k3.val) * 2048 + e.val < 9437184) :
    blockWords x7 k2 v hw k3 (ix1 e) = x7 (ix1 ⟨(144 * k2.val + k3.val) * 2048 + e.val, h⟩) :=
  View.ld_unit_apply_of _ _ _ _ _ _ (by
    intro a
    rw [show k0_off15 k2 v k3 a = (![(144 * k2.val + k3.val) * 2048] : Fin 1 → ℕ) a from congrFun (off15_eq k2 v hv k3) a]
    fin_cases a
    rfl)

/-- The row word of an entry of a block. -/
theorem rowAt_apply (x10 : Vec F S2048 .i32) (k : Fin k0_t4_loop.trips) (h : k.val < 2048) : rowAt x10 k = x10 (ix1 ⟨k.val, h⟩) :=
  View.ld_unit_apply_of _ _ _ _ _ _ (by
    intro a
    rw [show k0_off16 k a = (![k.val] : Fin 1 → ℕ) a from congrFun (k0_off16_eq k) a]
    fin_cases a
    rfl)

/-- The value-and-column word of an entry of a block. -/
theorem colAt_apply (x10 : Vec F S2048 .i32) (k : Fin k0_t4_loop.trips) (h : 1024 + k.val < 2048) : colAt x10 k = x10 (ix1 ⟨1024 + k.val, h⟩) :=
  View.ld_unit_apply_of _ _ _ _ _ _ (by
    intro a
    rw [show k0_off17 k a = (![k.val + 1024] : Fin 1 → ℕ) a from congrFun (k0_off17_eq k) a]
    fin_cases a
    show 1024 + k.val = k.val + 1024 + 0
    omega)

/-- The length word of a list. -/
theorem cntAt_apply (x1 : Vec F S32x128 .i32) (k2 : Fin k0_t2_loop.trips) (h : k2.val < 32) : cntAt x1 k2 = x1 (ix2 ⟨k2.val, h⟩ 0) :=
  View.ld_unit_apply_of _ _ _ _ _ _ (by
    intro a
    rw [show k0_off14 k2 a = (![k2.val, 0] : Fin 2 → ℕ) a from congrFun (k0_off14_eq k2) a]
    fin_cases a
    · rfl
    · rfl)

/-- Lists of at most 144 blocks whose used entries have, where the column is one of the result's, a row below 5120 meet
    what the body assumes of every word it reads. -/
theorem wordsOK_of (i : grid0.Coords) (x1 : Vec F S32x128 .i32) (x7 : Vec F S9437184 .i32)
    (hc : ∀ w : Fin 32, BitVec.toInt (x1 (ix2 w 0) : BitVec 32) ≤ 144)
    (hr : ∀ (w : Fin 32) (b : Fin 144) (e : Fin 1024), (b.val : ℤ) < BitVec.toInt (x1 (ix2 w 0) : BitVec 32) →
      BitVec.toNat ((x7 (ix1 ⟨(144 * w.val + b.val) * 2048 + (1024 + e.val), by omega⟩) : BitVec 32) &&& 65535#32) < 27648 →
      BitVec.toInt (x7 (ix1 ⟨(144 * w.val + b.val) * 2048 + e.val, by omega⟩) : BitVec 32) < 5120) : WordsOK i x1 x7 := by
  have h2 : ∀ k2 : Fin k0_t2_loop.trips, k2.val < 32 := fun k2 => lt_of_lt_of_eq k2.isLt t2_trips
  have hv : ∀ k2 : Fin k0_t2_loop.trips, BitVec.toInt (cntAt x1 k2 : BitVec 32) ≤ 144 := by
    intro k2; rw [cntAt_apply x1 k2 (h2 k2)]; exact hc _
  refine ⟨fun k2 => chk1_of k2 _ (hv k2), fun k2 k3 k => chk2_of i _ _ ?_⟩
  have h3 : (k3.val : ℤ) < BitVec.toInt (cntAt x1 k2 : BitVec 32) := by have := lt_of_lt_of_eq k3.isLt (t3_trips _); omega
  have h3' : k3.val < 144 := by have := hv k2; omega
  have h4 : k.val < 1024 := lt_of_lt_of_eq k.isLt t4_trips
  have h2' := h2 k2
  rw [rowAt_apply _ k (by omega), colAt_apply _ k (by omega), blockWords_apply _ k2 _ (hv k2) _ k3 _ (by dsimp only; omega),
    blockWords_apply _ k2 _ (hv k2) _ k3 _ (by dsimp only; omega)]
  exact hr ⟨k2.val, h2'⟩ ⟨k3.val, h3'⟩ ⟨k.val, h4⟩ (lt_of_lt_of_eq h3 (congrArg BitVec.toInt (cntAt_apply x1 k2 h2')))

end Cert.SparseIdeal.Hand

end
-- ==== Proof.SparsePre.lean ====
/-
  What the precondition says of the lists, entry by entry: no list is longer than its room, and a used entry whose column is
  one of the result's has its row among the activations' (hand-written, untrusted).
-/
module

public import proofs.«01_k».proof.Pre_entries_in_range
public import proofs.«01_k».proof.Proof.Gen.Pre_entries_in_range
public import Idealize.ShloMosaic.Lib.Pointwise

@[expose] public section

set_option maxRecDepth 65536

noncomputable section

namespace Cert.Pre_entries_in_range.Hand

open Cert.Pre_entries_in_range Idealize.ShloMosaic

variable {F : FTy → Type} [FloatOps F]

/-- The precondition's first word: a list's length is at most its room. -/
theorem fst_apply (x : FVec F S1x128x5120 .bf16) (idx : IVec S80x27x8x8x128 32) (tab : IVec S80x27x4x8x128 32) (coo : IVec S9437184 32)
    (cnt : IVec S32x128 32) (part : FVec F S128x27648 .f32) (w : Fin 32) :
    (fn (F := F) x idx tab coo cnt part).1 (ix2 w 0) = IntOp.cmpi .sle (cnt (ix2 w 0)) 144#32 := by
  pointwise [fn, fn_part1]

/-- The lists as lists of blocks of two rows. -/
theorem lists_apply (coo : IVec S9437184 32) (w : Fin 32) (b : Fin 144) (p : Fin 2) (e : Fin 1024) :
    shapeCast S32x144x2x1024 coo Facts.shapeCasts_S9437184_S32x144x2x1024 (ix4 w b p e)
      = coo (ix1 ⟨(144 * w.val + b.val) * 2048 + (1024 * p.val + e.val), by omega⟩) := by
  pointwise
  exact congrArg coo (congrArg ix1 (Fin.ext (by show w.val * 294912 + b.val * 2048 + p.val * 1024 + e.val = (144 * w.val + b.val) * 2048 + (1024 * p.val + e.val); omega)))

/-- The precondition's second word: an entry is not used, or its column is past the result, or its row is one of the
    activations'. -/
theorem snd_apply (x : FVec F S1x128x5120 .bf16) (idx : IVec S80x27x8x8x128 32) (tab : IVec S80x27x4x8x128 32) (coo : IVec S9437184 32)
    (cnt : IVec S32x128 32) (part : FVec F S128x27648 .f32) (w : Fin 32) (b : Fin 144) (e : Fin 1024) :
    (fn (F := F) x idx tab coo cnt part).2 (ix3 w b e)
      = IntOp.ori (~~~(IntOp.andi (IntOp.cmpi .slt (BitVec.ofNat 32 b.val) (cnt (ix2 w 0)))
            (IntOp.cmpi .slt (IntOp.andi (shapeCast S32x144x2x1024 coo Facts.shapeCasts_S9437184_S32x144x2x1024 (ix4 w b 1 e)) 65535#32) 27648#32)))
          (IntOp.cmpi .slt (shapeCast S32x144x2x1024 coo Facts.shapeCasts_S9437184_S32x144x2x1024 (ix4 w b 0 e)) 5120#32) := by
  simp only [fn, fn_part1]
  generalize shapeCast S32x144x2x1024 coo Facts.shapeCasts_S9437184_S32x144x2x1024 = q
  pointwise

/-- The precondition, entry by entry. -/
theorem words (x : FVec F S1x128x5120 .bf16) (idx : IVec S80x27x8x8x128 32) (tab : IVec S80x27x4x8x128 32) (coo : IVec S9437184 32)
    (cnt : IVec S32x128 32) (part : FVec F S128x27648 .f32)
    (h : (fn (F := F) x idx tab coo cnt part).1 = (fun _ => 1#1) ∧ (fn (F := F) x idx tab coo cnt part).2 = fun _ => 1#1) :
    (∀ w : Fin 32, (cnt (ix2 w 0)).toInt ≤ 144) ∧ ∀ (w : Fin 32) (b : Fin 144) (e : Fin 1024), (b.val : ℤ) < (cnt (ix2 w 0)).toInt →
      (coo (ix1 ⟨(144 * w.val + b.val) * 2048 + (1024 + e.val), by omega⟩) &&& 65535#32).toNat < 27648 →
      (coo (ix1 ⟨(144 * w.val + b.val) * 2048 + e.val, by omega⟩)).toInt < 5120 := by
  have slt : ∀ a b : BitVec 32, IntOp.cmpi .slt a b = 1#1 ↔ a.toInt < b.toInt := by
    intro a b
    simp only [IntOp.cmpi, BitVec.slt]
    by_cases h : a.toInt < b.toInt <;> simp [h]
  constructor
  · intro w
    have := congrFun h.1 (ix2 w 0)
    rw [fst_apply] at this
    simp only [IntOp.cmpi, BitVec.sle, show (144#32).toInt = 144 from by decide] at this
    by_contra hc
    simp [hc] at this
  · intro w b e hb hc
    have := congrFun h.2 (ix3 w b e)
    rw [snd_apply, lists_apply, lists_apply, IntOp.ori_eq_one, IntOp.not_eq_one, IntOp.andi_eq_one, slt, slt, slt] at this
    simp only [show (5120#32).toInt = 5120 from by decide, show (27648#32).toInt = 27648 from by decide] at this
    have e0 : (⟨(144 * w.val + b.val) * 2048 + (1024 * (0 : Fin 2).val + e.val), by have := w.isLt; have := b.isLt; have := e.isLt; simp; omega⟩ : Fin 9437184)
        = ⟨(144 * w.val + b.val) * 2048 + e.val, by omega⟩ := Fin.ext (by simp)
    have e1 : (⟨(144 * w.val + b.val) * 2048 + (1024 * (1 : Fin 2).val + e.val), by have := w.isLt; have := b.isLt; have := e.isLt; simp; omega⟩ : Fin 9437184)
        = ⟨(144 * w.val + b.val) * 2048 + (1024 + e.val), by omega⟩ := Fin.ext (by simp)
    rw [e0, e1] at this
    refine this.resolve_left ?_
    rw [not_not]
    refine ⟨?_, ?_⟩
    · rw [BitVec.toInt_eq_toNat_cond, BitVec.toNat_ofNat, Nat.mod_eq_of_lt (by omega), if_pos (by omega)]; exact hb
    · show (coo (ix1 ⟨(144 * w.val + b.val) * 2048 + (1024 + e.val), _⟩) &&& 65535#32).toInt < 27648
      rw [BitVec.toInt_eq_toNat_cond, if_pos (by omega)]; omega

end Cert.Pre_entries_in_range.Hand

end
-- ==== Proof.SparseFrame.lean ====
/-
  The frame: the launch runs under the precondition, and changes no argument (hand-written, untrusted).
-/
module

public import proofs.«01_k».proof.Proof.SparseRun
public import proofs.«01_k».proof.Proof.SparseWords
public import proofs.«01_k».proof.Proof.SparsePre

@[expose] public section

set_option maxRecDepth 65536
set_option maxHeartbeats 40000000

noncomputable section

namespace Cert.SparseIdeal.Hand

open Cert.SparseIdeal Cert.SparseIdeal.Gen
open Idealize.ShloMosaic Idealize.ShloMosaic.TcCoe
open Idealize.SL.Sem

variable {F : FTy → Type} [FloatOps F]

variable (m : (ℓ : Loc nD τ sig) → Buf (Elt F) ℓ)

/-- Where each window's block lies. -/
theorem places : ∀ t : Fin cfg0.N, win0_0.index t = ![0, 0] ∧ win0_1.index t = ![0, 0] ∧ win0_2.index t = ![0, 0]
    ∧ win0_3.index t = ![0, t.val, 0, 0, 0] ∧ win0_4.index t = ![0, t.val, 0, 0, 0] ∧ win0_5.index t = ![0, t.val]
    ∧ win0_6.index t = ![0, t.val] :=
  (by decide +kernel : ∀ t : Fin grid0.N, _)

/-- Window 0 holds the lengths of the lists at every point. -/
theorem read_cnt (c : Dev nD) (t : Fin cfg0.N) (w : Fin 32) (j : Fin 128) :
    iblk m c 0 t (ix2 w j) = m ((c : Thread nD τ).loc main_arg4) (ix2 w j) := by
  obtain ⟨e0, e1, e2, e3, e4, e5, e6⟩ := places t
  blk_ext [iblk, V, e0]

/-- Under the precondition every grid point's words meet what its body assumes. -/
theorem wordsAt [Cert.Pre_entries_in_range.Facts] (hpre : ∀ c : Dev nD,
      (Cert.Pre_entries_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
      ∧ (Cert.Pre_entries_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 = fun _ => 1#1) :
    WordsAt m := by
  intro c t
  obtain ⟨h1, h2⟩ := Cert.Pre_entries_in_range.Hand.words _ _ _ _ _ _ (hpre c)
  refine wordsOK_of _ _ _ ?_ ?_
  · intro w
    rw [read_cnt m c t w 0]
    exact h1 w
  · intro w b e
    rw [read_cnt m c t w 0, V_main_arg3]
    exact h2 w b e

end Cert.SparseIdeal.Hand

end
-- ==== Proof.SparseTile.lean ====
/-
  The table part of one chunk over the extended reals: the decoded matrix's entry at a row and a column, and what the ten
  trips leave at an index of the accumulator (hand-written, untrusted).
-/
module

public import proofs.«01_k».proof.Proof.SparseWords
public import Idealize.ShloMosaic.Lib.BitcastPair

@[expose] public section

set_option maxRecDepth 65536
set_option maxHeartbeats 40000000

noncomputable section

namespace Cert.SparseIdeal.Hand

open Cert.SparseIdeal Cert.SparseIdeal.Gen
open Idealize.ShloMosaic Idealize.ShloMosaic.TcCoe
open Idealize.SL.Sem

/-- The bf16 in the low (`h = 0`) or the high (`h = 1`) half of a word. -/
def half (w : BitVec 32) (h : ℕ) : EReal := Ideal.ofBits .bf16 (w.extractLsb' (16 * h) 16)

/-- The seven bits a word holds from bit `8 b` on. -/
def slot (w : BitVec 32) (b : ℕ) : Fin 128 := ⟨((w >>> (8 * b)) &&& 127#32).toNat, by
  rw [BitVec.toNat_and]; exact lt_of_le_of_lt Nat.and_le_right (by decide)⟩

/-- The slot as the kernel computes it: the seven bits, which are never negative. -/
theorem slot_eq (w : BitVec 32) (b : Fin 4) :
    (if IntOp.cmpi .slt (IntOp.andi (IntOp.shrui .vector w (BitVec.ofNat 32 (8 * b.val))) 127#32) 0#32 = 1#1
      then IntOp.addi (IntOp.andi (IntOp.shrui .vector w (BitVec.ofNat 32 (8 * b.val))) 127#32) 128#32
      else IntOp.andi (IntOp.shrui .vector w (BitVec.ofNat 32 (8 * b.val))) 127#32).toNat % 128 = (slot w b.val).val := by
  have e : IntOp.shrui .vector w (BitVec.ofNat 32 (8 * b.val)) = w >>> (8 * b.val) := by
    fin_cases b <;> simp [IntOp.shrui]
  have hl := (slot w b.val).isLt
  have hn : (IntOp.andi (w >>> (8 * b.val)) 127#32).toNat = (slot w b.val).val := rfl
  rw [e, if_neg, hn, Nat.mod_eq_of_lt hl]
  have hi : (IntOp.andi (w >>> (8 * b.val)) 127#32).toInt = ((slot w b.val).val : ℤ) := by
    rw [BitVec.toInt_eq_toNat_cond, hn, if_pos (by omega)]
  simp only [IntOp.cmpi, BitVec.slt, hi]
  have h0 : (0#32).toInt = 0 := by decide
  rw [h0, decide_eq_false (by omega)]
  decide

/-- A gather along rows of eight rows of 128. -/
theorem gather_apply (t idx : IVec S8x128 32) (r : Fin 8) (l : Fin 128) :
    dynamicGather 1 t idx (ix2 r l) = t (ix2 r ⟨(idx (ix2 r l)).toNat % 128, Nat.mod_lt _ (by decide)⟩) := by
  rw [dynamicGather_apply]
  exact congrArg t (funext fun a => by fin_cases a <;> rfl)

/-- Words read as pairs of rows. -/
theorem pair_apply (x : IVec S8x128 32) (s : Fin 16) (l : Fin 128) :
    bitcast S16x128 16 x bitcasts_S8x128_w32_S16x128_w16 (ix2 s l) = (x (ix2 ⟨s.val / 2, by omega⟩ l)).extractLsb' (16 * (s.val % 2)) 16 := by
  rw [bitcast_32_16]
  have e : S16x128.row (ix2 s l) = s.val := rfl
  congr 1
  exact congrArg x (funext fun a => by fin_cases a <;> rfl)

/-- A piece at an index. -/
theorem piece_apply (word tab : Vec Ideal S1x1x1x8x128 .i32) (b : Fin 4) (s : Fin 16) (l : Fin 128) :
    piece (F := Ideal) word tab (BitVec.ofNat 32 (8 * b.val)) (ix2 s l)
      = half (tab (ix5 0 0 0 ⟨s.val / 2, by omega⟩ (slot (word (ix5 0 0 0 ⟨s.val / 2, by omega⟩ l)) b.val))) (s.val % 2) := by
  have hw : ∀ (x : IVec S1x1x1x8x128 32) (r : Fin 8) (l : Fin 128), shapeCast S8x128 x shapeCasts_S1x1x1x8x128_S8x128 (ix2 r l) = x (ix5 0 0 0 r l) := by
    intro x r l; pointwise
  have hs : ∀ (x : IVec S8x128 32) (r : Fin 8) (l : Fin 128),
      shapeCast S8x128 (shapeCast S8x128x1 x shapeCasts_S8x128_S8x128x1) shapeCasts_S8x128x1_S8x128 (ix2 r l) = x (ix2 r l) := by
    intro x r l; pointwise
  unfold piece half
  show Ideal.ofBits .bf16 _ = _
  rw [pair_apply, gather_apply, hw, hs]
  refine congrArg (fun z : Fin 128 => Ideal.ofBits .bf16 (BitVec.extractLsb' (16 * (s.val % 2)) 16 (tab (ix5 0 0 0 ⟨s.val / 2, by omega⟩ z)))) (Fin.ext ?_)
  rw [← slot_eq, ← hw word]
  rfl

/-- The index words a trip loads for its group `q` and column tile `ct`. -/
theorem wordAt_apply (x4 : Vec Ideal S80x1x8x8x128 .i32) (k : Fin k0_t1_loop.trips) (ct q r : Fin 8) (l : Fin 128) (h : 8 * k.val + q.val < 80) :
    wordAt x4 k ct q (ix5 0 0 0 r l) = x4 (ix5 ⟨8 * k.val + q.val, h⟩ 0 ct r l) :=
  match ct with
  | 0 => View.ld_unit_apply_of _ _ _ _ _ _ (by
      intro a
      rw [show k0_off1 k (BitVec.ofNat 32 q.val) a = (![8 * k.val + q.val, 0, 0, 0, 0] : Fin 5 → ℕ) a from congrFun (k0_off1_eq k q) a]
      fin_cases a
      · rfl
      · rfl
      · rfl
      · exact (Nat.zero_add _).symm
      · exact (Nat.zero_add _).symm)
  | 1 => View.ld_unit_apply_of _ _ _ _ _ _ (by
      intro a
      rw [show k0_off6 k (BitVec.ofNat 32 q.val) a = (![8 * k.val + q.val, 0, 1, 0, 0] : Fin 5 → ℕ) a from congrFun (k0_off6_eq k q) a]
      fin_cases a
      · rfl
      · rfl
      · rfl
      · exact (Nat.zero_add _).symm
      · exact (Nat.zero_add _).symm)
  | 2 => View.ld_unit_apply_of _ _ _ _ _ _ (by
      intro a
      rw [show k0_off7 k (BitVec.ofNat 32 q.val) a = (![8 * k.val + q.val, 0, 2, 0, 0] : Fin 5 → ℕ) a from congrFun (k0_off7_eq k q) a]
      fin_cases a
      · rfl
      · rfl
      · rfl
      · exact (Nat.zero_add _).symm
      · exact (Nat.zero_add _).symm)
  | 3 => View.ld_unit_apply_of _ _ _ _ _ _ (by
      intro a
      rw [show k0_off8 k (BitVec.ofNat 32 q.val) a = (![8 * k.val + q.val, 0, 3, 0, 0] : Fin 5 → ℕ) a from congrFun (k0_off8_eq k q) a]
      fin_cases a
      · rfl
      · rfl
      · rfl
      · exact (Nat.zero_add _).symm
      · exact (Nat.zero_add _).symm)
  | 4 => View.ld_unit_apply_of _ _ _ _ _ _ (by
      intro a
      rw [show k0_off9 k (BitVec.ofNat 32 q.val) a = (![8 * k.val + q.val, 0, 4, 0, 0] : Fin 5 → ℕ) a from congrFun (k0_off9_eq k q) a]
      fin_cases a
      · rfl
      · rfl
      · rfl
      · exact (Nat.zero_add _).symm
      · exact (Nat.zero_add _).symm)
  | 5 => View.ld_unit_apply_of _ _ _ _ _ _ (by
      intro a
      rw [show k0_off10 k (BitVec.ofNat 32 q.val) a = (![8 * k.val + q.val, 0, 5, 0, 0] : Fin 5 → ℕ) a from congrFun (k0_off10_eq k q) a]
      fin_cases a
      · rfl
      · rfl
      · rfl
      · exact (Nat.zero_add _).symm
      · exact (Nat.zero_add _).symm)
  | 6 => View.ld_unit_apply_of _ _ _ _ _ _ (by
      intro a
      rw [show k0_off11 k (BitVec.ofNat 32 q.val) a = (![8 * k.val + q.val, 0, 6, 0, 0] : Fin 5 → ℕ) a from congrFun (k0_off11_eq k q) a]
      fin_cases a
      · rfl
      · rfl
      · rfl
      · exact (Nat.zero_add _).symm
      · exact (Nat.zero_add _).symm)
  | 7 => View.ld_unit_apply_of _ _ _ _ _ _ (by
      intro a
      rw [show k0_off12 k (BitVec.ofNat 32 q.val) a = (![8 * k.val + q.val, 0, 7, 0, 0] : Fin 5 → ℕ) a from congrFun (k0_off12_eq k q) a]
      fin_cases a
      · rfl
      · rfl
      · rfl
      · exact (Nat.zero_add _).symm
      · exact (Nat.zero_add _).symm)

/-- The tables a trip loads for its group `q` and byte `b`. -/
theorem tabAt_apply (x5 : Vec Ideal S80x1x4x8x128 .i32) (k : Fin k0_t1_loop.trips) (b : Fin 4) (q r : Fin 8) (l : Fin 128) (h : 8 * k.val + q.val < 80) :
    tabAt x5 k b q (ix5 0 0 0 r l) = x5 (ix5 ⟨8 * k.val + q.val, h⟩ 0 b r l) :=
  match b with
  | 0 => View.ld_unit_apply_of _ _ _ _ _ _ (by
      intro a
      rw [show k0_off2 k (BitVec.ofNat 32 q.val) a = (![8 * k.val + q.val, 0, 0, 0, 0] : Fin 5 → ℕ) a from congrFun (k0_off2_eq k q) a]
      fin_cases a
      · rfl
      · rfl
      · rfl
      · exact (Nat.zero_add _).symm
      · exact (Nat.zero_add _).symm)
  | 1 => View.ld_unit_apply_of _ _ _ _ _ _ (by
      intro a
      rw [show k0_off3 k (BitVec.ofNat 32 q.val) a = (![8 * k.val + q.val, 0, 1, 0, 0] : Fin 5 → ℕ) a from congrFun (k0_off3_eq k q) a]
      fin_cases a
      · rfl
      · rfl
      · rfl
      · exact (Nat.zero_add _).symm
      · exact (Nat.zero_add _).symm)
  | 2 => View.ld_unit_apply_of _ _ _ _ _ _ (by
      intro a
      rw [show k0_off4 k (BitVec.ofNat 32 q.val) a = (![8 * k.val + q.val, 0, 2, 0, 0] : Fin 5 → ℕ) a from congrFun (k0_off4_eq k q) a]
      fin_cases a
      · rfl
      · rfl
      · rfl
      · exact (Nat.zero_add _).symm
      · exact (Nat.zero_add _).symm)
  | 3 => View.ld_unit_apply_of _ _ _ _ _ _ (by
      intro a
      rw [show k0_off5 k (BitVec.ofNat 32 q.val) a = (![8 * k.val + q.val, 0, 3, 0, 0] : Fin 5 → ℕ) a from congrFun (k0_off5_eq k q) a]
      fin_cases a
      · rfl
      · rfl
      · rfl
      · exact (Nat.zero_add _).symm
      · exact (Nat.zero_add _).symm)

/-- A strip at an index: the piece of its sixteen rows. -/
theorem strip_apply (word : Fin 8 → Vec Ideal S1x1x1x8x128 .i32) (tab : Fin 8 → Fin 4 → Vec Ideal S1x1x1x8x128 .i32) (r : Fin 512) (l : Fin 128) :
    strip (F := Ideal) word tab (ix2 r l)
      = piece (F := Ideal) (word ⟨r.val / 64, by omega⟩) (tab ⟨r.val / 64, by omega⟩ ⟨r.val / 16 % 4, by omega⟩)
          (BitVec.ofNat 32 (8 * (r.val / 16 % 4))) (ix2 ⟨r.val % 16, by omega⟩ l) := by
  have h := concatenate_ofFn_apply (t := S512x128) (s₁ := S16x128) (0 : Fin 2) (N := 32)
    (fun n => piece (F := Ideal) (word ⟨n.val / 4, by omega⟩) (tab ⟨n.val / 4, by omega⟩ ⟨n.val % 4, by omega⟩) (BitVec.ofNat 32 (8 * (n.val % 4))))
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0
    rfl 16 rfl (ix2 r l) ⟨r.val / 16, by omega⟩ rfl (ix2 ⟨r.val % 16, by omega⟩ l) rfl (by
      intro b hb; fin_cases b
      · exact absurd rfl hb
      · rfl)
  refine Eq.trans ?_ (h.trans ?_)
  · rfl
  · have e1 : r.val / 16 / 4 = r.val / 64 := by omega
    simp only [e1]

/-- Eight strips side by side at an index. -/
theorem strips_apply (s : Fin 8 → FVec Ideal S512x128 .bf16) (r : Fin 512) (n : Fin 1024) :
    concatenate S512x1024 1 [⟨S512x128, s 0⟩, ⟨S512x128, s 1⟩, ⟨S512x128, s 2⟩, ⟨S512x128, s 3⟩, ⟨S512x128, s 4⟩, ⟨S512x128, s 5⟩, ⟨S512x128, s 6⟩, ⟨S512x128, s 7⟩]
        concatenates_S512x128_S512x128_S512x128_S512x128_S512x128_S512x128_S512x128_S512x128_S512x1024_d1 (ix2 r n)
      = s ⟨n.val / 128, by omega⟩ (ix2 r ⟨n.val % 128, by omega⟩) := by
  have h := concatenate_ofFn_apply (t := S512x1024) (s₁ := S512x128) (1 : Fin 2) (N := 8) s
    concatenates_S512x128_S512x128_S512x128_S512x128_S512x128_S512x128_S512x128_S512x128_S512x1024_d1
    rfl 128 rfl (ix2 r n) ⟨n.val / 128, by omega⟩ rfl (ix2 r ⟨n.val % 128, by omega⟩) rfl (by
      intro b hb; fin_cases b
      · rfl
      · exact absurd rfl hb)
  exact Eq.trans rfl h

/-- The product a trip adds, at an index. -/
theorem pay4_apply (s : Fin 8 → FVec Ideal S512x128 .bf16) (acc : FVec Ideal S128x1024 .f32) (x : FVec Ideal S128x512 .bf16) (m : Fin 128) (n : Fin 1024) :
    k0_pay4 (F := Ideal) (s 0) (s 1) (s 2) (s 3) (s 4) (s 5) (s 6) (s 7) acc x (ix2 m n)
      = acc (ix2 m n) + ∑ r : Fin 512, x (ix2 m r) * s ⟨n.val / 128, by omega⟩ (ix2 r ⟨n.val % 128, by omega⟩) := by
  have e : ∀ (S : FVec Ideal S512x1024 .bf16),
      shapeCast S128x1024 (addf acc (matmul dot_S128x512_S512x1024_S128x1024_1_0_0_1_n_n none (shapeCast S128x512 x shapeCasts_S128x512_S128x512) S
        (constant S128x1024 .f32 0x00000000#32))) shapeCasts_S128x1024_S128x1024 (ix2 m n)
      = acc (ix2 m n) + ∑ r : Fin 512, x (ix2 m r) * S (ix2 r n) := by
    intro S; pointwise
  refine (e _).trans ?_
  refine congrArg (acc (ix2 m n) + ·) (Finset.sum_congr rfl fun r _ => ?_)
  rw [strips_apply]

/-- The decoded matrix of one chunk, at row `p` (in the kernel's order of rows) and column `n`. -/
def dec (x4 : Vec Ideal S80x1x8x8x128 .i32) (x5 : Vec Ideal S80x1x4x8x128 .i32) (p : Fin 5120) (n : Fin 1024) : EReal :=
  half (x5 (ix5 ⟨p.val / 64, by omega⟩ 0 ⟨p.val / 16 % 4, by omega⟩ ⟨p.val % 16 / 2, by omega⟩
    (slot (x4 (ix5 ⟨p.val / 64, by omega⟩ 0 ⟨n.val / 128, by omega⟩ ⟨p.val % 16 / 2, by omega⟩ ⟨n.val % 128, by omega⟩)) (p.val / 16 % 4)))) (p.val % 2)

/-- The columns of the activations a trip loads. -/
theorem ld_acts (x3 : Vec Ideal S128x5120 .bf16) (k : Fin k0_t1_loop.trips) (m : Fin 128) (r : Fin 512) (h : 512 * k.val + r.val < 5120) :
    View.ld (Val := Elt Ideal) x3 (Rect.unit (s := S128x5120) (k0_off13 k) S128x512.size (k0_off13_inb k)) (ix2 m r)
      = x3 (ix2 m ⟨512 * k.val + r.val, h⟩) :=
  View.ld_unit_apply_of _ _ _ _ _ _ (by
    intro a
    rw [show k0_off13 k a = (![0, 512 * k.val] : Fin 2 → ℕ) a from congrFun (k0_off13_eq k) a]
    fin_cases a
    · exact (Nat.zero_add _).symm
    · rfl)

/-- The table trips are ten. -/
theorem t1_trips : k0_t1_loop.trips = 10 := by decide +kernel

/-- What a trip makes of the accumulator, at an index. -/
theorem tileTrip_apply (x3 : FVec Ideal S128x5120 .bf16) (x4 : Vec Ideal S80x1x8x8x128 .i32) (x5 : Vec Ideal S80x1x4x8x128 .i32)
    (k : Fin k0_t1_loop.trips) (hk : k.val < 10) (acc : FVec Ideal S128x1024 .f32) (m : Fin 128) (n : Fin 1024) :
    tileTrip (F := Ideal) x3 x4 x5 k acc (ix2 m n)
      = acc (ix2 m n) + ∑ r : Fin 512, x3 (ix2 m ⟨512 * k.val + r.val, by omega⟩) * dec x4 x5 ⟨512 * k.val + r.val, by omega⟩ n := by
  refine (pay4_apply (fun ct => strip (F := Ideal) (fun q => wordAt x4 k ct q) (fun q b => tabAt x5 k b q)) acc _ m n).trans ?_
  refine congrArg (acc (ix2 m n) + ·) (Finset.sum_congr rfl fun r _ => ?_)
  rw [ld_acts x3 k m r (by omega), strip_apply]
  have hp := piece_apply (wordAt x4 k ⟨n.val / 128, by omega⟩ ⟨r.val / 64, by omega⟩) (tabAt x5 k ⟨r.val / 16 % 4, by omega⟩ ⟨r.val / 64, by omega⟩)
    ⟨r.val / 16 % 4, by omega⟩ ⟨r.val % 16, by omega⟩ ⟨n.val % 128, by omega⟩
  refine congrArg (_ * ·) (hp.trans ?_)
  rw [wordAt_apply x4 k _ _ _ _ (by dsimp only; omega), tabAt_apply x5 k _ _ _ _ (by dsimp only; omega)]
  unfold dec
  have e1 : (512 * k.val + r.val) / 64 = 8 * k.val + r.val / 64 := by omega
  have e2 : (512 * k.val + r.val) / 16 % 4 = r.val / 16 % 4 := by omega
  have e3 : (512 * k.val + r.val) % 16 = r.val % 16 := by omega
  have e4 : (512 * k.val + r.val) % 2 = r.val % 16 % 2 := by omega
  simp only [e1, e2, e3, e4]

/-- Steps that each add to one element add up at that element. -/
theorem iter_add {α : Type} (r : α → EReal) (n : ℕ) (f : Fin n → α → α) (g : Fin n → EReal) (h : ∀ k a, r (f k a) = r a + g k) (a : α) :
    r (iter n f a n) = r a + ∑ k : Fin n, g k := by
  have key : ∀ j (hj : j ≤ n), r (iter n f a j) = r a + ∑ k : Fin j, g ⟨k.val, by omega⟩ := by
    intro j
    induction j with
    | zero => intro _; simp [iter]
    | succ j ih =>
      intro hj
      rw [iter, dif_pos (show j < n by omega), h, ih (by omega), Fin.sum_univ_castSucc (n := j), add_assoc]
      rfl
  exact key n le_rfl

/-- What the ten trips leave, at an index: one sum over all 5120 rows. -/
theorem tilesIter_apply (x3 : FVec Ideal S128x5120 .bf16) (x4 : Vec Ideal S80x1x8x8x128 .i32) (x5 : Vec Ideal S80x1x4x8x128 .i32)
    (acc : FVec Ideal S128x1024 .f32) (m : Fin 128) (n : Fin 1024) :
    tilesIter (F := Ideal) x3 x4 x5 acc k0_t1_loop.trips (ix2 m n) = acc (ix2 m n) + ∑ p : Fin 5120, x3 (ix2 m p) * dec x4 x5 p n := by
  have ht : ∀ k : Fin k0_t1_loop.trips, k.val < 10 := fun k => lt_of_lt_of_eq k.isLt t1_trips
  refine (iter_add (fun A : FVec Ideal S128x1024 .f32 => A (ix2 m n)) _ _
    (fun k => ∑ r : Fin 512, x3 (ix2 m ⟨512 * k.val + r.val, by have := ht k; omega⟩) * dec x4 x5 ⟨512 * k.val + r.val, by have := ht k; omega⟩ n)
    (fun k a => tileTrip_apply x3 x4 x5 k (ht k) a m n) acc).trans ?_
  refine congrArg (acc (ix2 m n) + ·) ?_
  rw [Fin.sum_univ_tiles 10 512 rfl (fun p => x3 (ix2 m p) * dec x4 x5 p n)]
  rw [← Equiv.sum_comp (finCongr t1_trips)]
  refine Finset.sum_congr rfl fun k _ => Finset.sum_congr rfl fun r _ => ?_
  have e : 512 * k.val + r.val = ((finCongr t1_trips k).val * 512 + r.val) := by simp; omega
  simp only [e]

end Cert.SparseIdeal.Hand

end
-- ==== Proof.SparseValue.lean ====
/-
  The listed part of one chunk over the extended reals: what one entry adds to an index of the accumulator, and what all the
  lists add (hand-written, untrusted).
-/
module

public import proofs.«01_k».proof.Proof.SparseTile

@[expose] public section

set_option maxRecDepth 65536
set_option maxHeartbeats 40000000

noncomputable section

namespace Cert.SparseIdeal.Hand

open Cert.SparseIdeal Cert.SparseIdeal.Gen
open Idealize.ShloMosaic Idealize.ShloMosaic.TcCoe
open Idealize.SL.Sem

/-- The value of an entry: the high half of its word, read as a float. -/
def value (word : BitVec 32) : EReal := Ideal.ofBits .f32 (word &&& 4294901760#32)

/-- What an entry adds to row `m`, column `J` of the result: the activation its row names times its value, if the entry is
    one and `J` is its column. -/
def contrib (x2 : FVec Ideal S128x5120 .bf16) (row word : BitVec 32) (m : Fin 128) (J : ℕ) : EReal :=
  if 0 ≤ row.toInt ∧ (word &&& 65535#32).toNat = J then x2 (ix2 m ⟨row.toNat % 5120, Nat.mod_lt _ (by decide)⟩) * value word else 0

/-- The remainder of a word that is not negative, as a number's word. -/
theorem rem128 (q : BitVec 32) (h : 2 * q.toNat < 2 ^ 32) : Scalar.remsi q 128#32 = BitVec.ofNat 32 (q.toNat % 128) := by
  rw [← BitVec.toNat_inj, BitVec.toNat_ofNat, Nat.mod_eq_of_lt (by omega)]
  exact IntOp.toNat_remsi .scalar h 128 (by decide) (by decide)

/-- Small numbers' words are equal where the numbers are. -/
theorem ofNat_eq (a b : ℕ) (ha : a < 128) (hb : b < 128) : IntOp.cmpi .eq (BitVec.ofNat 32 a) (BitVec.ofNat 32 b) = 1#1 ↔ a = b := by
  have e : BitVec.ofNat 32 a = BitVec.ofNat 32 b ↔ a = b := by
    rw [← BitVec.toNat_inj, BitVec.toNat_ofNat, BitVec.toNat_ofNat, Nat.mod_eq_of_lt (by omega), Nat.mod_eq_of_lt (by omega)]
  simp only [IntOp.cmpi]
  rw [← e]
  by_cases h : BitVec.ofNat 32 a = BitVec.ofNat 32 b
  · simp [h]
  · rw [beq_eq_false_iff_ne.2 h]; simp [h]

/-- The matrix of one entry: its value where row and column are the entry's, and zero. -/
theorem one_apply (row word : BitVec 32) (h : 2 * row.toNat < 2 ^ 32) (k l : Fin 128) :
    k0_pay507 (F := Ideal) row word (Scalar.andi word 65535#32) (ix2 k l)
      = if k.val = row.toNat % 128 ∧ l.val = (word &&& 65535#32).toNat % 128 then value word else 0 := by
  have hl : (word &&& 65535#32).toNat < 65536 := by
    rw [BitVec.toNat_and]; exact lt_of_le_of_lt Nat.and_le_right (by decide)
  have hc : Scalar.remsi (Scalar.andi word 65535#32) 128#32 = BitVec.ofNat 32 ((word &&& 65535#32).toNat % 128) :=
    rem128 (word &&& 65535#32) (by omega)
  have e : k0_pay507 (F := Ideal) row word (Scalar.andi word 65535#32) (ix2 k l)
      = Scalar.select (IntOp.andi (IntOp.cmpi .eq (BitVec.ofNat 32 k.val) (Scalar.remsi row 128#32))
          (IntOp.cmpi .eq (BitVec.ofNat 32 l.val) (Scalar.remsi (Scalar.andi word 65535#32) 128#32))) (value word) 0 := by
    pointwise [k0_pay507, value]
    rfl
  rw [e, rem128 row h, hc]
  simp only [Scalar.select, show (1 : BitVec 1) = 1#1 from rfl, IntOp.andi_eq_one, ofNat_eq _ _ k.isLt (Nat.mod_lt _ (show 0 < 128 by decide)), ofNat_eq _ _ l.isLt (Nat.mod_lt _ (show 0 < 128 by decide))]

/-- What the trip stores into its 128 columns, at an index. -/
theorem pay5_apply (one xk : FVec Ideal S128x128 .bf16) (acc : FVec Ideal S128x128 .f32) (m l : Fin 128) :
    k0_pay5 (F := Ideal) one (k0_pay508 (F := Ideal) xk) acc (ix2 m l) = acc (ix2 m l) + ∑ k : Fin 128, xk (ix2 m k) * one (ix2 k l) := by
  pointwise [k0_pay5, k0_pay508]

/-- One entry adds its contribution, and nothing else. -/
theorem entryStep_apply (i : grid0.Coords) (x2 : FVec Ideal S128x5120 .bf16) (row word : BitVec 32) (hc : k0_chk2 i row word)
    (hr : (word &&& 65535#32).toNat < 27648 → row.toInt < 5120)
    (acc : FVec Ideal S128x1024 .f32) (m : Fin 128) (n : Fin 1024) :
    entryStep (F := Ideal) i x2 row word acc (ix2 m n) = acc (ix2 m n) + contrib x2 row word m (1024 * (i 0).val + n.val) := by
  have hi : (i 0).val < 27 := (i 0).isLt
  unfold entryStep contrib
  by_cases h1 : k0_cond1 i row word = 1#1
  · obtain ⟨h0, hq⟩ := (cond1_iff i row word).1 h1
    have hlt := hr (by omega)
    have he := toInt_of_nonneg row h0
    rw [dif_pos ⟨hc, h1⟩]
    have o0 : k0_off19 word 0 = 0 := congrFun (off19_eq word) 0
    have o1 : k0_off19 word 1 = 128 * ((word &&& 65535#32).toNat % 1024 / 128) := congrFun (off19_eq word) 1
    by_cases hn : 128 * ((word &&& 65535#32).toNat % 1024 / 128) ≤ n.val ∧ n.val < 128 * ((word &&& 65535#32).toNat % 1024 / 128) + 128
    · have hin : ∀ a : Fin S128x1024.rank, k0_off19 word a ≤ ((ix2 m n : S128x1024.Idx) a).val ∧ ((ix2 m n : S128x1024.Idx) a).val < k0_off19 word a + S128x128.size a := by
        intro a; fin_cases a
        · show k0_off19 word 0 ≤ m.val ∧ m.val < k0_off19 word 0 + 128
          rw [o0]; omega
        · show k0_off19 word 1 ≤ n.val ∧ n.val < k0_off19 word 1 + 128
          rw [o1]; exact hn
      have hloc : (Rect.unitLocal (s := S128x1024) (off := k0_off19 word) (size := S128x128.size) (ix2 m n) hin : S128x128.Idx)
          = (ix2 m (⟨n.val - 128 * ((word &&& 65535#32).toNat % 1024 / 128), by omega⟩ : Fin 128) : S128x128.Idx) := by
        funext a; apply Fin.ext; fin_cases a
        · show m.val - k0_off19 word 0 = m.val
          rw [o0]; omega
        · show n.val - k0_off19 word 1 = n.val - 128 * ((word &&& 65535#32).toNat % 1024 / 128)
          rw [o1]
      refine (dif_pos hin).trans ?_
      rw [hloc, pay5_apply]
      refine congrArg₂ (· + ·) ?_ ?_
      · refine View.ld_unit_apply_of _ _ _ _ _ _ ?_
        intro a; fin_cases a
        · show m.val = k0_off19 word 0 + m.val
          rw [o0]; omega
        · show n.val = k0_off19 word 1 + (n.val - 128 * ((word &&& 65535#32).toNat % 1024 / 128))
          rw [o1]; omega
      · simp only [one_apply row word (by omega)]
        have p0 : k0_off18 row 0 = 0 := congrFun (off18_eq row h0 hlt) 0
        have p1 : k0_off18 row 1 = 128 * (row.toNat / 128) := congrFun (off18_eq row h0 hlt) 1
        rw [Finset.sum_eq_single (⟨row.toNat % 128, Nat.mod_lt _ (by decide)⟩ : Fin 128)]
        · have hld : ∀ X : Vec Ideal S128x5120 .bf16, View.ld (Val := Elt Ideal) X (Rect.unit (s := S128x5120) (k0_off18 row) S128x128.size (k0_off18_inb i row word hc h1))
              (ix2 m ⟨row.toNat % 128, Nat.mod_lt _ (by decide)⟩) = X (ix2 m ⟨row.toNat % 5120, Nat.mod_lt _ (by decide)⟩) := by
            intro X
            refine View.ld_unit_apply_of _ _ _ _ _ _ ?_
            intro a; fin_cases a
            · show m.val = k0_off18 row 0 + m.val
              rw [p0]; omega
            · show row.toNat % 5120 = k0_off18 row 1 + row.toNat % 128
              rw [p1]; omega
          rw [hld x2]
          by_cases hJ : (word &&& 65535#32).toNat = 1024 * (i 0).val + n.val
          · rw [if_pos ⟨rfl, by show n.val - 128 * ((word &&& 65535#32).toNat % 1024 / 128) = (word &&& 65535#32).toNat % 128; omega⟩, if_pos ⟨h0, hJ⟩]
          · rw [if_neg (by rintro ⟨_, h⟩; have h : n.val - 128 * ((word &&& 65535#32).toNat % 1024 / 128) = (word &&& 65535#32).toNat % 128 := h; omega),
              if_neg (fun h => hJ h.2), mul_zero]
        · intro k _ hk
          rw [if_neg (fun h => hk (Fin.ext h.1)), mul_zero]
        · intro h; exact absurd (Finset.mem_univ _) h
    · have hout : ¬ ∀ a : Fin S128x1024.rank, k0_off19 word a ≤ ((ix2 m n : S128x1024.Idx) a).val ∧ ((ix2 m n : S128x1024.Idx) a).val < k0_off19 word a + S128x128.size a := by
        intro h
        have h := h 1
        have h : k0_off19 word 1 ≤ n.val ∧ n.val < k0_off19 word 1 + 128 := h
        rw [o1] at h
        exact hn h
      refine (dif_neg hout).trans ?_
      rw [if_neg (by rintro ⟨_, h⟩; omega), add_zero]
  · rw [dif_neg (fun h => h1 h.2), if_neg, add_zero]
    rintro ⟨h0, h⟩
    exact h1 ((cond1_iff i row word).2 ⟨h0, by omega⟩)

/-- What entry `e` of block `b` of list `w` adds to row `m`, column `J` of the result. -/
def listed (x2 : FVec Ideal S128x5120 .bf16) (x7 : Vec Ideal S9437184 .i32) (m : Fin 128) (J : ℕ) (w : Fin 32) (b : Fin 144) (e : Fin 1024) : EReal :=
  contrib x2 (x7 (ix1 ⟨(144 * w.val + b.val) * 2048 + e.val, by omega⟩)) (x7 (ix1 ⟨(144 * w.val + b.val) * 2048 + (1024 + e.val), by omega⟩)) m J

/-- A sum over the first `n` of 144. -/
theorem sum_first (n : ℕ) (hn : n ≤ 144) (g : Fin 144 → EReal) :
    ∑ k : Fin n, g ⟨k.val, by omega⟩ = ∑ b : Fin 144, if b.val < n then g b else 0 := by
  obtain ⟨d, hd⟩ : ∃ d, n + d = 144 := ⟨144 - n, by omega⟩
  rw [← Equiv.sum_comp (finCongr hd), Fin.sum_univ_add]
  rw [Finset.sum_congr rfl (fun (k : Fin n) _ => (if_pos (show (finCongr hd (Fin.castAdd d k)).val < n from k.isLt)))]
  rw [Finset.sum_eq_zero (fun (k : Fin d) _ => (if_neg (show ¬ (finCongr hd (Fin.natAdd n k)).val < n by simp)))]
  rw [add_zero]
  rfl

section Lists

variable (i : grid0.Coords) (x1 : Vec Ideal S32x128 .i32) (x2 : FVec Ideal S128x5120 .bf16) (x7 : Vec Ideal S9437184 .i32)
  (hc : ∀ w : Fin 32, BitVec.toInt (x1 (ix2 w 0) : BitVec 32) ≤ 144)
  (hr : ∀ (w : Fin 32) (b : Fin 144) (e : Fin 1024), (b.val : ℤ) < BitVec.toInt (x1 (ix2 w 0) : BitVec 32) →
      BitVec.toNat ((x7 (ix1 ⟨(144 * w.val + b.val) * 2048 + (1024 + e.val), by omega⟩) : BitVec 32) &&& 65535#32) < 27648 →
      BitVec.toInt (x7 (ix1 ⟨(144 * w.val + b.val) * 2048 + e.val, by omega⟩) : BitVec 32) < 5120)

include hc hr

/-- What one block of a list adds at an index. -/
theorem blockIter_apply (k2 : Fin k0_t2_loop.trips) (h2 : k2.val < 32) (hw : k0_chk1 k2 (cntAt x1 k2)) (k3 : Fin (k0_t3_loop (cntAt x1 k2)).trips)
    (h3 : k3.val < 144) (acc : FVec Ideal S128x1024 .f32) (m : Fin 128) (n : Fin 1024) :
    blockIter (F := Ideal) i x2 (blockWords x7 k2 (cntAt x1 k2) hw k3) acc k0_t4_loop.trips (ix2 m n)
      = acc (ix2 m n) + ∑ e : Fin 1024, listed x2 x7 m (1024 * (i 0).val + n.val) ⟨k2.val, h2⟩ ⟨k3.val, h3⟩ e := by
  have ht : ∀ k : Fin k0_t4_loop.trips, k.val < 1024 := fun k => lt_of_lt_of_eq k.isLt t4_trips
  have hv : BitVec.toInt (cntAt x1 k2 : BitVec 32) ≤ 144 := by
    have := hc ⟨k2.val, h2⟩
    rw [← cntAt_apply x1 k2 h2] at this; exact this
  have hb : (k3.val : ℤ) < BitVec.toInt (x1 (ix2 ⟨k2.val, h2⟩ 0) : BitVec 32) := by
    have h := lt_of_lt_of_eq k3.isLt (t3_trips _)
    have h : (k3.val : ℤ) < BitVec.toInt (cntAt x1 k2 : BitVec 32) := by omega
    exact lt_of_lt_of_eq h (congrArg BitVec.toInt (cntAt_apply x1 k2 h2))
  have hrow : ∀ k : Fin k0_t4_loop.trips, rowAt (blockWords x7 k2 (cntAt x1 k2) hw k3) k = x7 (ix1 ⟨(144 * k2.val + k3.val) * 2048 + k.val, by have := ht k; omega⟩) := by
    intro k; have := ht k
    rw [rowAt_apply _ k (by omega), blockWords_apply _ k2 _ hv _ k3 _ (by dsimp only; omega)]
  have hcol : ∀ k : Fin k0_t4_loop.trips, colAt (blockWords x7 k2 (cntAt x1 k2) hw k3) k = x7 (ix1 ⟨(144 * k2.val + k3.val) * 2048 + (1024 + k.val), by have := ht k; omega⟩) := by
    intro k; have := ht k
    rw [colAt_apply _ k (by omega), blockWords_apply _ k2 _ hv _ k3 _ (by dsimp only; omega)]
  refine (iter_add (fun A : FVec Ideal S128x1024 .f32 => A (ix2 m n)) _ _
    (fun k => listed x2 x7 m (1024 * (i 0).val + n.val) ⟨k2.val, h2⟩ ⟨k3.val, h3⟩ ⟨k.val, ht k⟩) (fun k a => ?_) acc).trans ?_
  · have hbd := hr ⟨k2.val, h2⟩ ⟨k3.val, h3⟩ ⟨k.val, ht k⟩ hb
    show entryStep (F := Ideal) i x2 (rowAt _ k) (colAt _ k) a (ix2 m n) = _
    rw [hrow, hcol]
    exact entryStep_apply i x2 _ _ (chk2_of i _ _ hbd) hbd a m n
  · refine congrArg (acc (ix2 m n) + ·) ?_
    exact Equiv.sum_comp (finCongr t4_trips) (fun e => listed x2 x7 m (1024 * (i 0).val + n.val) ⟨k2.val, h2⟩ ⟨k3.val, h3⟩ e)

/-- What one list adds at an index. -/
theorem listIter_apply (k2 : Fin k0_t2_loop.trips) (h2 : k2.val < 32) (hw : k0_chk1 k2 (cntAt x1 k2))
    (acc : FVec Ideal S128x1024 .f32) (m : Fin 128) (n : Fin 1024) :
    listIter (F := Ideal) i x2 x7 k2 (cntAt x1 k2) hw acc (k0_t3_loop (cntAt x1 k2)).trips (ix2 m n)
      = acc (ix2 m n) + ∑ b : Fin 144, if (b.val : ℤ) < BitVec.toInt (x1 (ix2 ⟨k2.val, h2⟩ 0) : BitVec 32)
          then ∑ e : Fin 1024, listed x2 x7 m (1024 * (i 0).val + n.val) ⟨k2.val, h2⟩ b e else 0 := by
  have hv : BitVec.toInt (cntAt x1 k2 : BitVec 32) ≤ 144 := by
    have := hc ⟨k2.val, h2⟩
    rw [← cntAt_apply x1 k2 h2] at this; exact this
  have ht : (k0_t3_loop (cntAt x1 k2)).trips ≤ 144 := by rw [t3_trips]; omega
  refine (iter_add (fun A : FVec Ideal S128x1024 .f32 => A (ix2 m n)) _ _
    (fun k3 => ∑ e : Fin 1024, listed x2 x7 m (1024 * (i 0).val + n.val) ⟨k2.val, h2⟩ ⟨k3.val, lt_of_lt_of_le k3.isLt ht⟩ e)
    (fun k3 a => blockIter_apply i x1 x2 x7 hc hr k2 h2 hw k3 (lt_of_lt_of_le k3.isLt ht) a m n) acc).trans ?_
  refine congrArg (acc (ix2 m n) + ·) ?_
  rw [sum_first _ ht (fun b => ∑ e : Fin 1024, listed x2 x7 m (1024 * (i 0).val + n.val) ⟨k2.val, h2⟩ b e)]
  refine Finset.sum_congr rfl fun b _ => if_congr ?_ rfl rfl
  rw [t3_trips, cntAt_apply x1 k2 h2]
  omega

/-- What all the lists add at an index. -/
theorem listsIter_apply (hw : ∀ k2, k0_chk1 k2 (cntAt x1 k2)) (acc : FVec Ideal S128x1024 .f32) (m : Fin 128) (n : Fin 1024) :
    listsIter (F := Ideal) i x1 x2 x7 hw acc k0_t2_loop.trips (ix2 m n)
      = acc (ix2 m n) + ∑ w : Fin 32, ∑ b : Fin 144, if (b.val : ℤ) < BitVec.toInt (x1 (ix2 w 0) : BitVec 32)
          then ∑ e : Fin 1024, listed x2 x7 m (1024 * (i 0).val + n.val) w b e else 0 := by
  have ht : ∀ k : Fin k0_t2_loop.trips, k.val < 32 := fun k => lt_of_lt_of_eq k.isLt t2_trips
  refine (iter_add (fun A : FVec Ideal S128x1024 .f32 => A (ix2 m n)) _ _
    (fun k2 => ∑ b : Fin 144, if (b.val : ℤ) < BitVec.toInt (x1 (ix2 ⟨k2.val, ht k2⟩ 0) : BitVec 32)
          then ∑ e : Fin 1024, listed x2 x7 m (1024 * (i 0).val + n.val) ⟨k2.val, ht k2⟩ b e else 0)
    (fun k2 a => listIter_apply i x1 x2 x7 hc hr k2 (ht k2) (hw k2) a m n) acc).trans ?_
  refine congrArg (acc (ix2 m n) + ·) ?_
  exact Equiv.sum_comp (finCongr t2_trips) (fun w => ∑ b : Fin 144, if (b.val : ℤ) < BitVec.toInt (x1 (ix2 w 0) : BitVec 32)
          then ∑ e : Fin 1024, listed x2 x7 m (1024 * (i 0).val + n.val) w b e else 0)

/-- What a grid point leaves in its block of the result, at an index. -/
theorem outVal_apply (x3 : FVec Ideal S128x5120 .bf16) (x4 : Vec Ideal S80x1x8x8x128 .i32) (x5 : Vec Ideal S80x1x4x8x128 .i32)
    (x6 : FVec Ideal S128x1024 .f32) (h : WordsOK i x1 x7) (m : Fin 128) (n : Fin 1024) :
    outVal (F := Ideal) i x1 x2 x3 x4 x5 x6 x7 h (ix2 m n)
      = x6 (ix2 m n) + (∑ p : Fin 5120, x3 (ix2 m p) * dec x4 x5 p n) + ∑ w : Fin 32, ∑ b : Fin 144, if (b.val : ℤ) < BitVec.toInt (x1 (ix2 w 0) : BitVec 32)
          then ∑ e : Fin 1024, listed x2 x7 m (1024 * (i 0).val + n.val) w b e else 0 := by
  have h7 : ∀ A : FVec Ideal S128x1024 .f32, k0_pay7 (F := Ideal) A (ix2 m n) = A (ix2 m n) := by intro A; pointwise [k0_pay7]
  have h1 : ∀ A : FVec Ideal S128x1024 .f32, k0_pay1 (F := Ideal) A (ix2 m n) = A (ix2 m n) := by intro A; pointwise [k0_pay1]
  unfold outVal
  refine (h7 _).trans ?_
  rw [listsIter_apply i x1 x2 x7 hc hr, tilesIter_apply, h1]

end Lists

end Cert.SparseIdeal.Hand

end
-- ==== Proof.SparseArray.lean ====
/-
  What the result array holds after the whole grid, in terms of the program's arguments (hand-written, untrusted).
-/
module

public import proofs.«01_k».proof.Proof.SparseFrame
public import proofs.«01_k».proof.Proof.SparseValue

@[expose] public section

set_option maxRecDepth 65536
set_option maxHeartbeats 40000000

noncomputable section

namespace Cert.SparseIdeal.Hand

open Cert.SparseIdeal Cert.SparseIdeal.Gen
open Idealize.ShloMosaic Idealize.ShloMosaic.TcCoe
open Idealize.SL.Sem

variable (m : (ℓ : Loc nD τ sig) → Buf (Elt Ideal) ℓ)

/-- The grid's only coordinate is the point. -/
theorem coord_eq : ∀ t : Fin cfg0.N, ((grid0.coords t) 0).val = t.val :=
  (by decide +kernel : ∀ t : Fin grid0.N, _)

/-- The activations without their leading axis of one. -/
theorem cast_x (x : FVec Ideal S1x128x5120 .bf16) (i : Fin 128) (d : Fin 5120) :
    shapeCast S128x5120 x shapeCasts_S1x128x5120_S128x5120 (ix2 i d) = x (ix3 0 i d) := by
  pointwise

/-- The feature that stands at position `p` of the reordered activations. -/
def feature (p : Fin 5120) : Fin 5120 :=
  ⟨p.val / 64 * 64 + p.val / 8 % 2 * 32 + p.val % 2 * 16 + p.val / 16 % 4 * 4 + p.val / 2 % 4, by omega⟩

/-- The activations in the order of the decoded rows. -/
theorem cast_xp (x : FVec Ideal S1x128x5120 .bf16) (i : Fin 128) (p : Fin 5120) :
    shapeCast S128x5120 (transpose S128x80x4x2x4x2 [0, 1, 4, 2, 5, 3]
        (shapeCast S128x80x2x2x4x4 (shapeCast S128x5120 x shapeCasts_S1x128x5120_S128x5120) shapeCasts_S128x5120_S128x80x2x2x4x4)
        transposes_S128x80x2x2x4x4_S128x80x4x2x4x2_0_1_4_2_5_3) shapeCasts_S128x80x4x2x4x2_S128x5120 (ix2 i p)
      = x (ix3 0 i (feature p)) := by
  pointwise
  refine congrArg x ?_
  refine congrArg₂ (ix3 0) ?_ ?_ <;> apply Fin.ext <;> (try unfold feature) <;> dsimp only <;> omega

/-- Window 1 holds all activations at every point. -/
theorem read_x (c : Dev nD) (t : Fin cfg0.N) (i : Fin 128) (d : Fin 5120) :
    iblk m c 1 t (ix2 i d) = m ((c : Thread nD τ).loc main_arg0) (ix3 0 i d) := by
  obtain ⟨e0, e1, e2, e3, e4, e5, e6⟩ := places t
  blk_simp [iblk]
  entry_read
  refine Eq.trans (congrArg _ (funext fun a => Fin.ext ?_)) (cast_x _ i d)
  match a with
  | ⟨0, _⟩ =>
    show win0_1.index t 0 * 128 + 1 * i.val = i.val
    rw [show win0_1.index t 0 = 0 from congrFun e1 0]; omega
  | ⟨1, _⟩ =>
    show win0_1.index t 1 * 5120 + 1 * d.val = d.val
    rw [show win0_1.index t 1 = 0 from congrFun e1 1]; omega

/-- Window 2 holds the reordered activations at every point. -/
theorem read_xp (c : Dev nD) (t : Fin cfg0.N) (i : Fin 128) (p : Fin 5120) :
    iblk m c 2 t (ix2 i p) = m ((c : Thread nD τ).loc main_arg0) (ix3 0 i (feature p)) := by
  obtain ⟨e0, e1, e2, e3, e4, e5, e6⟩ := places t
  blk_simp [iblk]
  entry_read
  refine Eq.trans (congrArg _ (funext fun a => Fin.ext ?_)) (cast_xp _ i p)
  match a with
  | ⟨0, _⟩ =>
    show win0_2.index t 0 * 128 + 1 * i.val = i.val
    rw [show win0_2.index t 0 = 0 from congrFun e2 0]; omega
  | ⟨1, _⟩ =>
    show win0_2.index t 1 * 5120 + 1 * p.val = p.val
    rw [show win0_2.index t 1 = 0 from congrFun e2 1]; omega

/-- Window 3 holds chunk `t` of the slot words. -/
theorem read_idx (c : Dev nD) (t : Fin cfg0.N) (q : Fin 80) (ct r : Fin 8) (l : Fin 128) (h : t.val < 27) :
    iblk m c 3 t (ix5 q 0 ct r l) = m ((c : Thread nD τ).loc main_arg1) (ix5 q ⟨t.val, h⟩ ct r l) := by
  obtain ⟨e0, e1, e2, e3, e4, e5, e6⟩ := places t
  blk_ext [iblk, V, e3]

/-- Window 4 holds chunk `t` of the tables. -/
theorem read_tab (c : Dev nD) (t : Fin cfg0.N) (q : Fin 80) (b : Fin 4) (r : Fin 8) (l : Fin 128) (h : t.val < 27) :
    iblk m c 4 t (ix5 q 0 b r l) = m ((c : Thread nD τ).loc main_arg2) (ix5 q ⟨t.val, h⟩ b r l) := by
  obtain ⟨e0, e1, e2, e3, e4, e5, e6⟩ := places t
  blk_ext [iblk, V, e4]

/-- Window 5 holds 1024 columns of the partial result, the ones from `1024 t` on. -/
theorem read_part (c : Dev nD) (t : Fin cfg0.N) (i : Fin 128) (j : Fin 1024) (h : 1024 * t.val + j.val < 27648) :
    iblk m c 5 t (ix2 i j) = m ((c : Thread nD τ).loc main_arg5) (ix2 i ⟨1024 * t.val + j.val, h⟩) := by
  obtain ⟨e0, e1, e2, e3, e4, e5, e6⟩ := places t
  blk_ext [iblk, V, e5]

/-- Distinct grid points write distinct blocks of the result. -/
theorem idx_inj6 : ∀ t t' : Fin cfg0.N, win0_6.index t = win0_6.index t' → t = t' :=
  (by decide +kernel : ∀ t t' : Fin grid0.N, win0_6.index t = win0_6.index t' → t = t')

/-- Two points' blocks share no index of the result. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- A block of the result array is what its point left there. -/
theorem block6 (hok : WordsAt m) (c : Dev nD) (t : Fin cfg0.N) (i : Fin 128) (j : Fin 1024) (h : 1024 * t.val + j.val < 27648) :
    (dats m hok 0 c).arrAt 6 cfg0.N (ix2 i ⟨1024 * t.val + j.val, h⟩) = (dats m hok 0 c).after 6 t (ix2 i j) := by
  obtain ⟨e0, e1, e2, e3, e4, e5, e6⟩ := places t
  have hb := congrFun ((dats m hok 0 c).read_blk_arrAt_eq_flushed 6 disjoint6 cfg0.N t t.isLt (flush0_6 t)) (ix2 i j)
  refine Eq.trans (congrArg _ (funext fun a => Fin.ext ?_)) (hb.trans ?_)
  · match a with
    | ⟨0, _⟩ =>
      show i.val = win0_6.index t 0 * 128 + 1 * i.val
      rw [show win0_6.index t 0 = 0 from congrFun e6 0]; omega
    | ⟨1, _⟩ =>
      show 1024 * t.val + j.val = win0_6.index t 1 * 1024 + 1 * j.val
      rw [show win0_6.index t 1 = t.val from congrFun e6 1]; omega
  · rfl

/-- The decoded element of the tables for position `p` of the reordered activations, at column `J`. -/
def entry (idx : Vec Ideal S80x27x8x8x128 .i32) (tab : Vec Ideal S80x27x4x8x128 .i32) (p : Fin 5120) (J : Fin 27648) : EReal :=
  half (tab (ix5 ⟨p.val / 64, by omega⟩ ⟨J.val / 1024, by omega⟩ ⟨p.val / 16 % 4, by omega⟩ ⟨p.val % 16 / 2, by omega⟩
    (slot (idx (ix5 ⟨p.val / 64, by omega⟩ ⟨J.val / 1024, by omega⟩ ⟨J.val % 1024 / 128, by omega⟩ ⟨p.val % 16 / 2, by omega⟩ ⟨J.val % 128, by omega⟩))
      (p.val / 16 % 4)))) (p.val % 2)

/-- What entry `e` of block `b` of list `w` adds to row `i`, column `J` of the result, of the activations as given. -/
def listEntry (x : FVec Ideal S1x128x5120 .bf16) (coo : Vec Ideal S9437184 .i32) (i : Fin 128) (J : ℕ) (w : Fin 32) (b : Fin 144) (e : Fin 1024) : EReal :=
  if 0 ≤ BitVec.toInt (coo (ix1 ⟨(144 * w.val + b.val) * 2048 + e.val, by omega⟩) : BitVec 32)
      ∧ BitVec.toNat ((coo (ix1 ⟨(144 * w.val + b.val) * 2048 + (1024 + e.val), by omega⟩) : BitVec 32) &&& 65535#32) = J
    then x (ix3 0 i ⟨BitVec.toNat (coo (ix1 ⟨(144 * w.val + b.val) * 2048 + e.val, by omega⟩) : BitVec 32) % 5120, Nat.mod_lt _ (by decide)⟩)
      * value (coo (ix1 ⟨(144 * w.val + b.val) * 2048 + (1024 + e.val), by omega⟩))
    else 0

/-- The result at row `i`, column `J`, as a function of the six arguments. -/
def result (x : FVec Ideal S1x128x5120 .bf16) (idx : Vec Ideal S80x27x8x8x128 .i32) (tab : Vec Ideal S80x27x4x8x128 .i32)
    (coo : Vec Ideal S9437184 .i32) (cnt : Vec Ideal S32x128 .i32) (part : FVec Ideal S128x27648 .f32) (i : Fin 128) (J : Fin 27648) : EReal :=
  part (ix2 i J) + (∑ p : Fin 5120, x (ix3 0 i (feature p)) * entry idx tab p J)
    + ∑ w : Fin 32, ∑ b : Fin 144, if (b.val : ℤ) < BitVec.toInt (cnt (ix2 w 0) : BitVec 32)
        then ∑ e : Fin 1024, listEntry x coo i J.val w b e else 0

/-- What the precondition says of the words. -/
def Bounds (coo : Vec Ideal S9437184 .i32) (cnt : Vec Ideal S32x128 .i32) : Prop :=
  (∀ w : Fin 32, BitVec.toInt (cnt (ix2 w 0) : BitVec 32) ≤ 144)
  ∧ ∀ (w : Fin 32) (b : Fin 144) (e : Fin 1024), (b.val : ℤ) < BitVec.toInt (cnt (ix2 w 0) : BitVec 32) →
      BitVec.toNat ((coo (ix1 ⟨(144 * w.val + b.val) * 2048 + (1024 + e.val), by omega⟩) : BitVec 32) &&& 65535#32) < 27648 →
      BitVec.toInt (coo (ix1 ⟨(144 * w.val + b.val) * 2048 + e.val, by omega⟩) : BitVec 32) < 5120

/-- The array the program leaves, read at row `i`, column `J`. -/
theorem array_apply (hok : WordsAt m) (c : Dev nD) (hb : Bounds (m ((c : Thread nD τ).loc main_arg3)) (m ((c : Thread nD τ).loc main_arg4)))
    (i : Fin 128) (J : Fin 27648) :
    (dats m hok 0 c).arrAt 6 cfg0.N (ix2 i J)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) i J := by
  have hN : cfg0.N = 27 := N_0
  obtain ⟨t, ht⟩ : ∃ t : Fin cfg0.N, t.val = J.val / 1024 := ⟨⟨J.val / 1024, by omega⟩, rfl⟩
  obtain ⟨j, hj⟩ : ∃ j : Fin 1024, j.val = J.val % 1024 := ⟨⟨J.val % 1024, by omega⟩, rfl⟩
  have h : 1024 * t.val + j.val < 27648 := by omega
  have hJ : J = ⟨1024 * t.val + j.val, h⟩ := Fin.ext (by dsimp only; omega)
  have ht27 : t.val < 27 := by omega
  rw [hJ, block6, aft_6]
  have hx7 : hbM.view.read (Elt Ideal) (V m c main_arg3) = m ((c : Thread nD τ).loc main_arg3) := V_main_arg3 m c
  have hcnt : ∀ w, iblk m c 0 t (ix2 w 0) = m ((c : Thread nD τ).loc main_arg4) (ix2 w 0) := fun w => read_cnt m c t w 0
  obtain ⟨h1, h2⟩ := hb
  refine (outVal_apply (grid0.coords t) (iblk m c 0 t) (iblk m c 1 t) (hbM.view.read (Elt Ideal) (V m c main_arg3)) ?_ ?_
    (iblk m c 2 t) (iblk m c 3 t) (iblk m c 4 t) (iblk m c 5 t) (hok c t) i j).trans ?_
  · intro w; rw [hcnt]; exact h1 w
  · intro w b e; rw [hcnt, hx7]; exact h2 w b e
  unfold result
  rw [read_part m c t i j h]
  refine congrArg₂ (fun a b : EReal => a + b) (congrArg₂ (fun a b : EReal => a + b) rfl (Finset.sum_congr rfl fun p _ => ?_)) (Finset.sum_congr rfl fun w _ => Finset.sum_congr rfl fun b _ => ?_)
  · rw [read_xp]
    refine congrArg₂ (fun a b : EReal => a * b) rfl ?_
    unfold dec entry
    rw [read_tab m c t _ _ _ _ ht27, read_idx m c t _ _ _ _ ht27]
    have g1 : (⟨t.val, ht27⟩ : Fin 27) = ⟨(1024 * t.val + j.val) / 1024, by omega⟩ := Fin.ext (by dsimp only; omega)
    have g2 : (⟨j.val / 128, by omega⟩ : Fin 8) = ⟨(1024 * t.val + j.val) % 1024 / 128, by omega⟩ := Fin.ext (by dsimp only; omega)
    have g3 : (⟨j.val % 128, by omega⟩ : Fin 128) = ⟨(1024 * t.val + j.val) % 128, by omega⟩ := Fin.ext (by dsimp only; omega)
    rw [g1, g2, g3]
  · rw [hcnt]
    refine if_congr Iff.rfl (Finset.sum_congr rfl fun e _ => ?_) rfl
    unfold listed contrib listEntry
    rw [hx7, coord_eq, read_x]

end Cert.SparseIdeal.Hand

end
-- ==== Proof.SparseReference.lean ====
/-
  What the second reference computes, read at an index over the extended reals: the partial result, plus the product with
  the matrix decoded from the tables, plus the listed entries (hand-written, untrusted).
-/
module

public import proofs.«01_k».proof.Defs
public import proofs.«01_k».proof.Proof.Gen.SparseReferenceIdeal.Run
public import Idealize.ShloMosaic.Lib.Pointwise
public import Idealize.ShloMosaic.Lib.BitcastConvert
public import proofs.«01_k».proof.Proof.SparseValue

@[expose] public section

set_option maxRecDepth 65536
set_option maxHeartbeats 4000000

noncomputable section

namespace Cert.SparseReferenceIdeal.Hand

open Cert.SparseReferenceIdeal Cert.SparseReferenceIdeal.Gen Idealize.ShloMosaic Idealize.ShloMosaic.TcCoe Idealize.SL.Sem
open Cert.SparseIdeal.Hand (half slot value)

/-- The activations gathered by feature: each index word's column, kept inside the array. -/
theorem take_apply (x : FVec Ideal S128x5120 .bf16) (idx : IVec S4718592x1 32) (i : Fin 128) (f : Fin 4718592) :
    Host.gather gather_S128x5120_S4718592x1_S128x4718592_0_1_n_n_1_1_1281 x idx (ix2 i f)
      = x (ix2 i ⟨min (BitVec.toInt (idx (ix2 f 0))).toNat 5119, by omega⟩) := by
  have s1 : gather_S128x5120_S4718592x1_S128x4718592_0_1_n_n_1_1_1281.start (ix2 i f) idx 1 = min (BitVec.toInt (idx (ix2 f 0))).toNat 5119 := by
    show min (BitVec.toInt (idx _)).toNat 5119 = _
    refine congrArg (fun z => min (BitVec.toInt (idx z)).toNat 5119) (funext fun b => Fin.ext ?_)
    match b with
    | ⟨0, _⟩ => rfl
    | ⟨1, _⟩ => rfl
  refine congrArg x (funext fun a => Fin.ext ?_)
  match a with
  | ⟨0, _⟩ => show 0 + 0 + i.val = i.val; omega
  | ⟨1, _⟩ =>
    show gather_S128x5120_S4718592x1_S128x4718592_0_1_n_n_1_1_1281.start (ix2 i f) idx 1 + 0 + 0 = min (BitVec.toInt (idx (ix2 f 0))).toNat 5119
    rw [s1]; rfl

/-- Where an update lands: in its own row, at the column its index word names, read signed. -/
theorem lands (idx : IVec S4718592x1 32) (i' i : Fin 128) (f : Fin 4718592) (J : Fin 27648) :
    scatter_S128x27648_S4718592x1_S128x4718592_0_1_1_1.resultIdx? (ix2 i' f) idx = some (ix2 i J)
      ↔ i' = i ∧ BitVec.toInt (idx (ix2 f 0)) = (J.val : ℤ) := by
  have h0 : scatter_S128x27648_S4718592x1_S128x4718592_0_1_1_1.start (ix2 i' f) idx 0 = 0 := rfl
  have w0 : scatter_S128x27648_S4718592x1_S128x4718592_0_1_1_1.window (ix2 i' f) 0 = i'.val := rfl
  have w1 : scatter_S128x27648_S4718592x1_S128x4718592_0_1_1_1.window (ix2 i' f) 1 = 0 := rfl
  have h1 : scatter_S128x27648_S4718592x1_S128x4718592_0_1_1_1.start (ix2 i' f) idx 1 = BitVec.toInt (idx (ix2 f 0)) := by
    show BitVec.toInt (idx _) = _
    refine congrArg (fun z => BitVec.toInt (idx z)) (funext fun b => Fin.ext ?_)
    match b with
    | ⟨0, _⟩ => rfl
    | ⟨1, _⟩ => rfl
  have hi := i.isLt
  have hi' := i'.isLt
  have hJ := J.isLt
  unfold ScatterDims.resultIdx?
  constructor
  · intro h
    split at h
    · next hb =>
      have h := Option.some.inj h
      have e0 := congrArg Fin.val (congrFun h 0)
      have e1 := congrArg Fin.val (congrFun h 1)
      have b1 := hb 1
      dsimp only at e0 e1
      rw [h0, w0] at e0
      rw [h1, w1] at e1 b1
      have e0 : ((0 : ℤ) + (i'.val : ℤ)).toNat = i.val := e0
      have e1 : (BitVec.toInt (idx (ix2 f 0)) + ((0 : ℕ) : ℤ)).toNat = J.val := e1
      exact ⟨Fin.ext (by omega), by omega⟩
    · exact absurd h (by simp)
  · rintro ⟨rfl, h⟩
    rw [dif_pos]
    · refine congrArg some (funext fun a => Fin.ext ?_)
      match a with
      | ⟨0, _⟩ =>
        show (scatter_S128x27648_S4718592x1_S128x4718592_0_1_1_1.start (ix2 i' f) idx 0 + (scatter_S128x27648_S4718592x1_S128x4718592_0_1_1_1.window (ix2 i' f) 0 : ℤ)).toNat = i'.val
        rw [h0, w0]; omega
      | ⟨1, _⟩ =>
        show (scatter_S128x27648_S4718592x1_S128x4718592_0_1_1_1.start (ix2 i' f) idx 1 + (scatter_S128x27648_S4718592x1_S128x4718592_0_1_1_1.window (ix2 i' f) 1 : ℤ)).toNat = J.val
        rw [h1, w1]; omega
    · intro a
      match a with
      | ⟨0, _⟩ =>
        show 0 ≤ scatter_S128x27648_S4718592x1_S128x4718592_0_1_1_1.start (ix2 i' f) idx 0 + (scatter_S128x27648_S4718592x1_S128x4718592_0_1_1_1.window (ix2 i' f) 0 : ℤ)
          ∧ scatter_S128x27648_S4718592x1_S128x4718592_0_1_1_1.start (ix2 i' f) idx 0 + (scatter_S128x27648_S4718592x1_S128x4718592_0_1_1_1.window (ix2 i' f) 0 : ℤ) < 128
        rw [h0, w0]; omega
      | ⟨1, _⟩ =>
        show 0 ≤ scatter_S128x27648_S4718592x1_S128x4718592_0_1_1_1.start (ix2 i' f) idx 1 + (scatter_S128x27648_S4718592x1_S128x4718592_0_1_1_1.window (ix2 i' f) 1 : ℤ)
          ∧ scatter_S128x27648_S4718592x1_S128x4718592_0_1_1_1.start (ix2 i' f) idx 1 + (scatter_S128x27648_S4718592x1_S128x4718592_0_1_1_1.window (ix2 i' f) 1 : ℤ) < 27648
        rw [h1, w1]; omega

/-- The tables gathered along their last axis: each index word's lane, kept inside the table. -/
theorem pick_apply (x : IVec S80x27x8x4x8x128 32) (idx : IVec S80x27x8x4x8x128x1 32) (q : Fin 80) (ch : Fin 27) (ct : Fin 8) (b : Fin 4) (r : Fin 8) (l : Fin 128) :
    Host.gather gather_S80x27x8x4x8x128_S80x27x8x4x8x128x1_S80x27x8x4x8x128_n_5_01234_01234_5_6_111111 x idx (ix6 q ch ct b r l)
      = x (ix6 q ch ct b r ⟨min (BitVec.toInt (idx (ix7 q ch ct b r l 0))).toNat 127, by omega⟩) := by
  have s5 : gather_S80x27x8x4x8x128_S80x27x8x4x8x128x1_S80x27x8x4x8x128_n_5_01234_01234_5_6_111111.start (ix6 q ch ct b r l) idx 5
      = min (BitVec.toInt (idx (ix7 q ch ct b r l 0))).toNat 127 := by
    show min (BitVec.toInt (idx _)).toNat 127 = _
    refine congrArg (fun z => min (BitVec.toInt (idx z)).toNat 127) (funext fun b => Fin.ext ?_)
    match b with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  refine congrArg x (funext fun a => Fin.ext ?_)
  match a with
  | ⟨0, _⟩ => show 0 + q.val + 0 = q.val; omega
  | ⟨1, _⟩ => show 0 + ch.val + 0 = ch.val; omega
  | ⟨2, _⟩ => show 0 + ct.val + 0 = ct.val; omega
  | ⟨3, _⟩ => show 0 + b.val + 0 = b.val; omega
  | ⟨4, _⟩ => show 0 + r.val + 0 = r.val; omega
  | ⟨5, _⟩ =>
    show gather_S80x27x8x4x8x128_S80x27x8x4x8x128x1_S80x27x8x4x8x128_n_5_01234_01234_5_6_111111.start (ix6 q ch ct b r l) idx 5 + 0 + 0 = min (BitVec.toInt (idx (ix7 q ch ct b r l 0))).toNat 127
    rw [s5]; rfl

/-- The halves of the words, laid out as a matrix of features and columns. -/
theorem matrix_apply (H : FVec Ideal S80x27x8x4x8x128x2 .bf16) (d : Fin 5120) (J : Fin 27648) :
    shapeCast S5120x27648 (transpose S80x2x2x4x4x27x8x128 [0, 4, 7, 3, 5, 1, 2, 6]
        (shapeCast S80x27x8x4x2x4x128x2 H shapeCasts_S80x27x8x4x8x128x2_S80x27x8x4x2x4x128x2) transposes_S80x27x8x4x2x4x128x2_S80x2x2x4x4x27x8x128_0_4_7_3_5_1_2_6)
        shapeCasts_S80x2x2x4x4x27x8x128_S5120x27648 (ix2 d J)
      = H (ix7 ⟨d.val / 64, by omega⟩ ⟨J.val / 1024, by omega⟩ ⟨J.val % 1024 / 128, by omega⟩ ⟨d.val / 4 % 4, by omega⟩ ⟨d.val / 32 % 2 * 4 + d.val % 4, by omega⟩ ⟨J.val % 128, by omega⟩ ⟨d.val / 16 % 2, by omega⟩) := by
  have e1 : ∀ (q : Fin 80) (u h : Fin 2) (b w : Fin 4) (ch : Fin 27) (ct : Fin 8) (l : Fin 128),
      transpose S80x2x2x4x4x27x8x128 [0, 4, 7, 3, 5, 1, 2, 6]
        (shapeCast S80x27x8x4x2x4x128x2 H shapeCasts_S80x27x8x4x8x128x2_S80x27x8x4x2x4x128x2) transposes_S80x27x8x4x2x4x128x2_S80x2x2x4x4x27x8x128_0_4_7_3_5_1_2_6 (ix8 q u h b w ch ct l)
      = H (ix7 q ch ct b ⟨u.val * 4 + w.val, by omega⟩ l h) := by
    intro q u h b w ch ct l
    pointwise
  generalize transpose _ _ _ _ = T at e1 ⊢
  have e2 := e1 ⟨d.val / 64, by omega⟩ ⟨d.val / 32 % 2, by omega⟩ ⟨d.val / 16 % 2, by omega⟩ ⟨d.val / 4 % 4, by omega⟩ ⟨d.val % 4, by omega⟩ ⟨J.val / 1024, by omega⟩ ⟨J.val % 1024 / 128, by omega⟩ ⟨J.val % 128, by omega⟩
  refine Eq.trans ?_ e2
  pointwise
  exact congrArg (fun z => T (ix8 _ _ _ _ _ _ z _)) (Fin.ext (by dsimp only; omega))

/-- The slot of each byte of the words: seven bits of it. -/
def slots (idx : IVec S80x27x8x8x128 32) : IVec S80x27x8x4x8x128 32 :=
  andi (Host.shrui (broadcastInDim S80x27x8x4x8x128 ![0, 1, 2, 3, 4, 5] bcast_S80x27x8x1x8x128_S80x27x8x4x8x128_0_1_2_3_4_5 (broadcastInDim S80x27x8x1x8x128 ![0, 1, 2, 4, 5] bcast_S80x27x8x8x128_S80x27x8x1x8x128_0_1_2_4_5 idx)) (broadcastInDim S80x27x8x4x8x128 ![3, 4, 5] bcast_S4x1x1_S80x27x8x4x8x128_3_4_5 (shapeCast _ (muli (broadcastInDim S4 ![] bcast_S_S4 (constantI S_ 32 8#32)) (iotaInDim S4 32 0)) shapeCasts_S4_S4x1x1))) (broadcastInDim S80x27x8x4x8x128 ![] bcast_S_S80x27x8x4x8x128 (constantI S_ 32 127#32))

/-- The slots with negative ones wrapped. -/
def lanes (idx : IVec S80x27x8x8x128 32) : IVec S80x27x8x4x8x128 32 :=
  select (cmpi .slt (slots idx) (broadcastInDim S80x27x8x4x8x128 ![] bcast_S_S80x27x8x4x8x128 (constantI S_ 32 0#32))) (addi (slots idx) (broadcastInDim S80x27x8x4x8x128 ![] bcast_S_S80x27x8x4x8x128 (constantI S_ 32 128#32))) (slots idx)

/-- The halves of the table words picked. -/
def halves {F : FTy → Type} [FloatOps F] (idx : IVec S80x27x8x8x128 32) (tab : IVec S80x27x4x8x128 32) : FVec F S80x27x8x4x8x128x2 .bf16 :=
  bitcastToFloat (F := F) .bf16 (Host.bitcastConvertNarrow S80x27x8x4x8x128x2 16 (Host.gather gather_S80x27x8x4x8x128_S80x27x8x4x8x128x1_S80x27x8x4x8x128_n_5_01234_01234_5_6_111111 (broadcastInDim S80x27x8x4x8x128 ![0, 1, 2, 3, 4, 5] bcast_S80x27x1x4x8x128_S80x27x8x4x8x128_0_1_2_3_4_5 (broadcastInDim S80x27x1x4x8x128 ![0, 1, 3, 4, 5] bcast_S80x27x4x8x128_S80x27x1x4x8x128_0_1_3_4_5 tab)) (shapeCast _ (lanes idx) shapeCasts_S80x27x8x4x8x128_S80x27x8x4x8x128x1)) splits_S80x27x8x4x8x128_w32_S80x27x8x4x8x128x2_w16)

/-- The row words of the lists. -/
def rows (coo : IVec S9437184 32) : IVec S32x144x1024 32 :=
  shapeCast _ (extractStridedSlice S32x144x1x1024 ![0, 0, 0, 0] (shapeCast _ coo shapeCasts_S9437184_S32x144x2x1024) slices_S32x144x2x1024_S32x144x1x1024_0_0_0_0) shapeCasts_S32x144x1x1024_S32x144x1024

/-- The words of column and value of the lists. -/
def words (coo : IVec S9437184 32) : IVec S32x144x1024 32 :=
  shapeCast _ (extractStridedSlice S32x144x1x1024 ![0, 0, 1, 0] (shapeCast _ coo shapeCasts_S9437184_S32x144x2x1024) slices_S32x144x2x1024_S32x144x1x1024_0_0_1_0) shapeCasts_S32x144x1x1024_S32x144x1024

/-- The columns of the lists, in one row. -/
def cols (coo : IVec S9437184 32) : IVec S4718592 32 :=
  shapeCast _ (andi (words coo) (broadcastInDim S32x144x1024 ![] bcast_S_S32x144x1024 (constantI S_ 32 65535#32))) shapeCasts_S32x144x1024_S4718592

/-- The columns with negative ones wrapped. -/
def wrapped (coo : IVec S9437184 32) : IVec S4718592 32 :=
  select (cmpi .slt (cols coo) (broadcastInDim S4718592 ![] bcast_S_S4718592 (constantI S_ 32 0#32))) (addi (cols coo) (broadcastInDim S4718592 ![] bcast_S_S4718592 (constantI S_ 32 27648#32))) (cols coo)

/-- The values of the entries, zero where an entry is not used. -/
def values {F : FTy → Type} [FloatOps F] (coo : IVec S9437184 32) (cnt : IVec S32x128 32) : FVec F S32x144x1024 .f32 :=
  select (andi (cmpi .slt (iotaInDim S32x144x1024 32 1) (broadcastInDim S32x144x1024 ![0, 1, 2] bcast_S32x1x1_S32x144x1024_0_1_2 (broadcastInDim S32x1x1 ![0, 1] bcast_S32x1_S32x1x1_0_1 (extractStridedSlice S32x1 ![0, 0] cnt slices_S32x128_S32x1_0_0)))) (cmpi .sge (rows coo) (broadcastInDim S32x144x1024 ![] bcast_S_S32x144x1024 (constantI S_ 32 0#32)))) (extf .f32 (truncf .bf16 (bitcastToFloat (F := F) .f32 (andi (words coo) (broadcastInDim S32x144x1024 ![] bcast_S_S32x144x1024 (constantI S_ 32 4294901760#32)))) bitsLt_bf16_f32) bitsLt_bf16_f32) (broadcastInDim S32x144x1024 ![] bcast_S_S32x144x1024 (id (constant S_ .f32 0x00000000#32)))

/-- The reference's result as one term of its arguments. -/
def REF {F : FTy → Type} [FloatOps F] (x : Vec F S1x128x5120 .bf16) (idx : Vec F S80x27x8x8x128 .i32) (tab : Vec F S80x27x4x8x128 .i32) (coo : Vec F S9437184 .i32)
    (cnt : Vec F S32x128 .i32) (part : Vec F S128x27648 .f32) : Vec F S128x27648 .bf16 :=
  truncf .bf16 (addf (addf part (Host.dotGeneral dot_S128x5120_S5120x27648_S128x27648_1_0_0_1_n_n none (shapeCast _ x shapeCasts_S1x128x5120_S128x5120) (shapeCast _ (transpose S80x2x2x4x4x27x8x128 [0, 4, 7, 3, 5, 1, 2, 6] (shapeCast _ (halves (F := F) idx tab) shapeCasts_S80x27x8x4x8x128x2_S80x27x8x4x2x4x128x2) transposes_S80x27x8x4x2x4x128x2_S80x2x2x4x4x27x8x128_0_4_7_3_5_1_2_6) shapeCasts_S80x2x2x4x4x27x8x128_S5120x27648))) (Host.scatterAdd scatter_S128x27648_S4718592x1_S128x4718592_0_1_1_1 (broadcastInDim S128x27648 ![] bcast_S_S128x27648 (constant S_ .f32 0x00000000#32)) (broadcastInDim S4718592x1 ![0] bcast_S4718592_S4718592x1_0 (wrapped coo)) (mulf (extf .f32 (Host.gather gather_S128x5120_S4718592x1_S128x4718592_0_1_n_n_1_1_1281 (shapeCast _ x shapeCasts_S1x128x5120_S128x5120) (broadcastInDim S4718592x1 ![0] bcast_S4718592_S4718592x1_0 (shapeCast _ (rows coo) shapeCasts_S32x144x1024_S4718592))) bitsLt_bf16_f32) (broadcastInDim S128x4718592 ![0, 1] bcast_S1x4718592_S128x4718592_0_1 (broadcastInDim S1x4718592 ![1] bcast_S4718592_S1x4718592_1 (shapeCast _ (values (F := F) coo cnt) shapeCasts_S32x144x1024_S4718592)))))) bitsLt_bf16_f32

/-- The generated run's result is that term. -/
theorem res_eq {F : FTy → Type} [FloatOps F] (m : (ℓ : Loc nD τ sig) → Buf (Elt F) ℓ) (c : Dev nD) :
    Value.res_main_v58 m c = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

/-- A slot at an index. -/
theorem lanes_apply (idx : IVec S80x27x8x8x128 32) (q : Fin 80) (ch : Fin 27) (ct : Fin 8) (b : Fin 4) (r : Fin 8) (l : Fin 128) :
    (lanes idx (ix6 q ch ct b r l)).toNat = (slot (idx (ix5 q ch ct r l)) b.val).val := by
  have hs : slots idx (ix6 q ch ct b r l) = IntOp.andi (IntOp.shrui .host (idx (ix5 q ch ct r l)) (BitVec.ofNat 32 (8 * b.val))) 127#32 := by
    unfold slots
    have hm : ∀ b : Fin 4, IntOp.muli 8#32 (BitVec.ofNat 32 b.val) = BitVec.ofNat 32 (8 * b.val) := by decide
    rw [← hm b]
    pointwise
  have hl := (slot (idx (ix5 q ch ct r l)) b.val).isLt
  have e : IntOp.shrui .host (idx (ix5 q ch ct r l)) (BitVec.ofNat 32 (8 * b.val)) = (idx (ix5 q ch ct r l)) >>> (8 * b.val) := by
    fin_cases b <;> simp [IntOp.shrui]
  have hv : slots idx (ix6 q ch ct b r l) = (idx (ix5 q ch ct r l) >>> (8 * b.val)) &&& 127#32 := by rw [hs, e]; rfl
  have hn : (slots idx (ix6 q ch ct b r l)).toNat = (slot (idx (ix5 q ch ct r l)) b.val).val := by rw [hv]; rfl
  have hi : (slots idx (ix6 q ch ct b r l)).toInt = ((slot (idx (ix5 q ch ct r l)) b.val).val : ℤ) := by
    rw [BitVec.toInt_eq_toNat_cond, hn, if_pos (by omega)]
  show (Scalar.select (IntOp.cmpi .slt (slots idx (ix6 q ch ct b r l)) 0#32) _ (slots idx (ix6 q ch ct b r l))).toNat = _
  have hc : IntOp.cmpi .slt (slots idx (ix6 q ch ct b r l)) 0#32 = 0#1 := by
    simp only [IntOp.cmpi, BitVec.slt, hi]
    rw [show (0#32).toInt = 0 from by decide, decide_eq_false (by omega)]; rfl
  rw [hc, ← hn]
  rfl

/-- A half of a picked table word at an index. -/
theorem halves_apply (idx : IVec S80x27x8x8x128 32) (tab : IVec S80x27x4x8x128 32) (q : Fin 80) (ch : Fin 27) (ct : Fin 8) (b : Fin 4) (r : Fin 8) (l : Fin 128) (h : Fin 2) :
    halves (F := Ideal) idx tab (ix7 q ch ct b r l h) = half (tab (ix5 q ch b r (slot (idx (ix5 q ch ct r l)) b.val))) h.val := by
  have hl := (slot (idx (ix5 q ch ct r l)) b.val).isLt
  have hn := lanes_apply idx q ch ct b r l
  have hi : BitVec.toInt (shapeCast S80x27x8x4x8x128x1 (lanes idx) shapeCasts_S80x27x8x4x8x128_S80x27x8x4x8x128x1 (ix7 q ch ct b r l 0))
      = ((slot (idx (ix5 q ch ct r l)) b.val).val : ℤ) := by
    have hc : shapeCast S80x27x8x4x8x128x1 (lanes idx) shapeCasts_S80x27x8x4x8x128_S80x27x8x4x8x128x1 (ix7 q ch ct b r l 0) = lanes idx (ix6 q ch ct b r l) := by
      generalize lanes idx = L
      pointwise
    rw [hc, BitVec.toInt_eq_toNat_cond, hn, if_pos (by omega)]
  have ht : ∀ z : Fin 128, broadcastInDim S80x27x8x4x8x128 ![0, 1, 2, 3, 4, 5] bcast_S80x27x1x4x8x128_S80x27x8x4x8x128_0_1_2_3_4_5 (broadcastInDim S80x27x1x4x8x128 ![0, 1, 3, 4, 5] bcast_S80x27x4x8x128_S80x27x1x4x8x128_0_1_3_4_5 tab) (ix6 q ch ct b r z)
      = tab (ix5 q ch b r z) := by
    intro z; pointwise
  have hg := pick_apply (broadcastInDim S80x27x8x4x8x128 ![0, 1, 2, 3, 4, 5] bcast_S80x27x1x4x8x128_S80x27x8x4x8x128_0_1_2_3_4_5 (broadcastInDim S80x27x1x4x8x128 ![0, 1, 3, 4, 5] bcast_S80x27x4x8x128_S80x27x1x4x8x128_0_1_3_4_5 tab))
    (shapeCast S80x27x8x4x8x128x1 (lanes idx) shapeCasts_S80x27x8x4x8x128_S80x27x8x4x8x128x1) q ch ct b r l
  rw [ht] at hg
  unfold halves half
  show Ideal.ofBits .bf16 (Host.bitcastConvertNarrow _ _ _ _ _) = _
  rw [Host.bitcastConvertNarrow_apply]
  generalize Host.gather _ _ _ = G at hg ⊢
  have hd : G (Shape.SplitsWords.drop splits_S80x27x8x4x8x128_w32_S80x27x8x4x8x128x2_w16 (ix7 q ch ct b r l h)) = G (ix6 q ch ct b r l) :=
    congrArg G (funext fun a => by
      match a with
      | ⟨0, _⟩ => rfl
      | ⟨1, _⟩ => rfl
      | ⟨2, _⟩ => rfl
      | ⟨3, _⟩ => rfl
      | ⟨4, _⟩ => rfl
      | ⟨5, _⟩ => rfl)
  rw [hd, hg]
  have hz : (⟨min (BitVec.toInt (shapeCast S80x27x8x4x8x128x1 (lanes idx) shapeCasts_S80x27x8x4x8x128_S80x27x8x4x8x128x1 (ix7 q ch ct b r l 0))).toNat 127, by omega⟩ : Fin 128)
      = slot (idx (ix5 q ch ct r l)) b.val := Fin.ext (by dsimp only; rw [hi]; omega)
  rw [hz]
  show Ideal.ofBits .bf16 (BitVec.extractLsb' (h.val * 16) 16 _) = _
  rw [Nat.mul_comm]

/-- The lists as lists of blocks of two rows. -/
theorem lists_apply (coo : IVec S9437184 32) (w : Fin 32) (b : Fin 144) (p : Fin 2) (e : Fin 1024) :
    shapeCast S32x144x2x1024 coo shapeCasts_S9437184_S32x144x2x1024 (ix4 w b p e)
      = coo (ix1 ⟨(144 * w.val + b.val) * 2048 + (1024 * p.val + e.val), by omega⟩) := by
  pointwise
  exact congrArg coo (congrArg ix1 (Fin.ext (by show w.val * 294912 + b.val * 2048 + p.val * 1024 + e.val = (144 * w.val + b.val) * 2048 + (1024 * p.val + e.val); omega)))

/-- A row word at an index. -/
theorem rows_apply (coo : IVec S9437184 32) (w : Fin 32) (b : Fin 144) (e : Fin 1024) :
    rows coo (ix3 w b e) = coo (ix1 ⟨(144 * w.val + b.val) * 2048 + e.val, by omega⟩) := by
  have h := lists_apply coo w b 0 e
  unfold rows
  generalize shapeCast S32x144x2x1024 coo shapeCasts_S9437184_S32x144x2x1024 = q at h ⊢
  refine Eq.trans ?_ (h.trans (congrArg coo (congrArg ix1 (Fin.ext (by show (144 * w.val + b.val) * 2048 + (1024 * (0 : Fin 2).val + e.val) = (144 * w.val + b.val) * 2048 + e.val; simp only [Fin.val_zero, Fin.val_one, Fin.isValue] <;> omega)))))
  pointwise

/-- A word of column and value at an index. -/
theorem words_apply (coo : IVec S9437184 32) (w : Fin 32) (b : Fin 144) (e : Fin 1024) :
    words coo (ix3 w b e) = coo (ix1 ⟨(144 * w.val + b.val) * 2048 + (1024 + e.val), by omega⟩) := by
  have h := lists_apply coo w b 1 e
  unfold words
  generalize shapeCast S32x144x2x1024 coo shapeCasts_S9437184_S32x144x2x1024 = q at h ⊢
  refine Eq.trans ?_ (h.trans (congrArg coo (congrArg ix1 (Fin.ext (by show (144 * w.val + b.val) * 2048 + (1024 * (1 : Fin 2).val + e.val) = (144 * w.val + b.val) * 2048 + (1024 + e.val); simp only [Fin.val_zero, Fin.val_one, Fin.isValue] <;> omega)))))
  pointwise

/-- An array of entries laid in one row. -/
theorem flat_apply {α : Type} (R : S32x144x1024.Idx → α) (w : Fin 32) (b : Fin 144) (e : Fin 1024) (f : Fin 4718592) (h : f.val = (w.val * 144 + b.val) * 1024 + e.val) :
    shapeCast S4718592 R shapeCasts_S32x144x1024_S4718592 (ix1 f) = R (ix3 w b e) := by
  pointwise
  refine congrArg R ?_
  congr 1 <;> apply Fin.ext <;> dsimp only <;> omega

/-- A column at an index: the low half of the word. -/
theorem wrapped_apply (coo : IVec S9437184 32) (w : Fin 32) (b : Fin 144) (e : Fin 1024) (f : Fin 4718592) (h : f.val = (w.val * 144 + b.val) * 1024 + e.val) :
    BitVec.toInt (wrapped coo (ix1 f)) = ((coo (ix1 ⟨(144 * w.val + b.val) * 2048 + (1024 + e.val), by omega⟩) &&& 65535#32).toNat : ℤ) := by
  have hc : cols coo (ix1 f) = coo (ix1 ⟨(144 * w.val + b.val) * 2048 + (1024 + e.val), by omega⟩) &&& 65535#32 := by
    unfold cols
    rw [flat_apply _ w b e f h, ← words_apply coo w b e]
    rfl
  generalize coo (ix1 ⟨(144 * w.val + b.val) * 2048 + (1024 + e.val), by omega⟩) = v at hc ⊢
  have hl : (v &&& 65535#32).toNat < 65536 := by
    rw [BitVec.toNat_and]; exact lt_of_le_of_lt Nat.and_le_right (by decide)
  have hi : (cols coo (ix1 f)).toInt = ((v &&& 65535#32).toNat : ℤ) := by
    rw [hc, BitVec.toInt_eq_toNat_cond, if_pos (by omega)]
  show BitVec.toInt (Scalar.select (IntOp.cmpi .slt (cols coo (ix1 f)) 0#32) _ (cols coo (ix1 f))) = _
  have hs : IntOp.cmpi .slt (cols coo (ix1 f)) 0#32 = 0#1 := by
    simp only [IntOp.cmpi, BitVec.slt, hi]
    rw [show (0#32).toInt = 0 from by decide, decide_eq_false (by omega)]; rfl
  rw [hs, ← hi]
  rfl

/-- The value of an entry at an index. -/
theorem values_apply (coo : IVec S9437184 32) (cnt : IVec S32x128 32) (w : Fin 32) (b : Fin 144) (e : Fin 1024) :
    values (F := Ideal) coo cnt (ix3 w b e)
      = if (b.val : ℤ) < (cnt (ix2 w 0)).toInt ∧ 0 ≤ (coo (ix1 ⟨(144 * w.val + b.val) * 2048 + e.val, by omega⟩)).toInt
          then value (coo (ix1 ⟨(144 * w.val + b.val) * 2048 + (1024 + e.val), by omega⟩)) else 0 := by
  have h : values (F := Ideal) coo cnt (ix3 w b e)
      = Scalar.select (IntOp.andi (IntOp.cmpi .slt (BitVec.ofNat 32 b.val) (cnt (ix2 w 0))) (IntOp.cmpi .sge (rows coo (ix3 w b e)) 0#32))
          (Ideal.ofBits .f32 (IntOp.andi (words coo (ix3 w b e)) 4294901760#32)) (0 : EReal) := by
    unfold values
    generalize rows coo = R
    generalize words coo = W
    pointwise
    rw [show (id (constant (F := Ideal) S_ .f32 0x00000000#32) ix0 : EReal) = 0 from Idealize.ShloMosaic.Ideal.ofBits_zero_f32]
  rw [h, rows_apply, words_apply]
  have hb : (BitVec.ofNat 32 b.val).toInt = (b.val : ℤ) := by
    rw [BitVec.toInt_eq_toNat_cond, BitVec.toNat_ofNat, Nat.mod_eq_of_lt (by omega), if_pos (by omega)]
  have slt : ∀ a b : BitVec 32, IntOp.cmpi .slt a b = 1#1 ↔ a.toInt < b.toInt := by
    intro a b
    simp only [IntOp.cmpi, BitVec.slt]
    by_cases h : a.toInt < b.toInt <;> simp [h]
  have sge : ∀ a : BitVec 32, IntOp.cmpi .sge a 0#32 = 1#1 ↔ 0 ≤ a.toInt := by
    intro a
    simp only [IntOp.cmpi, BitVec.sle]
    rw [show (0#32).toInt = 0 from by decide]
    by_cases h : 0 ≤ a.toInt <;> simp [h]
  have hc : IntOp.andi (IntOp.cmpi .slt (BitVec.ofNat 32 b.val) (cnt (ix2 w 0))) (IntOp.cmpi .sge (coo (ix1 ⟨(144 * w.val + b.val) * 2048 + e.val, by omega⟩)) 0#32) = 1#1
      ↔ (b.val : ℤ) < (cnt (ix2 w 0)).toInt ∧ 0 ≤ (coo (ix1 ⟨(144 * w.val + b.val) * 2048 + e.val, by omega⟩)).toInt := by
    rw [IntOp.andi_eq_one, slt, sge, hb]
  by_cases hp : (b.val : ℤ) < (cnt (ix2 w 0)).toInt ∧ 0 ≤ (coo (ix1 ⟨(144 * w.val + b.val) * 2048 + e.val, by omega⟩)).toInt
  · rw [if_pos hp, hc.2 hp]
    rfl
  · rw [if_neg hp]
    have hz : ∀ z : BitVec 1, z ≠ 1#1 → z = 0#1 := by decide
    rw [hz _ fun h => hp (hc.1 h)]
    rfl

/-- What entry `e` of block `b` of list `w` is: used, and holding a row. -/
def listTerm (x : FVec Ideal S1x128x5120 .bf16) (coo : IVec S9437184 32) (cnt : IVec S32x128 32) (i : Fin 128) (J : ℕ) (w : Fin 32) (b : Fin 144) (e : Fin 1024) : EReal :=
  if (coo (ix1 ⟨(144 * w.val + b.val) * 2048 + (1024 + e.val), by omega⟩) &&& 65535#32).toNat = J
    then x (ix3 0 i ⟨min (coo (ix1 ⟨(144 * w.val + b.val) * 2048 + e.val, by omega⟩)).toInt.toNat 5119, by omega⟩)
      * (if (b.val : ℤ) < (cnt (ix2 w 0)).toInt ∧ 0 ≤ (coo (ix1 ⟨(144 * w.val + b.val) * 2048 + e.val, by omega⟩)).toInt
          then value (coo (ix1 ⟨(144 * w.val + b.val) * 2048 + (1024 + e.val), by omega⟩)) else 0)
    else 0

/-- The updates of the scatter: the activations of the entries' rows times the entries' values. -/
def updates {F : FTy → Type} [FloatOps F] (x : Vec F S1x128x5120 .bf16) (coo : IVec S9437184 32) (cnt : IVec S32x128 32) : FVec F S128x4718592 .f32 :=
  mulf (extf .f32 (Host.gather gather_S128x5120_S4718592x1_S128x4718592_0_1_n_n_1_1_1281 (shapeCast _ x shapeCasts_S1x128x5120_S128x5120) (broadcastInDim S4718592x1 ![0] bcast_S4718592_S4718592x1_0 (shapeCast _ (rows coo) shapeCasts_S32x144x1024_S4718592))) bitsLt_bf16_f32) (broadcastInDim S128x4718592 ![0, 1] bcast_S1x4718592_S128x4718592_0_1 (broadcastInDim S1x4718592 ![1] bcast_S4718592_S1x4718592_1 (shapeCast _ (values (F := F) coo cnt) shapeCasts_S32x144x1024_S4718592)))

/-- An update at an index. -/
theorem updates_apply (x : FVec Ideal S1x128x5120 .bf16) (coo : IVec S9437184 32) (cnt : IVec S32x128 32) (i : Fin 128)
    (w : Fin 32) (b : Fin 144) (e : Fin 1024) (f : Fin 4718592) (h : f.val = (w.val * 144 + b.val) * 1024 + e.val) :
    updates (F := Ideal) x coo cnt (ix2 i f)
      = x (ix3 0 i ⟨min (coo (ix1 ⟨(144 * w.val + b.val) * 2048 + e.val, by omega⟩)).toInt.toNat 5119, by omega⟩)
        * (if (b.val : ℤ) < (cnt (ix2 w 0)).toInt ∧ 0 ≤ (coo (ix1 ⟨(144 * w.val + b.val) * 2048 + e.val, by omega⟩)).toInt
          then value (coo (ix1 ⟨(144 * w.val + b.val) * 2048 + (1024 + e.val), by omega⟩)) else 0) := by
  have hx : ∀ d : Fin 5120, shapeCast S128x5120 x shapeCasts_S1x128x5120_S128x5120 (ix2 i d) = x (ix3 0 i d) := by
    intro d; pointwise
  have hr : broadcastInDim S4718592x1 ![0] bcast_S4718592_S4718592x1_0 (shapeCast S4718592 (rows coo) shapeCasts_S32x144x1024_S4718592) (ix2 f 0)
      = coo (ix1 ⟨(144 * w.val + b.val) * 2048 + e.val, by omega⟩) := by
    rw [← rows_apply coo w b e, ← flat_apply (rows coo) w b e f h]
    generalize shapeCast S4718592 (rows coo) shapeCasts_S32x144x1024_S4718592 = q
    pointwise
  have hv : broadcastInDim S128x4718592 ![0, 1] bcast_S1x4718592_S128x4718592_0_1 (broadcastInDim S1x4718592 ![1] bcast_S4718592_S1x4718592_1 (shapeCast S4718592 (values (F := Ideal) coo cnt) shapeCasts_S32x144x1024_S4718592)) (ix2 i f)
      = values (F := Ideal) coo cnt (ix3 w b e) := by
    rw [← flat_apply (values (F := Ideal) coo cnt) w b e f h]
    generalize shapeCast S4718592 (values (F := Ideal) coo cnt) shapeCasts_S32x144x1024_S4718592 = q
    pointwise
  unfold updates
  have hm : ∀ (a : FVec Ideal S128x4718592 .bf16) (b : FVec Ideal S128x4718592 .f32), mulf (extf .f32 a bitsLt_bf16_f32) b (ix2 i f) = (a (ix2 i f) * b (ix2 i f) : EReal) :=
    fun _ _ => rfl
  rw [hm, take_apply, hv, values_apply, hx]
  refine congrArg₂ (fun a b : EReal => a * b) (congrArg (fun z => x (ix3 0 i z)) (Fin.ext ?_)) rfl
  show min (BitVec.toInt (broadcastInDim _ _ _ _ _)).toNat 5119 = _
  rw [hr]

/-- The scatter, at an index: the sum of the updates whose column it is. -/
theorem scatter_apply (z : FVec Ideal S128x27648 .f32) (idx : IVec S4718592x1 32) (u : FVec Ideal S128x4718592 .f32) (i : Fin 128) (J : Fin 27648) :
    Host.scatterAdd (F := Ideal) scatter_S128x27648_S4718592x1_S128x4718592_0_1_1_1 z idx u (ix2 i J)
      = z (ix2 i J) + ∑ f : Fin 4718592, if BitVec.toInt (idx (ix2 f 0)) = (J.val : ℤ) then u (ix2 i f) else 0 := by
  show (z (ix2 i J) : EReal) + ∑ j ∈ Finset.univ.filter (fun j => scatter_S128x27648_S4718592x1_S128x4718592_0_1_1_1.resultIdx? j idx = some (ix2 i J)), u j = _
  rw [Finset.sum_filter, sum_idx2]
  refine congrArg (fun a : EReal => (z (ix2 i J) : EReal) + a) ?_
  rw [Finset.sum_eq_single i]
  · refine Finset.sum_congr rfl fun f _ => if_congr ?_ rfl rfl
    rw [lands]
    exact ⟨fun h => h.2, fun h => ⟨rfl, h⟩⟩
  · intro i' _ hne
    refine Finset.sum_eq_zero fun f _ => if_neg ?_
    rw [lands]
    exact fun h => hne h.1
  · intro h; exact absurd (Finset.mem_univ _) h

/-- The reference at row `i`, column `J`. -/
theorem ref_apply (x : FVec Ideal S1x128x5120 .bf16) (idx : Vec Ideal S80x27x8x8x128 .i32) (tab : Vec Ideal S80x27x4x8x128 .i32) (coo : Vec Ideal S9437184 .i32)
    (cnt : Vec Ideal S32x128 .i32) (part : FVec Ideal S128x27648 .f32) (i : Fin 128) (J : Fin 27648) :
    REF (F := Ideal) x idx tab coo cnt part (ix2 i J)
      = part (ix2 i J)
        + (∑ d : Fin 5120, x (ix3 0 i d) * half (tab (ix5 ⟨d.val / 64, by omega⟩ ⟨J.val / 1024, by omega⟩ ⟨d.val / 4 % 4, by omega⟩ ⟨d.val / 32 % 2 * 4 + d.val % 4, by omega⟩
            (slot (idx (ix5 ⟨d.val / 64, by omega⟩ ⟨J.val / 1024, by omega⟩ ⟨J.val % 1024 / 128, by omega⟩ ⟨d.val / 32 % 2 * 4 + d.val % 4, by omega⟩ ⟨J.val % 128, by omega⟩)) (d.val / 4 % 4)))) (d.val / 16 % 2))
        + ∑ w : Fin 32, ∑ b : Fin 144, ∑ e : Fin 1024, listTerm x coo cnt i J.val w b e := by
  have hx : ∀ d : Fin 5120, shapeCast S128x5120 x shapeCasts_S1x128x5120_S128x5120 (ix2 i d) = x (ix3 0 i d) := by
    intro d; pointwise
  have hdot : ∀ (l : FVec Ideal S128x5120 .bf16) (r : FVec Ideal S5120x27648 .bf16), (Host.dotGeneral dot_S128x5120_S5120x27648_S128x27648_1_0_0_1_n_n none l r : FVec Ideal S128x27648 .f32) (ix2 i J)
      = ∑ d : Fin 5120, l (ix2 i d) * r (ix2 d J) := by
    intro l r; pointwise
  have hsc := scatter_apply (broadcastInDim S128x27648 ![] bcast_S_S128x27648 (constant S_ .f32 0x00000000#32)) (broadcastInDim S4718592x1 ![0] bcast_S4718592_S4718592x1_0 (wrapped coo)) (updates (F := Ideal) x coo cnt) i J
  have hz : broadcastInDim S128x27648 ![] bcast_S_S128x27648 (constant (F := Ideal) S_ .f32 0x00000000#32) (ix2 i J) = (0 : EReal) := by
    pointwise
  have hw : ∀ f, broadcastInDim S4718592x1 ![0] bcast_S4718592_S4718592x1_0 (wrapped coo) (ix2 f 0) = wrapped coo (ix1 f) := by
    generalize wrapped coo = q
    intro f; pointwise
  unfold REF
  show ((part (ix2 i J) : EReal) + Host.dotGeneral dot_S128x5120_S5120x27648_S128x27648_1_0_0_1_n_n none _ _ (ix2 i J)) + Host.scatterAdd scatter_S128x27648_S4718592x1_S128x4718592_0_1_1_1 _ _ (updates (F := Ideal) x coo cnt) (ix2 i J) = _
  rw [hsc, hz, zero_add, hdot]
  refine congrArg₂ (fun a b : EReal => a + b) (congrArg₂ (fun a b : EReal => a + b) rfl (Finset.sum_congr rfl fun d _ => ?_)) ?_
  · rw [matrix_apply, halves_apply, hx]
  · rw [Fin.sum_univ_tiles 4608 1024 rfl, Fin.sum_univ_tiles 32 144 rfl]
    refine Finset.sum_congr rfl fun w _ => Finset.sum_congr rfl fun b _ => Finset.sum_congr rfl fun e _ => ?_
    unfold listTerm
    rw [updates_apply x coo cnt i w b e _ rfl, hw, wrapped_apply coo w b e _ rfl]
    exact if_congr Nat.cast_inj rfl rfl

end Cert.SparseReferenceIdeal.Hand
end
-- ==== Proof.SparseEquation.lean ====
/-
  The array the sparse kernel leaves is the array of its reference (hand-written, untrusted).
-/
module

public import proofs.«01_k».proof.Proof.SparseArray
public import proofs.«01_k».proof.Proof.SparseReference

@[expose] public section

set_option maxRecDepth 65536
set_option maxHeartbeats 40000000

noncomputable section

namespace Cert.SparseEquation

open Idealize.ShloMosaic Idealize.ShloMosaic.TcCoe
open Idealize.SL.Sem
open Cert.SparseIdeal (nD τ sig)
open Cert.SparseIdeal.Hand (feature entry listEntry result Bounds half slot value dats WordsAt wordsAt array_apply)
open Cert.SparseReferenceIdeal.Hand (listTerm REF ref_apply res_eq)

/-- The digits of a row. -/
theorem digits (p : Fin 5120) : ∃ a b c d e : ℕ, p.val = 64 * a + 16 * b + 8 * c + 2 * d + e ∧ b < 4 ∧ c < 2 ∧ d < 4 ∧ e < 2 :=
  ⟨p.val / 64, p.val / 16 % 4, p.val / 8 % 2, p.val / 2 % 4, p.val % 2, by omega, by omega, by omega, by omega, by omega⟩

/-- The feature of a row, of its digits. -/
theorem feature_val (p : Fin 5120) (a b c d e : ℕ) (hp : p.val = 64 * a + 16 * b + 8 * c + 2 * d + e) (hb : b < 4) (hc : c < 2) (hd : d < 4) (he : e < 2) :
    (feature p).val = 64 * a + 32 * c + 16 * e + 4 * b + d := by
  have h1 : p.val / 64 = a := by omega
  have h2 : p.val / 8 % 2 = c := by omega
  have h3 : p.val % 2 = e := by omega
  have h4 : p.val / 16 % 4 = b := by omega
  have h5 : p.val / 2 % 4 = d := by omega
  unfold feature
  dsimp only
  rw [h1, h2, h3, h4, h5]
  omega

/-- The digits of a feature. -/
theorem digits_feature (f a b c d e : ℕ) (hf : f = 64 * a + 32 * c + 16 * e + 4 * b + d) (hb : b < 4) (hc : c < 2) (hd : d < 4) (he : e < 2) :
    f / 64 = a ∧ f / 4 % 4 = b ∧ f / 32 % 2 = c ∧ f % 4 = d ∧ f / 16 % 2 = e := by
  refine ⟨?_, ?_, ?_, ?_, ?_⟩ <;> omega

/-- The digits of a row, read off it. -/
theorem digits_row (p a b c d e : ℕ) (hp : p = 64 * a + 16 * b + 8 * c + 2 * d + e) (hb : b < 4) (hc : c < 2) (hd : d < 4) (he : e < 2) :
    p / 64 = a ∧ p / 16 % 4 = b ∧ p % 16 / 2 = c * 4 + d ∧ p % 2 = e := by
  refine ⟨?_, ?_, ?_, ?_⟩ <;> omega

/-- The digits of the feature of a row are the row's. -/
theorem parts (f p a b c d e : ℕ) (hf : f = 64 * a + 32 * c + 16 * e + 4 * b + d) (hp : p = 64 * a + 16 * b + 8 * c + 2 * d + e) (hb : b < 4) (hc : c < 2) (hd : d < 4) (he : e < 2) :
    f / 64 = p / 64 ∧ f / 4 % 4 = p / 16 % 4 ∧ f / 32 % 2 * 4 + f % 4 = p % 16 / 2 ∧ f / 16 % 2 = p % 2 := by
  obtain ⟨f1, f2, f3, f4, f5⟩ := digits_feature f a b c d e hf hb hc hd he
  obtain ⟨p1, p2, p3, p4⟩ := digits_row p a b c d e hp hb hc hd he
  rw [f1, f2, f3, f4, f5, p1, p2, p3, p4]
  exact ⟨rfl, rfl, rfl, rfl⟩

/-- The order of the decoded rows is one-to-one. -/
theorem feature_injective : Function.Injective feature := by
  intro p q h
  obtain ⟨a, b, c, d, e, hp, hb, hc, hd, he⟩ := digits p
  obtain ⟨a', b', c', d', e', hq, hb', hc', hd', he'⟩ := digits q
  obtain ⟨f1, f2, f3, f4, f5⟩ := digits_feature _ a b c d e (feature_val p a b c d e hp hb hc hd he) hb hc hd he
  obtain ⟨g1, g2, g3, g4, g5⟩ := digits_feature _ a' b' c' d' e' (feature_val q a' b' c' d' e' hq hb' hc' hd' he') hb' hc' hd' he'
  rw [h] at f1 f2 f3 f4 f5
  refine Fin.ext (hp.trans (Eq.trans ?_ hq.symm))
  rw [← f1, ← f2, ← f3, ← f4, ← f5, g1, g2, g3, g4, g5]

/-- The order of the decoded rows is a reordering of the features. -/
def order : Fin 5120 ≃ Fin 5120 := Equiv.ofBijective feature (Finite.injective_iff_bijective.1 feature_injective)

/-- The reordering, applied. -/
theorem order_apply (p : Fin 5120) : order p = feature p := rfl

/-- The product over the features, in either order. -/
theorem products (x : FVec Ideal Cert.SparseIdeal.S1x128x5120 .bf16) (idx : Vec Ideal Cert.SparseIdeal.S80x27x8x8x128 .i32)
    (tab : Vec Ideal Cert.SparseIdeal.S80x27x4x8x128 .i32) (i : Fin 128) (J : Fin 27648) :
    (∑ p : Fin 5120, x (ix3 0 i (feature p)) * entry idx tab p J)
      = ∑ d : Fin 5120, x (ix3 0 i d) * half (tab (ix5 ⟨d.val / 64, by omega⟩ ⟨J.val / 1024, by omega⟩ ⟨d.val / 4 % 4, by omega⟩ ⟨d.val / 32 % 2 * 4 + d.val % 4, by omega⟩
            (slot (idx (ix5 ⟨d.val / 64, by omega⟩ ⟨J.val / 1024, by omega⟩ ⟨J.val % 1024 / 128, by omega⟩ ⟨d.val / 32 % 2 * 4 + d.val % 4, by omega⟩ ⟨J.val % 128, by omega⟩)) (d.val / 4 % 4)))) (d.val / 16 % 2) := by
  refine Fintype.sum_equiv order _ _ fun p => ?_
  rw [order_apply]
  obtain ⟨a, b, c, d, e, hp, hb, hc, hd, he⟩ := digits p
  have hf := feature_val p a b c d e hp hb hc hd he
  obtain ⟨e1, e2, e3, e4⟩ := parts _ _ a b c d e hf hp hb hc hd he
  simp only [e1, e2, e3, e4]
  rfl

/-- One entry, as a function of its two words and the length of its list. -/
theorem term_eq (X : Fin 5120 → EReal) (word row n : BitVec 32) (b J : ℕ) (hJ : J < 27648)
    (h : (b : ℤ) < n.toInt → (word &&& 65535#32).toNat < 27648 → row.toInt < 5120) (h1 : min row.toInt.toNat 5119 < 5120) (h2 : row.toNat % 5120 < 5120) :
    (if (word &&& 65535#32).toNat = J then X ⟨min row.toInt.toNat 5119, h1⟩ * (if (b : ℤ) < n.toInt ∧ 0 ≤ row.toInt then value word else 0) else 0)
      = if (b : ℤ) < n.toInt then (if 0 ≤ row.toInt ∧ (word &&& 65535#32).toNat = J then X ⟨row.toNat % 5120, h2⟩ * value word else 0) else 0 := by
  by_cases hn : (b : ℤ) < n.toInt
  · rw [if_pos hn]
    by_cases hr : 0 ≤ row.toInt
    · by_cases hc : (word &&& 65535#32).toNat = J
      · rw [if_pos hc, if_pos ⟨hn, hr⟩, if_pos ⟨hr, hc⟩]
        have hlt := h hn (by omega)
        refine congrArg (fun z => X z * value word) (Fin.ext ?_)
        show min row.toInt.toNat 5119 = row.toNat % 5120
        have := BitVec.toInt_eq_toNat_cond row
        split_ifs at this <;> omega
      · rw [if_neg hc, if_neg fun h : 0 ≤ row.toInt ∧ _ => hc h.2]
    · rw [if_neg fun h : 0 ≤ row.toInt ∧ _ => hr h.1, if_neg fun h : (b : ℤ) < n.toInt ∧ _ => hr h.2, mul_zero, ite_self]
  · rw [if_neg hn, if_neg fun h : (b : ℤ) < n.toInt ∧ _ => hn h.1, mul_zero, ite_self]

/-- One entry of the lists: in a used block the reference's term is the kernel's, in an unused one it is zero. -/
theorem terms (x : FVec Ideal Cert.SparseIdeal.S1x128x5120 .bf16) (coo : Vec Ideal Cert.SparseIdeal.S9437184 .i32) (cnt : Vec Ideal Cert.SparseIdeal.S32x128 .i32)
    (hb : Bounds coo cnt) (i : Fin 128) (J : Fin 27648) (w : Fin 32) (b : Fin 144) (e : Fin 1024) :
    listTerm x coo cnt i J.val w b e = if (b.val : ℤ) < BitVec.toInt (cnt (ix2 w 0) : BitVec 32) then listEntry x coo i J.val w b e else 0 := by
  exact term_eq (fun d => x (ix3 0 i d)) _ _ _ b.val J.val J.isLt (hb.2 w b e) _ _

/-- The two results at an index. -/
theorem results (x : FVec Ideal Cert.SparseIdeal.S1x128x5120 .bf16) (idx : Vec Ideal Cert.SparseIdeal.S80x27x8x8x128 .i32)
    (tab : Vec Ideal Cert.SparseIdeal.S80x27x4x8x128 .i32) (coo : Vec Ideal Cert.SparseIdeal.S9437184 .i32) (cnt : Vec Ideal Cert.SparseIdeal.S32x128 .i32)
    (part : FVec Ideal Cert.SparseIdeal.S128x27648 .f32) (hb : Bounds coo cnt) (i : Fin 128) (J : Fin 27648) :
    result x idx tab coo cnt part i J = REF (F := Ideal) x idx tab coo cnt part (ix2 i J) := by
  rw [ref_apply]
  unfold result
  rw [products]
  refine congrArg₂ (fun a b : EReal => a + b) rfl (Finset.sum_congr rfl fun w _ => Finset.sum_congr rfl fun b _ => ?_)
  rw [Finset.sum_congr rfl fun e _ => terms x coo cnt hb i J w b e]
  by_cases hn : (b.val : ℤ) < BitVec.toInt (cnt (ix2 w 0) : BitVec 32)
  · simp only [if_pos hn]
  · simp only [if_neg hn, Finset.sum_const_zero]

/-- The array the kernel leaves is the reference's, of the same arguments. -/
theorem arrays (m : (ℓ : Loc nD τ sig) → Buf (Elt Ideal) ℓ) (hok : WordsAt m) (c : Dev nD)
    (hb : Bounds (m ((c : Thread nD τ).loc Cert.SparseIdeal.main_arg3)) (m ((c : Thread nD τ).loc Cert.SparseIdeal.main_arg4))) :
    (dats m hok 0 c).arrAt 6 Cert.SparseIdeal.cfg0.N
      = REF (F := Ideal) (m ((c : Thread nD τ).loc Cert.SparseIdeal.main_arg0)) (m ((c : Thread nD τ).loc Cert.SparseIdeal.main_arg1))
          (m ((c : Thread nD τ).loc Cert.SparseIdeal.main_arg2)) (m ((c : Thread nD τ).loc Cert.SparseIdeal.main_arg3))
          (m ((c : Thread nD τ).loc Cert.SparseIdeal.main_arg4)) (m ((c : Thread nD τ).loc Cert.SparseIdeal.main_arg5)) := by
  funext j
  obtain ⟨i, J, rfl⟩ : ∃ i J, j = ix2 i J := ⟨_, _, (ix2_eta j).symm⟩
  rw [array_apply m hok c hb i J]
  exact results _ _ _ _ _ _ hb i J

end Cert.SparseEquation

end
-- ==== Proof.SparseBitsTrip.lean ====
/-
  One trip of the kernel's loop over 512 rows of the decoded matrix: what it stores into the accumulator, as a plain
  function of the blocks it reads, at any float instance (hand-written, untrusted).
-/
module

public import proofs.«01_k».proof.Defs
public import proofs.«01_k».proof.Proof.Gen.Sparse.Frame
public import proofs.«01_k».proof.Proof.Gen.Sparse.Loops
public import proofs.«01_k».proof.Proof.Gen.Pre_entries_in_range
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.Transfers

@[expose] public section

set_option maxRecDepth 65536
set_option maxHeartbeats 40000000

noncomputable section

namespace Cert.Sparse.Hand

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Sixteen rows of the decoded matrix: the table `tab` looked up at the seven-bit slots that the words of `word` hold
    from bit `b` on, every 32-bit table entry read as two bf16 rows. -/
def piece (word tab : Vec F S1x1x1x8x128 .i32) (b : BitVec 32) : FVec F S16x128 .bf16 :=
  have w : IVec S8x128 32 := shapeCast S8x128 word shapeCasts_S1x1x1x8x128_S8x128
  have t : IVec S8x128 32 := shapeCast S8x128 tab shapeCasts_S1x1x1x8x128_S8x128
  have slot : IVec S8x128 32 := andi (shrui w (broadcast S8x128 b)) (broadcast S8x128 127#32)
  have slot' : IVec S8x128 32 := select (cmpi .slt slot (broadcast S8x128 0#32)) (addi slot (broadcast S8x128 128#32)) slot
  bitcastToFloat .bf16 (bitcast S16x128 16
    (dynamicGather 1 t (shapeCast S8x128 (shapeCast S8x128x1 slot' shapeCasts_S8x128_S8x128x1) shapeCasts_S8x128x1_S8x128))
    bitcasts_S8x128_w32_S16x128_w16)

/-- A strip of 128 columns and 512 rows: 32 pieces, four per group of 64 rows. -/
def strip (word : Fin 8 → Vec F S1x1x1x8x128 .i32) (tab : Fin 8 → Fin 4 → Vec F S1x1x1x8x128 .i32) : FVec F S512x128 .bf16 :=
  concatenate S512x128 0
    [⟨S16x128, piece (word 0) (tab 0 0) 0#32⟩, ⟨S16x128, piece (word 0) (tab 0 1) 8#32⟩, ⟨S16x128, piece (word 0) (tab 0 2) 16#32⟩, ⟨S16x128, piece (word 0) (tab 0 3) 24#32⟩,
     ⟨S16x128, piece (word 1) (tab 1 0) 0#32⟩, ⟨S16x128, piece (word 1) (tab 1 1) 8#32⟩, ⟨S16x128, piece (word 1) (tab 1 2) 16#32⟩, ⟨S16x128, piece (word 1) (tab 1 3) 24#32⟩,
     ⟨S16x128, piece (word 2) (tab 2 0) 0#32⟩, ⟨S16x128, piece (word 2) (tab 2 1) 8#32⟩, ⟨S16x128, piece (word 2) (tab 2 2) 16#32⟩, ⟨S16x128, piece (word 2) (tab 2 3) 24#32⟩,
     ⟨S16x128, piece (word 3) (tab 3 0) 0#32⟩, ⟨S16x128, piece (word 3) (tab 3 1) 8#32⟩, ⟨S16x128, piece (word 3) (tab 3 2) 16#32⟩, ⟨S16x128, piece (word 3) (tab 3 3) 24#32⟩,
     ⟨S16x128, piece (word 4) (tab 4 0) 0#32⟩, ⟨S16x128, piece (word 4) (tab 4 1) 8#32⟩, ⟨S16x128, piece (word 4) (tab 4 2) 16#32⟩, ⟨S16x128, piece (word 4) (tab 4 3) 24#32⟩,
     ⟨S16x128, piece (word 5) (tab 5 0) 0#32⟩, ⟨S16x128, piece (word 5) (tab 5 1) 8#32⟩, ⟨S16x128, piece (word 5) (tab 5 2) 16#32⟩, ⟨S16x128, piece (word 5) (tab 5 3) 24#32⟩,
     ⟨S16x128, piece (word 6) (tab 6 0) 0#32⟩, ⟨S16x128, piece (word 6) (tab 6 1) 8#32⟩, ⟨S16x128, piece (word 6) (tab 6 2) 16#32⟩, ⟨S16x128, piece (word 6) (tab 6 3) 24#32⟩,
     ⟨S16x128, piece (word 7) (tab 7 0) 0#32⟩, ⟨S16x128, piece (word 7) (tab 7 1) 8#32⟩, ⟨S16x128, piece (word 7) (tab 7 2) 16#32⟩, ⟨S16x128, piece (word 7) (tab 7 3) 24#32⟩]
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0

/-- The index words of column tile `ct` that trip `k` loads for its group `q`. -/
def wordAt (x4 : Vec F S80x1x8x8x128 .i32) (k : Fin k0_t1_loop.trips) (ct q : Fin 8) : Vec F S1x1x1x8x128 .i32 :=
  match ct with
  | 0 => View.ld (Val := Elt F) x4 (Rect.unit (s := S80x1x8x8x128) (k0_off1 k (BitVec.ofNat 32 q.val)) S1x1x1x8x128.size (k0_off1_inb k q))
  | 1 => View.ld (Val := Elt F) x4 (Rect.unit (s := S80x1x8x8x128) (k0_off6 k (BitVec.ofNat 32 q.val)) S1x1x1x8x128.size (k0_off6_inb k q))
  | 2 => View.ld (Val := Elt F) x4 (Rect.unit (s := S80x1x8x8x128) (k0_off7 k (BitVec.ofNat 32 q.val)) S1x1x1x8x128.size (k0_off7_inb k q))
  | 3 => View.ld (Val := Elt F) x4 (Rect.unit (s := S80x1x8x8x128) (k0_off8 k (BitVec.ofNat 32 q.val)) S1x1x1x8x128.size (k0_off8_inb k q))
  | 4 => View.ld (Val := Elt F) x4 (Rect.unit (s := S80x1x8x8x128) (k0_off9 k (BitVec.ofNat 32 q.val)) S1x1x1x8x128.size (k0_off9_inb k q))
  | 5 => View.ld (Val := Elt F) x4 (Rect.unit (s := S80x1x8x8x128) (k0_off10 k (BitVec.ofNat 32 q.val)) S1x1x1x8x128.size (k0_off10_inb k q))
  | 6 => View.ld (Val := Elt F) x4 (Rect.unit (s := S80x1x8x8x128) (k0_off11 k (BitVec.ofNat 32 q.val)) S1x1x1x8x128.size (k0_off11_inb k q))
  | 7 => View.ld (Val := Elt F) x4 (Rect.unit (s := S80x1x8x8x128) (k0_off12 k (BitVec.ofNat 32 q.val)) S1x1x1x8x128.size (k0_off12_inb k q))

/-- The tables of byte `b` that trip `k` loads for its group `q`. -/
def tabAt (x5 : Vec F S80x1x4x8x128 .i32) (k : Fin k0_t1_loop.trips) (b : Fin 4) (q : Fin 8) : Vec F S1x1x1x8x128 .i32 :=
  match b with
  | 0 => View.ld (Val := Elt F) x5 (Rect.unit (s := S80x1x4x8x128) (k0_off2 k (BitVec.ofNat 32 q.val)) S1x1x1x8x128.size (k0_off2_inb k q))
  | 1 => View.ld (Val := Elt F) x5 (Rect.unit (s := S80x1x4x8x128) (k0_off3 k (BitVec.ofNat 32 q.val)) S1x1x1x8x128.size (k0_off3_inb k q))
  | 2 => View.ld (Val := Elt F) x5 (Rect.unit (s := S80x1x4x8x128) (k0_off4 k (BitVec.ofNat 32 q.val)) S1x1x1x8x128.size (k0_off4_inb k q))
  | 3 => View.ld (Val := Elt F) x5 (Rect.unit (s := S80x1x4x8x128) (k0_off5 k (BitVec.ofNat 32 q.val)) S1x1x1x8x128.size (k0_off5_inb k q))

/-- What trip `k` leaves in the accumulator that held `acc`. -/
def tileTrip (x3 : Vec F S128x5120 .bf16) (x4 : Vec F S80x1x8x8x128 .i32) (x5 : Vec F S80x1x4x8x128 .i32)
    (k : Fin k0_t1_loop.trips) (acc : Vec F S128x1024 .f32) : Vec F S128x1024 .f32 :=
  k0_pay4 (strip (fun q => wordAt x4 k 0 q) (fun q b => tabAt x5 k b q)) (strip (fun q => wordAt x4 k 1 q) (fun q b => tabAt x5 k b q)) (strip (fun q => wordAt x4 k 2 q) (fun q b => tabAt x5 k b q)) (strip (fun q => wordAt x4 k 3 q) (fun q b => tabAt x5 k b q)) (strip (fun q => wordAt x4 k 4 q) (fun q b => tabAt x5 k b q)) (strip (fun q => wordAt x4 k 5 q) (fun q b => tabAt x5 k b q)) (strip (fun q => wordAt x4 k 6 q) (fun q b => tabAt x5 k b q)) (strip (fun q => wordAt x4 k 7 q) (fun q b => tabAt x5 k b q)) acc
    (View.ld (Val := Elt F) x3 (Rect.unit (s := S128x5120) (k0_off13 k) S128x512.size (k0_off13_inb k)))

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg7 : Memref sig .tc .hbm S9437184 .i32) (harg7 : arg7.IsWhole) (arg8 : Memref sig .tc .vmem S128x1024 .bf16) (harg8 : arg8.IsWhole)
  (arg9 : Memref sig .tc .vmem S128x1024 .f32) (harg9 : arg9.IsWhole) (arg10 : Memref sig .tc .smem S2048 .i32) (harg10 : arg10.IsWhole)
  (arg11 : DmaSems sig S_)

/-- The whole of what a memref shows, held on core `c` at contents `f`. -/
abbrev at' (c : Dev nD) {sp : Space} {S : Shape} {e : EltTy} (M : Memref sig .tc sp S e) (f : BufTy.Contents (Elt F) M.view.ty) : sProp 𝕄 :=
  M.view.loc (c : Thread nD τ) ↦[M.view.set]{fullShare} f

/-- One trip run: the blocks read stay, and the accumulator reads as `tileTrip` of what it read before. -/
theorem tile_run (X3 : BufTy.Contents (Elt F) arg3.view.ty) (X4 : BufTy.Contents (Elt F) arg4.view.ty)
    (X5 : BufTy.Contents (Elt F) arg5.view.ty) (k : Fin k0_t1_loop.trips) (E : Set ℕ) (f9 : BufTy.Contents (Elt F) arg9.view.ty) :
    iprop(at' c arg3 X3 ∗ at' c arg4 X4 ∗ at' c arg5 X5 ∗ at' c arg9 f9)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 k PUnit.unit)
          (fun _ => iprop(at' c arg3 X3 ∗ at' c arg4 X4 ∗ at' c arg5 X5
            ∗ (∃ f, at' c arg9 f ∗ ⌜arg9.view.read (Elt F) f
                = tileTrip (arg3.view.read (Elt F) X3) (arg4.view.read (Elt F) X4) (arg5.view.read (Elt F) X5) k (arg9.view.read (Elt F) f9)⌝))) := by
  have hk : k.val < 10 := Nat.lt_of_lt_of_le k.isLt k0_t1_abs.2.1
  unfold k0_t1_body
  iintro ⟨H3, H4, H5, H9⟩
  sl_exec
  sl_step
  isplitl [H3]; · iexact H3
  isplitl [H4]; · iexact H4
  isplitl [H5]; · iexact H5
  iexists _; isplitl [H9]; · iexact H9
  ipureintro
  sl_unfold_words
  rw [View.read_writes_full]
  simp only [View.readAt_eq_ld]
  unfold tileTrip
  congr 1
  exact View.ld_unit_zero (S := S128x1024) (by funext a; fin_cases a <;> rfl) _ _

end Cert.Sparse.Hand

end
-- ==== Proof.SparseBitsEntry.lean ====
/-
  One listed entry: what the kernel's innermost trip stores into the accumulator for the entry's row word and column
  word, and what the 1024 trips over one block of the list leave, at any float instance (hand-written, untrusted).
-/
module

public import proofs.«01_k».proof.Proof.SparseBitsTrip

@[expose] public section

set_option maxRecDepth 65536
set_option maxHeartbeats 40000000

noncomputable section

namespace Cert.Sparse.Hand

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `n` steps `f 0, …, f (n - 1)` taken from `a`: the state after the first `k` of them. -/
def iter {α : Type} (n : ℕ) (f : Fin n → α → α) (a : α) : ℕ → α
  | 0 => a
  | k + 1 => if h : k < n then f ⟨k, h⟩ (iter n f a k) else iter n f a k

/-- One more trip: the last step applied to what the earlier ones leave. -/
theorem iter_succ {α : Type} (n : ℕ) (f : Fin n → α → α) (a : α) (k : Fin n) : iter n f a (k.val + 1) = f k (iter n f a k.val) := by
  rw [iter, dif_pos k.isLt]

/-- The row word of entry `k` of a block of the list: word `k` of the block. -/
abbrev rowAt (x10 : Vec F S2048 .i32) (k : Fin k0_t4_loop.trips) : Elt F .i32 :=
  View.ld (Val := Elt F) x10 (Rect.unit (s := S2048) (k0_off16 k) S1.size (k0_off16_inb k)) (Shape.Idx.first (numel1_S1.symm ▸ Nat.one_pos))

/-- The value-and-column word of entry `k`: word `1024 + k` of the block. -/
abbrev colAt (x10 : Vec F S2048 .i32) (k : Fin k0_t4_loop.trips) : Elt F .i32 :=
  View.ld (Val := Elt F) x10 (Rect.unit (s := S2048) (k0_off17 k) S1.size (k0_off17_inb k)) (Shape.Idx.first (numel1_S1.symm ▸ Nat.one_pos))

open Classical in
/-- What an entry with row word `row` and value-and-column word `word` makes of the accumulator `acc`: where the entry is
    the chunk's, 128 columns are replaced by themselves plus a product with a one-entry matrix. -/
def entryStep (i : grid0.Coords) (x2 : Vec F S128x5120 .bf16) (row word : Elt F .i32) (acc : Vec F S128x1024 .f32) :
    Vec F S128x1024 .f32 :=
  if h : k0_chk2 i row word ∧ k0_cond1 i row word = 1#1 then
    VecWindow.put acc (k0_off19 word) S128x128.size
      (k0_pay5 (k0_pay507 row word (Scalar.andi word 65535#32))
        (k0_pay508 (View.ld (Val := Elt F) x2 (Rect.unit (s := S128x5120) (k0_off18 row) S128x128.size (k0_off18_inb i row word h.1 h.2))))
        (View.ld (Val := Elt F) acc (Rect.unit (s := S128x1024) (k0_off19 word) S128x128.size (k0_off19_inb i row word h.1 h.2))))
  else acc

/-- What the 1024 entries of the block `x10` make of the accumulator, after the first `k`. -/
abbrev blockIter (i : grid0.Coords) (x2 : Vec F S128x5120 .bf16) (x10 : Vec F S2048 .i32) (acc : Vec F S128x1024 .f32) : ℕ → Vec F S128x1024 .f32 :=
  iter k0_t4_loop.trips (fun k => entryStep i x2 (rowAt x10 k) (colAt x10 k)) acc

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg7 : Memref sig .tc .hbm S9437184 .i32) (harg7 : arg7.IsWhole) (arg8 : Memref sig .tc .vmem S128x1024 .bf16) (harg8 : arg8.IsWhole)
  (arg9 : Memref sig .tc .vmem S128x1024 .f32) (harg9 : arg9.IsWhole) (arg10 : Memref sig .tc .smem S2048 .i32) (harg10 : arg10.IsWhole)
  (arg11 : DmaSems sig S_)

/-- One entry run: the accumulator reads as `entryStep` of what it read before. -/
theorem entry_run (v12 : Elt F .i32) (X2 : BufTy.Contents (Elt F) arg2.view.ty) (X10 : BufTy.Contents (Elt F) arg10.view.ty)
    (k : Fin k0_t4_loop.trips) (hw : k0_chk2 i (rowAt (arg10.view.read (Elt F) X10) k) (colAt (arg10.view.read (Elt F) X10) k))
    (E : Set ℕ) (f9 : BufTy.Contents (Elt F) arg9.view.ty) :
    iprop(at' c arg2 X2 ∗ at' c arg10 X10 ∗ at' c arg9 f9)
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 harg10 arg11 v12 k PUnit.unit)
          (fun _ => iprop(at' c arg2 X2 ∗ at' c arg10 X10
            ∗ (∃ f, at' c arg9 f ∗ ⌜arg9.view.read (Elt F) f
                = entryStep i (arg2.view.read (Elt F) X2) (rowAt (arg10.view.read (Elt F) X10) k) (colAt (arg10.view.read (Elt F) X10) k)
                    (arg9.view.read (Elt F) f9)⌝))) := by
  have hk : k.val < 1024 := Nat.lt_of_lt_of_le k.isLt k0_t4_abs.2.1
  have k0_hw2 : k0_chk2 i (arg10.view.readAt (Elt F) (Rect.unit (s := S2048) (k0_off16 k) S1.size (k0_off16_inb k)).toLoadRect X10 (Shape.Idx.first (numel1_S1.symm ▸ Nat.one_pos))) (arg10.view.readAt (Elt F) (Rect.unit (s := S2048) (k0_off17 k) S1.size (k0_off17_inb k)).toLoadRect X10 (Shape.Idx.first (numel1_S1.symm ▸ Nat.one_pos))) := hw
  unfold k0_t4_body
  iintro ⟨H2, H10, H9⟩
  by_cases k0_h1 : k0_cond1 i (arg10.view.readAt (Elt F) (Rect.unit (s := S2048) (k0_off16 k) S1.size (k0_off16_inb k)).toLoadRect X10 (Shape.Idx.first (numel1_S1.symm ▸ Nat.one_pos))) (arg10.view.readAt (Elt F) (Rect.unit (s := S2048) (k0_off17 k) S1.size (k0_off17_inb k)).toLoadRect X10 (Shape.Idx.first (numel1_S1.symm ▸ Nat.one_pos))) = 1#1
  · sl_exec
    sl_step
    isplitl [H2]; · iexact H2
    isplitl [H10]; · iexact H10
    iexists _; isplitl [H9]; · iexact H9
    ipureintro
    unfold entryStep
    rw [dif_pos ⟨hw, k0_h1⟩]
    exact View.read_writes_cons_put arg9.view f9 _ _ [] rfl
  · sl_exec
    sl_step
    isplitl [H2]; · iexact H2
    isplitl [H10]; · iexact H10
    iexists _; isplitl [H9]; · iexact H9
    ipureintro
    unfold entryStep
    rw [dif_neg fun h => k0_h1 h.2]

/-- What the loop over a block's entries holds before entry `k`: `x`, the block, and the accumulator after `k` entries. -/
def entryInv (c : Dev nD) (i : grid0.Coords) (arg2 : Memref sig .tc .vmem S128x5120 .bf16) (arg9 : Memref sig .tc .vmem S128x1024 .f32)
    (arg10 : Memref sig .tc .smem S2048 .i32) (X2 : BufTy.Contents (Elt F) arg2.view.ty) (X10 : BufTy.Contents (Elt F) arg10.view.ty)
    (acc : Vec F S128x1024 .f32) (k : ℕ) (_ : Unit) : sProp 𝕄 :=
  iprop(at' c arg2 X2 ∗ at' c arg10 X10
      ∗ (∃ f, at' c arg9 f ∗ ⌜arg9.view.read (Elt F) f = blockIter i (arg2.view.read (Elt F) X2) (arg10.view.read (Elt F) X10) acc k⌝))

/-- One trip over a block's entries keeps what holds between trips. -/
theorem entry_step (v12 : Elt F .i32) (X2 : BufTy.Contents (Elt F) arg2.view.ty) (X10 : BufTy.Contents (Elt F) arg10.view.ty)
    (acc : Vec F S128x1024 .f32)
    (hw : ∀ k, k0_chk2 i (rowAt (arg10.view.read (Elt F) X10) k) (colAt (arg10.view.read (Elt F) X10) k)) (E : Set ℕ)
    (k : Fin k0_t4_loop.trips) (u : Unit) :
    entryInv c i arg2 arg9 arg10 X2 X10 acc k.val u
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 harg10 arg11 v12 k u)
          (entryInv c i arg2 arg9 arg10 X2 X10 acc (k.val + 1)) := by
  unfold entryInv
  iintro ⟨H2, H10, ⟨%f, H9, %hf⟩⟩
  iapply (wp_wand_r Idealize.ShloMosaic.frame (wpE (defs₀ (F := F)) 𝒱 (c : Thread nD τ) bd) E)
  isplitl [H2 H10 H9]
  · iapply (entry_run 𝒱 c bd i arg1 harg1 arg2 harg2 arg3 harg3 arg4 harg4 arg5 harg5 arg6 harg6 arg7 harg7 arg8 harg8 arg9 harg9 arg10 harg10 arg11 v12 X2 X10 k (hw k) E f)
    isplitl [H2]; · iexact H2
    isplitl [H10]; · iexact H10
    iexact H9
  · iintro %_ ⟨H2, H10, ⟨%f', H9, %hf'⟩⟩
    isplitl [H2]; · iexact H2
    isplitl [H10]; · iexact H10
    iexists f'; isplitl [H9]; · iexact H9
    ipureintro; rw [hf', hf, blockIter, iter_succ]

end Cert.Sparse.Hand

end
-- ==== Proof.SparseBitsList.lean ====
/-
  The list of entries: one block of it fetched and gone through, one list of blocks, and all 32 lists, at any float
  instance (hand-written, untrusted).
-/
module

public import proofs.«01_k».proof.Proof.SparseBitsEntry
public import Idealize.ShloMosaic.Lib.LoopRemainder

@[expose] public section

set_option maxRecDepth 65536
set_option maxHeartbeats 40000000

noncomputable section

namespace Cert.Sparse.Hand

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The accumulator, the block buffer, the list left in place, and the transfers' semaphore. -/
abbrev scM : Memref sig .tc .vmem S128x1024 .f32 := Memref.whole cc0_scratch0
abbrev blM : Memref sig .tc .smem S2048 .i32 := Memref.whole cc0_scratch1
abbrev hbM : Memref sig .tc .hbm S9437184 .i32 := Memref.whole main_arg3

/-- A memref's buffer held whole on core `c` at contents `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The 2048 words of block `k3` of list `k2`, as they lie in the array of all lists. -/
abbrev blockWords (x7 : Vec F S9437184 .i32) (k2 : Fin k0_t2_loop.trips) (v12 : Elt F .i32) (hw1 : k0_chk1 k2 v12)
    (k3 : Fin (k0_t3_loop v12).trips) : Vec F S2048 .i32 :=
  View.ld (Val := Elt F) x7 (Rect.unit (s := S9437184) (k0_off15 k2 v12 k3) S2048.size (k0_off15_inb k2 v12 hw1 k3))

/-- What list `k2` makes of the accumulator, after its first `k` blocks. -/
abbrev listIter (i : grid0.Coords) (x2 : Vec F S128x5120 .bf16) (x7 : Vec F S9437184 .i32) (k2 : Fin k0_t2_loop.trips) (v12 : Elt F .i32)
    (hw1 : k0_chk1 k2 v12) (acc : Vec F S128x1024 .f32) : ℕ → Vec F S128x1024 .f32 :=
  iter (k0_t3_loop v12).trips (fun k3 a => blockIter i x2 (blockWords x7 k2 v12 hw1 k3) a k0_t4_loop.trips) acc

/-- The number of blocks list `k2` has in use. -/
abbrev cntAt (x1 : Vec F S32x128 .i32) (k2 : Fin k0_t2_loop.trips) : Elt F .i32 :=
  View.ld (Val := Elt F) x1 (Rect.unit (s := S32x128) (k0_off14 k2) S1x1.size (k0_off14_inb k2)) (Shape.Idx.first (numel1_S1x1.symm ▸ Nat.one_pos))

/-- What the lists make of the accumulator, after the first `k` of them. -/
abbrev listsIter (i : grid0.Coords) (x1 : Vec F S32x128 .i32) (x2 : Vec F S128x5120 .bf16) (x7 : Vec F S9437184 .i32)
    (hc1 : ∀ k2, k0_chk1 k2 (cntAt x1 k2)) (acc : Vec F S128x1024 .f32) : ℕ → Vec F S128x1024 .f32 :=
  iter k0_t2_loop.trips (fun k2 a => listIter i x2 x7 k2 (cntAt x1 k2) (hc1 k2) a (k0_t3_loop (cntAt x1 k2)).trips) acc

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg8 : Memref sig .tc .vmem S128x1024 .bf16) (harg8 : arg8.IsWhole)

/-- What is read of the block buffer after it is written whole. -/
theorem read_block (w : Vec F S2048 .i32) : blM.view.read (Elt F) (blM.view.writes (Elt F) blM.view.junk [⟨Rect.whole S2048, w⟩]) = w :=
  View.read_writes_full blM.view _ _ w []

/-- One block run: fetched into the block buffer, then its 1024 entries gone through. -/
theorem block_run (X2 : BufTy.Contents (Elt F) arg2.view.ty) (X7 : Buf (Elt F) (hbM.view.loc (c : Thread nD τ)))
    (k2 : Fin k0_t2_loop.trips) (v12 : Elt F .i32) (hw1 : k0_chk1 k2 v12) (k3 : Fin (k0_t3_loop v12).trips)
    (hw : ∀ k, k0_chk2 i (rowAt (blockWords (hbM.view.read (Elt F) X7) k2 v12 hw1 k3) k) (colAt (blockWords (hbM.view.read (Elt F) X7) k2 v12 hw1 k3) k))
    (f9 : BufTy.Contents (Elt F) scM.view.ty) (f10 : BufTy.Contents (Elt F) blM.view.ty) (W : Waits sig Unit) :
    iprop(at' c arg2 X2 ∗ hbPt c hbM X7 ∗ at' c blM f10 ∗ at' c scM f9 ∗ semVal ((c : Thread nD τ), SemLoc.dma 11) 0 ∗ owes (c : Thread nD τ) 0 W)
      ⊢ wp frame (wpE (defs₀ (F := F)) 𝒱 (c : Thread nD τ) bd) Set.univ
          (k0_t3_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 v12 hw1 k3 PUnit.unit)
          (fun _ => iprop(at' c arg2 X2 ∗ hbPt c hbM X7 ∗ (∃ f, at' c blM f)
            ∗ (∃ f, at' c scM f ∗ ⌜scM.view.read (Elt F) f
                = blockIter i (arg2.view.read (Elt F) X2) (blockWords (hbM.view.read (Elt F) X7) k2 v12 hw1 k3) (scM.view.read (Elt F) f9) k0_t4_loop.trips⌝)
            ∗ semVal ((c : Thread nD τ), SemLoc.dma 11) 0 ∗ (∃ W, owes (c : Thread nD τ) 0 W))) := by
  unfold k0_t3_body
  iintro ⟨H2, H7, H10, H9, Hq, HO⟩
  sl_exec
  have hX : blM.view.read (Elt F) (blM.view.writes (Elt F) blM.view.junk [⟨Rect.whole S2048, block_run.sl.dma0 c X7 k2 v12 hw1 k3⟩]) = blockWords (hbM.view.read (Elt F) X7) k2 v12 hw1 k3 := read_block _
  iapply (Scf.wp_for_bind frame (wpE (defs₀ (F := F)) 𝒱 (c : Thread nD τ) bd) Set.univ k0_t4_loop.lb k0_t4_loop.ub k0_t4_loop.st k0_t4_ok _ _
    (entryInv c i arg2 scM blM X2 (blM.view.writes (Elt F) blM.view.junk [⟨Rect.whole S2048, block_run.sl.dma0 c X7 k2 v12 hw1 k3⟩]) (scM.view.read (Elt F) f9))
    (entry_step 𝒱 c bd i arg1 harg1 arg2 harg2 arg3 harg3 arg4 harg4 arg5 harg5 arg6 harg6 hbM (Memref.isWhole_whole _) arg8 harg8 scM (Memref.isWhole_whole _) blM (Memref.isWhole_whole _) cc0_scratch2 v12 X2 (blM.view.writes (Elt F) blM.view.junk [⟨Rect.whole S2048, block_run.sl.dma0 c X7 k2 v12 hw1 k3⟩]) (scM.view.read (Elt F) f9) (by rw [hX]; exact hw) Set.univ)) $$ [H2 H10 H9]
  · unfold entryInv
    isplitl [H2]; · iexact H2
    isplitl [H10]; · iexact H10
    iexists f9; isplitl [H9]; · iexact H9
    ipureintro; rfl
  · unfold entryInv
    iintro %_ ⟨H2, H10, ⟨%f, H9, %hf⟩⟩
    sl_step
    isplitl [H2]; · iexact H2
    isplitl [H7]; · iexact H7
    isplitl [H10]; · iexists _; iexact H10
    isplitl [H9]
    · iexists f; isplitl [H9]; · iexact H9
      ipureintro; rw [hf, hX]
    isplitl [Hq]; · iexact Hq
    iexists _; iexact HO

/-- What the loop over a list's blocks holds before block `k`. -/
def blockInv (c : Dev nD) (i : grid0.Coords) (arg2 : Memref sig .tc .vmem S128x5120 .bf16) (X2 : BufTy.Contents (Elt F) arg2.view.ty)
    (X7 : Buf (Elt F) (hbM.view.loc (c : Thread nD τ))) (k2 : Fin k0_t2_loop.trips) (v12 : Elt F .i32) (hw1 : k0_chk1 k2 v12)
    (acc : Vec F S128x1024 .f32) (k : ℕ) (_ : Unit) : sProp 𝕄 :=
  iprop(at' c arg2 X2 ∗ hbPt c hbM X7 ∗ (∃ f, at' c blM f)
      ∗ (∃ f, at' c scM f ∗ ⌜scM.view.read (Elt F) f = listIter i (arg2.view.read (Elt F) X2) (hbM.view.read (Elt F) X7) k2 v12 hw1 acc k⌝)
      ∗ semVal ((c : Thread nD τ), SemLoc.dma 11) 0 ∗ (∃ W, owes (c : Thread nD τ) 0 W))

/-- One trip over a list's blocks, with its copy, keeps what holds between trips. -/
theorem block_step (X2 : BufTy.Contents (Elt F) arg2.view.ty) (X7 : Buf (Elt F) (hbM.view.loc (c : Thread nD τ)))
    (k2 : Fin k0_t2_loop.trips) (v12 : Elt F .i32) (hw1 : k0_chk1 k2 v12) (acc : Vec F S128x1024 .f32)
    (hw : ∀ k3 k, k0_chk2 i (rowAt (blockWords (hbM.view.read (Elt F) X7) k2 v12 hw1 k3) k) (colAt (blockWords (hbM.view.read (Elt F) X7) k2 v12 hw1 k3) k))
    (k3 : Fin (k0_t3_loop v12).trips) (u : Unit) :
    blockInv c i arg2 X2 X7 k2 v12 hw1 acc k3.val u
      ⊢ wp frame (wpE (defs₀ (F := F)) 𝒱 (c : Thread nD τ) bd) Set.univ
          (k0_t3_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 v12 hw1 k3 u)
          (blockInv c i arg2 X2 X7 k2 v12 hw1 acc (k3.val + 1)) := by
  unfold blockInv
  iintro ⟨H2, H7, ⟨%f10, H10⟩, ⟨%f, H9, %hf⟩, Hq, ⟨%W, HO⟩⟩
  iapply (wp_wand_r Idealize.ShloMosaic.frame (wpE (defs₀ (F := F)) 𝒱 (c : Thread nD τ) bd) Set.univ)
  isplitl [H2 H7 H10 H9 Hq HO]
  · iapply (block_run 𝒱 c bd i arg1 harg1 arg2 harg2 arg3 harg3 arg4 harg4 arg5 harg5 arg6 harg6 arg8 harg8 X2 X7 k2 v12 hw1 k3 (hw k3) f f10 W)
    isplitl [H2]; · iexact H2
    isplitl [H7]; · iexact H7
    isplitl [H10]; · iexact H10
    isplitl [H9]; · iexact H9
    isplitl [Hq]; · iexact Hq
    iexact HO
  · iintro %_ ⟨H2, H7, H10, ⟨%f', H9, %hf'⟩, Hq, HO⟩
    isplitl [H2]; · iexact H2
    isplitl [H7]; · iexact H7
    isplitl [H10]; · iexact H10
    isplitl [H9]
    · iexists f'; isplitl [H9]; · iexact H9
      ipureintro; rw [hf', hf, listIter, iter_succ]
    isplitl [Hq]; · iexact Hq
    iexact HO

/-- What the loop over the lists holds before list `k`. -/
def listInv (c : Dev nD) (i : grid0.Coords) (arg1 : Memref sig .tc .smem S32x128 .i32) (arg2 : Memref sig .tc .vmem S128x5120 .bf16)
    (X1 : BufTy.Contents (Elt F) arg1.view.ty) (X2 : BufTy.Contents (Elt F) arg2.view.ty)
    (X7 : Buf (Elt F) (hbM.view.loc (c : Thread nD τ))) (hc1 : ∀ k2, k0_chk1 k2 (cntAt (arg1.view.read (Elt F) X1) k2))
    (acc : Vec F S128x1024 .f32) (k : ℕ) (_ : Unit) : sProp 𝕄 :=
  iprop(at' c arg1 X1 ∗ at' c arg2 X2 ∗ hbPt c hbM X7 ∗ (∃ f, at' c blM f)
      ∗ (∃ f, at' c scM f ∗ ⌜scM.view.read (Elt F) f
          = listsIter i (arg1.view.read (Elt F) X1) (arg2.view.read (Elt F) X2) (hbM.view.read (Elt F) X7) hc1 acc k⌝)
      ∗ semVal ((c : Thread nD τ), SemLoc.dma 11) 0 ∗ (∃ W, owes (c : Thread nD τ) 0 W))

/-- One trip over the lists keeps what holds between trips. -/
theorem list_step (X1 : BufTy.Contents (Elt F) arg1.view.ty) (X2 : BufTy.Contents (Elt F) arg2.view.ty)
    (X7 : Buf (Elt F) (hbM.view.loc (c : Thread nD τ))) (hc1 : ∀ k2, k0_chk1 k2 (cntAt (arg1.view.read (Elt F) X1) k2))
    (acc : Vec F S128x1024 .f32)
    (hw : ∀ k2 k3 k, k0_chk2 i (rowAt (blockWords (hbM.view.read (Elt F) X7) k2 _ (hc1 k2) k3) k) (colAt (blockWords (hbM.view.read (Elt F) X7) k2 _ (hc1 k2) k3) k))
    (k2 : Fin k0_t2_loop.trips) (u : Unit) :
    listInv c i arg1 arg2 X1 X2 X7 hc1 acc k2.val u
      ⊢ wp frame (wpE (defs₀ (F := F)) 𝒱 (c : Thread nD τ) bd) Set.univ
          (k0_t2_body (F := F) i arg1 harg1 arg2 harg2 arg3 harg3 arg4 harg4 arg5 harg5 arg6 harg6 hbM (Memref.isWhole_whole _) arg8 harg8 scM (Memref.isWhole_whole _) blM (Memref.isWhole_whole _) cc0_scratch2 k2 u)
          (listInv c i arg1 arg2 X1 X2 X7 hc1 acc (k2.val + 1)) := by
  have k0_hw1 : k0_chk1 k2 (arg1.view.readAt (Elt F) (Rect.unit (s := S32x128) (k0_off14 k2) S1x1.size (k0_off14_inb k2)).toLoadRect X1 (Shape.Idx.first (numel1_S1x1.symm ▸ Nat.one_pos))) := hc1 k2
  unfold listInv k0_t2_body
  iintro ⟨H1, H2, H7, H10, ⟨%f, H9, %hf⟩, Hq, HO⟩
  sl_exec
  iapply (Scf.wp_for_bind frame (wpE (defs₀ (F := F)) 𝒱 (c : Thread nD τ) bd) Set.univ _ _ _ _ _ _
    (blockInv c i arg2 X2 X7 k2 _ (hc1 k2) (scM.view.read (Elt F) f))
    (block_step 𝒱 c bd i arg1 harg1 arg2 harg2 arg3 harg3 arg4 harg4 arg5 harg5 arg6 harg6 arg8 harg8 X2 X7 k2 _ (hc1 k2) (scM.view.read (Elt F) f) (hw k2))) $$ [H2 H7 H10 H9 Hq HO]
  · unfold blockInv
    isplitl [H2]; · iexact H2
    isplitl [H7]; · iexact H7
    isplitl [H10]; · iexact H10
    isplitl [H9]
    · iexists f; isplitl [H9]; · iexact H9
      ipureintro; rfl
    isplitl [Hq]; · iexact Hq
    iexact HO
  · unfold blockInv
    iintro %_ ⟨H2, H7, H10, ⟨%f', H9, %hf'⟩, Hq, HO⟩
    sl_exec
    sl_step
    isplitl [H1]; · iexact H1
    isplitl [H2]; · iexact H2
    isplitl [H7]; · iexact H7
    isplitl [H10]; · iexact H10
    isplitl [H9]
    · iexists f'; isplitl [H9]; · iexact H9
      ipureintro; rw [hf', hf, listsIter, iter_succ]
    isplitl [Hq]; · iexact Hq
    iexact HO

end Cert.Sparse.Hand

end
-- ==== Proof.SparseBitsBody.lean ====
/-
  The kernel's body run once, on any staging buffers: the accumulator starts from the partial result, takes up ten tiles of
  the table part and then the 32 lists of entries, and is rounded into the result's tile (hand-written, untrusted).
-/
module

public import proofs.«01_k».proof.Proof.SparseBitsList

@[expose] public section

set_option maxRecDepth 65536
set_option maxHeartbeats 40000000

noncomputable section

namespace Cert.Sparse.Hand

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the tiles make of the accumulator, after the first `k`. -/
abbrev tilesIter (x3 : Vec F S128x5120 .bf16) (x4 : Vec F S80x1x8x8x128 .i32) (x5 : Vec F S80x1x4x8x128 .i32) (acc : Vec F S128x1024 .f32) :
    ℕ → Vec F S128x1024 .f32 :=
  iter k0_t1_loop.trips (fun k a => tileTrip x3 x4 x5 k a) acc

/-- What the words read at grid point `i` must satisfy for the body's assumptions to hold. -/
abbrev WordsOK (i : grid0.Coords) (x1 : Vec F S32x128 .i32) (x7 : Vec F S9437184 .i32) : Prop :=
  ∃ hc1 : ∀ k2, k0_chk1 k2 (cntAt x1 k2), ∀ k2 k3 k, k0_chk2 i (rowAt (blockWords x7 k2 _ (hc1 k2) k3) k) (colAt (blockWords x7 k2 _ (hc1 k2) k3) k)

/-- The tile the body leaves, from the blocks it is handed. -/
def outVal (i : grid0.Coords) (x1 : Vec F S32x128 .i32) (x2 x3 : Vec F S128x5120 .bf16) (x4 : Vec F S80x1x8x8x128 .i32)
    (x5 : Vec F S80x1x4x8x128 .i32) (x6 : Vec F S128x1024 .f32) (x7 : Vec F S9437184 .i32) (h : WordsOK i x1 x7) : Vec F S128x1024 .bf16 :=
  k0_pay7 (listsIter i x1 x2 x7 h.fst (tilesIter x3 x4 x5 (k0_pay1 x6) k0_t1_loop.trips) k0_t2_loop.trips)

variable (𝒱 : Variants) (c : Dev nD) (bd : Option 𝒱.V) (i : grid0.Coords)
  (arg1 : Memref sig .tc .smem S32x128 .i32) (harg1 : arg1.IsWhole) (arg2 : Memref sig .tc .vmem S128x5120 .bf16) (harg2 : arg2.IsWhole)
  (arg3 : Memref sig .tc .vmem S128x5120 .bf16) (harg3 : arg3.IsWhole) (arg4 : Memref sig .tc .vmem S80x1x8x8x128 .i32) (harg4 : arg4.IsWhole)
  (arg5 : Memref sig .tc .vmem S80x1x4x8x128 .i32) (harg5 : arg5.IsWhole) (arg6 : Memref sig .tc .vmem S128x1024 .f32) (harg6 : arg6.IsWhole)
  (arg8 : Memref sig .tc .vmem S128x1024 .bf16) (harg8 : arg8.IsWhole)

/-- What the loop over the tiles holds before tile `k`. -/
def tileInv (c : Dev nD) (arg3 : Memref sig .tc .vmem S128x5120 .bf16) (arg4 : Memref sig .tc .vmem S80x1x8x8x128 .i32)
    (arg5 : Memref sig .tc .vmem S80x1x4x8x128 .i32) (X3 : BufTy.Contents (Elt F) arg3.view.ty) (X4 : BufTy.Contents (Elt F) arg4.view.ty)
    (X5 : BufTy.Contents (Elt F) arg5.view.ty) (acc : Vec F S128x1024 .f32) (k : ℕ) (_ : Unit) : sProp 𝕄 :=
  iprop(at' c arg3 X3 ∗ at' c arg4 X4 ∗ at' c arg5 X5
      ∗ (∃ f, at' c scM f ∗ ⌜scM.view.read (Elt F) f
          = tilesIter (arg3.view.read (Elt F) X3) (arg4.view.read (Elt F) X4) (arg5.view.read (Elt F) X5) acc k⌝))

/-- One trip over the tables keeps what holds between trips. -/
theorem tile_step (X3 : BufTy.Contents (Elt F) arg3.view.ty) (X4 : BufTy.Contents (Elt F) arg4.view.ty)
    (X5 : BufTy.Contents (Elt F) arg5.view.ty) (acc : Vec F S128x1024 .f32) (k : Fin k0_t1_loop.trips) (u : Unit) :
    tileInv c arg3 arg4 arg5 X3 X4 X5 acc k.val u
      ⊢ wp frame (wpE (defs₀ (F := F)) 𝒱 (c : Thread nD τ) bd) Set.univ
          (k0_t1_body (F := F) i arg1 harg1 arg2 harg2 arg3 harg3 arg4 harg4 arg5 harg5 arg6 harg6 hbM (Memref.isWhole_whole _) arg8 harg8 scM (Memref.isWhole_whole _) blM (Memref.isWhole_whole _) cc0_scratch2 k u)
          (tileInv c arg3 arg4 arg5 X3 X4 X5 acc (k.val + 1)) := by
  unfold tileInv
  iintro ⟨H3, H4, H5, ⟨%f, H9, %hf⟩⟩
  iapply (wp_wand_r Idealize.ShloMosaic.frame (wpE (defs₀ (F := F)) 𝒱 (c : Thread nD τ) bd) Set.univ)
  isplitl [H3 H4 H5 H9]
  · iapply (tile_run 𝒱 c bd i arg1 harg1 arg2 harg2 arg3 harg3 arg4 harg4 arg5 harg5 arg6 harg6 hbM (Memref.isWhole_whole _) arg8 harg8 scM (Memref.isWhole_whole _) blM (Memref.isWhole_whole _) cc0_scratch2 X3 X4 X5 k Set.univ f)
    isplitl [H3]; · iexact H3
    isplitl [H4]; · iexact H4
    isplitl [H5]; · iexact H5
    iexact H9
  · iintro %_ ⟨H3, H4, H5, ⟨%f', H9, %hf'⟩⟩
    isplitl [H3]; · iexact H3
    isplitl [H4]; · iexact H4
    isplitl [H5]; · iexact H5
    iexists f'; isplitl [H9]; · iexact H9
    ipureintro; rw [hf', hf, tilesIter, iter_succ]

/-- The body's triple. -/
theorem kernelRun (x1 : Vec F S32x128 .i32) (x2 x3 : Vec F S128x5120 .bf16) (x4 : Vec F S80x1x8x8x128 .i32) (x5 : Vec F S80x1x4x8x128 .i32)
    (x6 : Vec F S128x1024 .f32) (X7 : Buf (Elt F) (hbM.view.loc (c : Thread nD τ))) (h : WordsOK i x1 (hbM.view.read (Elt F) X7))
    (W : Waits sig Unit) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg8 fullShare d) ∗ (∃ d, owns (c : Thread nD τ) scM fullShare d)
        ∗ (∃ d, owns (c : Thread nD τ) blM fullShare d) ∗ hbPt c hbM X7
        ∗ semVal ((c : Thread nD τ), SemLoc.dma 11) 0 ∗ owes (c : Thread nD τ) 0 W
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg8 fullShare (outVal i x1 x2 x3 x4 x5 x6 (hbM.view.read (Elt F) X7) h)
            ∗ (∃ d, owns (c : Thread nD τ) scM fullShare d) ∗ (∃ d, owns (c : Thread nD τ) blM fullShare d) ∗ hbPt c hbM X7
            ∗ semVal ((c : Thread nD τ), SemLoc.dma 11) 0 ∗ (∃ W', owes (c : Thread nD τ) 0 W')) -∗ K ⟨⟩))
      ⊢ wp frame (wpE (defs₀ (F := F)) 𝒱 (c : Thread nD τ) bd) Set.univ (cc0_sparse (F := F) i arg1 harg1 arg2 harg2 arg3 harg3 arg4 harg4 arg5 harg5 arg6 harg6 hbM (Memref.isWhole_whole _) arg8 harg8 scM (Memref.isWhole_whole _) blM (Memref.isWhole_whole _) cc0_scratch2) K := by
  simp only [cc0_sparse_eq_skeleton]; unfold cc0_sparse_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d8, %f8, -, H8⟩, ⟨%d9, %f9, -, H9⟩, ⟨%d10, %f10, -, H10⟩, H7, Hq, HO, Hk⟩
  subst h1 h2 h3 h4 h5 h6
  sl_exec
  have h0 : scM.view.read (Elt F) (scM.view.writes (Elt F) scM.view.junk (kernelRun.sl.H9_1 c arg6 f6)) = k0_pay1 (arg6.view.read (Elt F) f6) := by
    sl_unfold_words
    rw [View.read_writes_full]
    simp only [View.readAt_eq_ld]
    refine congrArg k0_pay1 ?_
    exact View.ld_unit_zero (S := S128x1024) (by funext a; fin_cases a <;> rfl) _ _
  iapply (Scf.wp_for_bind frame (wpE (defs₀ (F := F)) 𝒱 (c : Thread nD τ) bd) Set.univ _ _ _ _ _ _
    (tileInv c arg3 arg4 arg5 f3 f4 f5 (k0_pay1 (arg6.view.read (Elt F) f6)))
    (tile_step 𝒱 c bd i arg1 harg1 arg2 harg2 arg3 harg3 arg4 harg4 arg5 harg5 arg6 harg6 arg8 harg8 f3 f4 f5 (k0_pay1 (arg6.view.read (Elt F) f6)))) $$ [H3 H4 H5 H9]
  · unfold tileInv
    isplitl [H3]; · iexact H3
    isplitl [H4]; · iexact H4
    isplitl [H5]; · iexact H5
    iexists _; isplitl [H9]; · iexact H9
    ipureintro; exact h0
  unfold tileInv
  iintro %_ ⟨H3, H4, H5, ⟨%g, H9, %hg⟩⟩
  iapply (Scf.wp_for_bind frame (wpE (defs₀ (F := F)) 𝒱 (c : Thread nD τ) bd) Set.univ _ _ _ _ _ _
    (listInv c i arg1 arg2 f1 f2 X7 h.fst (scM.view.read (Elt F) g))
    (list_step 𝒱 c bd i arg1 harg1 arg2 harg2 arg3 harg3 arg4 harg4 arg5 harg5 arg6 harg6 arg8 harg8 f1 f2 X7 h.fst (scM.view.read (Elt F) g) h.snd)) $$ [H1 H2 H7 H10 H9 Hq HO]
  · unfold listInv
    isplitl [H1]; · iexact H1
    isplitl [H2]; · iexact H2
    isplitl [H7]; · iexact H7
    isplitl [H10]; · iexists _; iexact H10
    isplitl [H9]
    · iexists _; isplitl [H9]; · iexact H9
      ipureintro; rfl
    isplitl [Hq]; · iexact Hq
    iexists _; iexact HO
  unfold listInv
  iintro %_ ⟨H1, H2, H7, ⟨%g10, H10⟩, ⟨%g', H9, %hg'⟩, Hq, HO⟩
  sl_exec
  sl_step
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists f4; isplitr; swap; · iexact H4
    ipureintro; rfl
  isplitl [H5]
  · iexists f5; isplitr; swap; · iexact H5
    ipureintro; rfl
  isplitl [H6]
  · iexists f6; isplitr; swap; · iexact H6
    ipureintro; rfl
  isplitl [H8]
  · iexists _; isplitr; swap; · iexact H8
    ipureintro
    sl_unfold_words
    rw [View.read_writes_full]
    simp only [View.readAt_eq_ld]
    unfold outVal
    refine congrArg k0_pay7 ?_
    refine (View.ld_unit_zero (S := S128x1024) (by funext a; fin_cases a <;> rfl) _ _).trans ?_
    rw [hg', hg]
  isplitl [H9]
  · iexists _, _; isplitr; swap; · iexact H9
    ipureintro; rfl
  isplitl [H10]
  · iexists _, _; isplitr; swap; · iexact H10
    ipureintro; rfl
  isplitl [H7]; · iexact H7
  isplitl [Hq]; · iexact Hq
  iexact HO

end Cert.Sparse.Hand

end
-- ==== Proof.SparseBitsRun.lean ====
/-
  The launch: the body obligation at every grid point, the whole run, and what the result array and the arguments hold
  after it (hand-written, untrusted).
-/
module

public import proofs.«01_k».proof.Proof.SparseBitsBody

@[expose] public section

set_option maxRecDepth 65536
set_option maxHeartbeats 40000000

noncomputable section

namespace Cert.Sparse.Hand

open Cert.Sparse Cert.Sparse.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-- The words every grid point reads make the body's assumptions hold. -/
abbrev WordsAt : Prop := ∀ (c : Dev nD) (t : Fin cfg0.N), WordsOK (F := F) (grid0.coords t) (iblk m c 0 t) (hbM.view.read (Elt F) (V m c main_arg3))

/-- The transfers' semaphore, by its number. -/
abbrev osem0 : Fin 1 → SemLoc sig := fun j => (![SemLoc.dma 11] : Fin 1 → SemLoc sig) j
/-- What the launch asks of the body's own semaphore. -/
theorem ownSemFacts0 : Pipeline.OwnSemFacts spec0 osem0 := by decide
/-- The body's own semaphores are the one the copies wait on. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The lists, left in place. -/
def H0 : Finset (Ref sig .tc) := {main_arg3}
/-- The buffers the body reads outside its windows are among those no window stages. -/
theorem H0_sub : H0 ⊆ Pipeline.restRefs sig spec0 := by decide
/-- Those buffers are the lists of entries alone. -/
theorem hbmPts0_eq (c : Dev nD) :
    (bigSep H0 (fun b => ((c : Thread nD τ).loc b) ↦{fullShare} V m c b) : sProp 𝕄) = iprop(hbPt c hbM (V m c main_arg3)) := by
  rw [BI.bigSep_eq_bigSepL_of_eq [main_arg3] (by decide) (by decide)]; rfl

/-- What is held between grid points, part by part. -/
theorem PhiD0_eq (c : Dev nD) :
    (Pipeline.ΦD osem0 spec0 H0 (V m) c : sProp 𝕄)
      = iprop(iprop((∃ d, owns (c : Thread nD τ) scM fullShare d) ∗ (∃ d, owns (c : Thread nD τ) blM fullShare d)) ∗ (∃ r, prngReg c r)
          ∗ iprop(semVal ((c : Thread nD τ), SemLoc.dma 11) 0)
          ∗ iprop(hbPt c hbM (V m c main_arg3))) := by
  rw [Pipeline.ΦD_eq, scopedRest0_eq, ownSems00_eq, hbmPts0_eq]; simp only [scM, blM, owns_whole]; try rfl

/-- The proof data on core `c`: every input left in place, the result's tile at what the body makes of the point's blocks. -/
def dats (hok : WordsAt m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal (grid0.coords t) (iblk m c 0 t) (iblk m c 1 t) (iblk m c 2 t) (iblk m c 3 t) (iblk m c 4 t) (iblk m c 5 t)
        (hbM.view.read (Elt F) (V m c main_arg3)) (hok c t)
  Φ _ := Pipeline.ΦD osem0 spec0 H0 (V m) c
  q _ := fullShare
  owed _ := 0

/-- Each window's array holds, at the start, what the host lines before the call left in it. -/
theorem A_eq (hok : WordsAt m) (c : Dev nD) (w : Fin cfg0.W) : (dats m hok 0 c).A w = V m c (Pipeline.arrRef spec0 w) := by dsimp only [dats]

/-- What window 0 holds after a point. -/
theorem aft_0 (hok : WordsAt m) (c : Dev nD) (t : Fin cfg0.N) : (dats m hok 0 c).after 0 t = iblk m c 0 t := by dsimp only [dats]
/-- What window 1 holds after a point. -/
theorem aft_1 (hok : WordsAt m) (c : Dev nD) (t : Fin cfg0.N) : (dats m hok 0 c).after 1 t = iblk m c 1 t := by dsimp only [dats]
/-- What window 2 holds after a point. -/
theorem aft_2 (hok : WordsAt m) (c : Dev nD) (t : Fin cfg0.N) : (dats m hok 0 c).after 2 t = iblk m c 2 t := by dsimp only [dats]
/-- What window 3 holds after a point. -/
theorem aft_3 (hok : WordsAt m) (c : Dev nD) (t : Fin cfg0.N) : (dats m hok 0 c).after 3 t = iblk m c 3 t := by dsimp only [dats]
/-- What window 4 holds after a point. -/
theorem aft_4 (hok : WordsAt m) (c : Dev nD) (t : Fin cfg0.N) : (dats m hok 0 c).after 4 t = iblk m c 4 t := by dsimp only [dats]
/-- What window 5 holds after a point. -/
theorem aft_5 (hok : WordsAt m) (c : Dev nD) (t : Fin cfg0.N) : (dats m hok 0 c).after 5 t = iblk m c 5 t := by dsimp only [dats]
/-- What window 6 holds after a point. -/
theorem aft_6 (hok : WordsAt m) (c : Dev nD) (t : Fin cfg0.N) : (dats m hok 0 c).after 6 t
    = outVal (grid0.coords t) (iblk m c 0 t) (iblk m c 1 t) (iblk m c 2 t) (iblk m c 3 t) (iblk m c 4 t) (iblk m c 5 t)
        (hbM.view.read (Elt F) (V m c main_arg3)) (hok c t) := by dsimp only [dats]

/-- What window 0 holds before a point: its block. -/
theorem bef_0 (hok : WordsAt m) (c : Dev nD) (t : Fin cfg0.N) (d) : (dats m hok 0 c).before 0 t d = iblk m c 0 t :=
  ((dats m hok 0 c).before_in_eq_fetched 0 rfl (fun _ => rfl) (fun _ _ _ => rfl) (fun t => by rw [aft_0]; unfold Dat.blockOf iblk; rw [A_eq]; try rfl) t d).trans
    (by unfold Dat.fetched Dat.blockOf iblk; rw [A_eq]; try rfl)
/-- What window 1 holds before a point: its block. -/
theorem bef_1 (hok : WordsAt m) (c : Dev nD) (t : Fin cfg0.N) (d) : (dats m hok 0 c).before 1 t d = iblk m c 1 t :=
  ((dats m hok 0 c).before_in_eq_fetched 1 rfl (fun _ => rfl) (fun _ _ _ => rfl) (fun t => by rw [aft_1]; unfold Dat.blockOf iblk; rw [A_eq]; try rfl) t d).trans
    (by unfold Dat.fetched Dat.blockOf iblk; rw [A_eq]; try rfl)
/-- What window 2 holds before a point: its block. -/
theorem bef_2 (hok : WordsAt m) (c : Dev nD) (t : Fin cfg0.N) (d) : (dats m hok 0 c).before 2 t d = iblk m c 2 t :=
  ((dats m hok 0 c).before_in_eq_fetched 2 rfl (fun _ => rfl) (fun _ _ _ => rfl) (fun t => by rw [aft_2]; unfold Dat.blockOf iblk; rw [A_eq]; try rfl) t d).trans
    (by unfold Dat.fetched Dat.blockOf iblk; rw [A_eq]; try rfl)
/-- What window 3 holds before a point: its block. -/
theorem bef_3 (hok : WordsAt m) (c : Dev nD) (t : Fin cfg0.N) (d) : (dats m hok 0 c).before 3 t d = iblk m c 3 t :=
  ((dats m hok 0 c).before_in_eq_fetched 3 rfl (fun _ => rfl) (fun _ _ _ => rfl) (fun t => by rw [aft_3]; unfold Dat.blockOf iblk; rw [A_eq]; try rfl) t d).trans
    (by unfold Dat.fetched Dat.blockOf iblk; rw [A_eq]; try rfl)
/-- What window 4 holds before a point: its block. -/
theorem bef_4 (hok : WordsAt m) (c : Dev nD) (t : Fin cfg0.N) (d) : (dats m hok 0 c).before 4 t d = iblk m c 4 t :=
  ((dats m hok 0 c).before_in_eq_fetched 4 rfl (fun _ => rfl) (fun _ _ _ => rfl) (fun t => by rw [aft_4]; unfold Dat.blockOf iblk; rw [A_eq]; try rfl) t d).trans
    (by unfold Dat.fetched Dat.blockOf iblk; rw [A_eq]; try rfl)
/-- What window 5 holds before a point: its block. -/
theorem bef_5 (hok : WordsAt m) (c : Dev nD) (t : Fin cfg0.N) (d) : (dats m hok 0 c).before 5 t d = iblk m c 5 t :=
  ((dats m hok 0 c).before_in_eq_fetched 5 rfl (fun _ => rfl) (fun _ _ _ => rfl) (fun t => by rw [aft_5]; unfold Dat.blockOf iblk; rw [A_eq]; try rfl) t d).trans
    (by unfold Dat.fetched Dat.blockOf iblk; rw [A_eq]; try rfl)

def bodyPre (hok : WordsAt m) (c : Dev nD) (t : Fin cfg0.N) : sProp 𝕄 :=
  iprop((dats m hok 0 c).Φ t.castSucc ∗ (dats m hok 0 c).owesAt () t.castSucc
    ∗ (∃ d, owns (c : Thread nD τ) (st0_0 t) fullShare ((dats m hok 0 c).before 0 t d))
    ∗ (∃ d, owns (c : Thread nD τ) (st0_1 t) fullShare ((dats m hok 0 c).before 1 t d))
    ∗ (∃ d, owns (c : Thread nD τ) (st0_2 t) fullShare ((dats m hok 0 c).before 2 t d))
    ∗ (∃ d, owns (c : Thread nD τ) (st0_3 t) fullShare ((dats m hok 0 c).before 3 t d))
    ∗ (∃ d, owns (c : Thread nD τ) (st0_4 t) fullShare ((dats m hok 0 c).before 4 t d))
    ∗ (∃ d, owns (c : Thread nD τ) (st0_5 t) fullShare ((dats m hok 0 c).before 5 t d))
    ∗ (∃ d, owns (c : Thread nD τ) (st0_6 t) fullShare ((dats m hok 0 c).before 6 t d)))
def bodyPost (hok : WordsAt m) (c : Dev nD) (t : Fin cfg0.N) : sProp 𝕄 :=
  iprop((dats m hok 0 c).Φ t.succ ∗ (dats m hok 0 c).owesAt () t.succ
    ∗ owns (c : Thread nD τ) (st0_0 t) fullShare ((dats m hok 0 c).after 0 t)
    ∗ owns (c : Thread nD τ) (st0_1 t) fullShare ((dats m hok 0 c).after 1 t)
    ∗ owns (c : Thread nD τ) (st0_2 t) fullShare ((dats m hok 0 c).after 2 t)
    ∗ owns (c : Thread nD τ) (st0_3 t) fullShare ((dats m hok 0 c).after 3 t)
    ∗ owns (c : Thread nD τ) (st0_4 t) fullShare ((dats m hok 0 c).after 4 t)
    ∗ owns (c : Thread nD τ) (st0_5 t) fullShare ((dats m hok 0 c).after 5 t)
    ∗ owns (c : Thread nD τ) (st0_6 t) fullShare ((dats m hok 0 c).after 6 t))

/-- The body at any grid point. -/
theorem sound_body (hok : WordsAt m) (c : Dev nD) (t : Fin cfg0.N) :
    bodyPre m hok c t ⊢ wp frame (wpE (defs₀ (F := F)) Variants.none c none) Set.univ (bodyAt0 t) (fun _ => bodyPost m hok c t) := by
  unfold bodyPre bodyPost bodyAt0
  simp only [bef_0, bef_1, bef_2, bef_3, bef_4, bef_5]
  rw [aft_0, aft_1, aft_2, aft_3, aft_4, aft_5, aft_6]
  rw [show (dats m hok 0 c).Φ t.succ = (dats m hok 0 c).Φ t.castSucc from rfl,
    show (dats m hok 0 c).owesAt () t.succ = (dats m hok 0 c).owesAt () t.castSucc from rfl,
    show (dats m hok 0 c).Φ t.castSucc = Pipeline.ΦD osem0 spec0 H0 (V m) c from rfl, PhiD0_eq]
  unfold Dat.owesAt Pipeline.owesWithin
  rw [show (dats m hok 0 c).owed t.castSucc = 0 from rfl]
  iintro ⟨⟨⟨HS, HB⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (kernelRun Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) (V m c main_arg3) (hok c t) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  isplitl [HB]; · iexact HB
  isplitl [Hh]; · iexact Hh
  isplitl [Hq]; · iexact Hq
  isplitl [HO]; · iexact HO
  iintro ⟨H0, H1, H2, H3, H4, H5, H6, HS, HB, Hh, Hq, ⟨%W', HO⟩⟩
  isplitl [HS HB Hg Hq Hh]
  · isplitl [HS HB]
    · isplitl [HS]; · iexact HS
      iexact HB
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body at each grid point, from each window's block, leaves what the data above says. -/
theorem body_obligation (hok : WordsAt m) (c : Dev nD) :
    BodyObligation (dats (F := F) m hok 0 c) (defs₀ (F := F)) Variants.none () Set.univ := fun t => by
  rw [bigSep_W0, bigSep_W0, defs₀_row]
  exact triple_restated (sound_body m hok c t) rfl .rfl fun _ => .rfl

set_option maxHeartbeats 800000 in
/-- @main up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole run. -/
theorem run_main (hok : WordsAt m) :
    θ_run defs (onTc (τ := τ) (main (F := F))) (s₀ m ρ)
      (fun r => Pipeline.FramePost cfgs (dats m hok) 0 (V m) r ∧ r.2.sem = fun _ => 0) :=
  Pipeline.θ_run_frame_dma (Q' := _) cfgs (dats m hok) (0 : Fin 1) launch0 osem0 defs₀ Variants.none ownSemFacts0 H0 H0_sub m ρ main
    (hbody := fun c => (body_obligation m hok c).loose) (hshare := fun c => (dats m hok 0 c).share_full fun _ => rfl)
    (howed := fun _ _ => rfl) (V := V m) (hmain := hmainD m Variants.none) (hA := A_eq m hok)
    (hin := fun _ => .rfl) (hout := fun _ => .rfl)

/-- The run with the result array named and the arguments as launched. -/
theorem run (hok : WordsAt m) : θ_run defs (onTc (τ := τ) (main (F := F))) ⟨m, fun _ => 0, ρ⟩ (fun r => (∀ c : Dev nD,
      r.2.mem ((c.tc : Thread nD τ).loc main_v4) = (dats m hok 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).1 3).trans (((dats m hok 0 c).arrAt_in 3 rfl _).trans ((A_eq m hok c 3).trans (V_main_arg1 m c))),
      ((h.1 c).1 4).trans (((dats m hok 0 c).arrAt_in 4 rfl _).trans ((A_eq m hok c 4).trans (V_main_arg2 m c))),
      ((h.1 c).2 main_arg3 (Pipeline.mem_restRefs_of main_arg3 (by decide) (by decide))).trans (V_main_arg3 m c),
      ((h.1 c).1 0).trans (((dats m hok 0 c).arrAt_in 0 rfl _).trans ((A_eq m hok c 0).trans (V_main_arg4 m c))),
      ((h.1 c).1 5).trans (((dats m hok 0 c).arrAt_in 5 rfl _).trans ((A_eq m hok c 5).trans (V_main_arg5 m c)))⟩, h.2⟩)
    (run_main m ρ hok)

end Cert.Sparse.Hand

end
-- ==== Proof.SparseBitsWords.lean ====
/-
  The words of the lists: how many blocks a list has, where a block lies, and which offsets an entry's row and column
  words give, with every assumption the body makes of them (hand-written, untrusted).
-/
module

public import proofs.«01_k».proof.Proof.SparseBitsBody
public import Idealize.ShloMosaic.Lib.Pipeline.ValueKit
public import Idealize.ShloMosaic.Lib.Pointwise

@[expose] public section

set_option maxRecDepth 65536
set_option maxHeartbeats 40000000

noncomputable section

namespace Cert.Sparse.Hand

open Cert.Sparse Cert.Sparse.Gen
open Idealize.ShloMosaic Idealize.ShloMosaic.TcCoe
open Idealize.SL.Sem

variable {F : FTy → Type} [FloatOps F]

/-- A list of `v` blocks is walked from 0 to `v` by ones. -/
theorem t3_loop_eq (v : BitVec 32) : k0_t3_loop v = ⟨0#32, v, 1#32⟩ := by
  have h1 : Scalar.subi (Scalar.divsi (Scalar.addi (Scalar.subi v 0#32) (Scalar.subi 1#32 1#32)) 1#32) 0#32 = v := by
    simp [Scalar.subi, Scalar.addi, Scalar.divsi, IntOp.subi, IntOp.addi, WordArith.divsi_one]
  unfold k0_t3_loop
  simp only [h1, Scalar.muli_divsi_one]
  simp [Scalar.addi, IntOp.addi]

/-- The trips of that walk. -/
theorem t3_trips (v : BitVec 32) : (k0_t3_loop v).trips = v.toInt.toNat := by
  rw [t3_loop_eq]
  show Scf.trips 0#32 v 1#32 = _
  have h1 : (1#32).toInt = 1 := by decide
  have h0 : (0#32).toInt = 0 := by decide
  unfold Scf.trips; rw [h1, h0]; omega

/-- The lists are 32. -/
theorem t2_trips : k0_t2_loop.trips = 32 := by decide +kernel
/-- The entries of a block are 1024. -/
theorem t4_trips : k0_t4_loop.trips = 1024 := by decide +kernel

/-- Where block `k3` of list `k2` lies. -/
theorem off15_eq (k2 : Fin k0_t2_loop.trips) (v : BitVec 32) (hv : v.toInt ≤ 144) (k3 : Fin (k0_t3_loop v).trips) :
    k0_off15 k2 v k3 = ![(144 * k2.val + k3.val) * 2048] := by
  have h2 : k2.val < 32 := lt_of_lt_of_eq k2.isLt t2_trips
  have h3 : k3.val < 144 := by have := lt_of_lt_of_eq k3.isLt (t3_trips v); omega
  unfold k0_off15
  funext a; fin_cases a
  simp [Scf.iv, Scalar.muli, Scalar.addi, IntOp.muli, IntOp.addi, Scalar.indexCast, BitVec.toNat_mul, BitVec.toNat_add]
  omega

/-- The same place, as the multiple of 2048 the body takes it for. -/
theorem mult2_eq (k2 : Fin k0_t2_loop.trips) (v : BitVec 32) (hv : v.toInt ≤ 144) (k3 : Fin (k0_t3_loop v).trips) :
    (k0_mult2 k2 v k3).toNat = (144 * k2.val + k3.val) * 2048 := by
  have h2 : k2.val < 32 := lt_of_lt_of_eq k2.isLt t2_trips
  have h3 : k3.val < 144 := by have := lt_of_lt_of_eq k3.isLt (t3_trips v); omega
  unfold k0_mult2
  simp [Scf.iv, Scalar.muli, Scalar.addi, IntOp.muli, IntOp.addi, BitVec.toNat_mul, BitVec.toNat_add]
  omega

/-- A list of at most 144 blocks meets what the body assumes of its length. -/
theorem chk1_of (k2 : Fin k0_t2_loop.trips) (v : BitVec 32) (hv : v.toInt ≤ 144) : k0_chk1 k2 v := by
  have h2 : k2.val < 32 := lt_of_lt_of_eq k2.isLt t2_trips
  refine ⟨?_, ?_, ?_, ?_, ?_, ?_⟩
  · rw [t3_loop_eq]
    show Scf.OK 0#32 v 1#32
    have h1 : (1#32).toInt = 1 := by decide
    have h0 : (0#32).toInt = 0 := by decide
    unfold Scf.OK Scf.trips; rw [h1, h0]; omega
  · intro k3; rw [mult2_eq k2 v hv k3]; exact ⟨144 * k2.val + k3.val, by ring⟩
  · intro k3 a
    have h3 : k3.val < 144 := by have := lt_of_lt_of_eq k3.isLt (t3_trips v); omega
    rw [off15_eq k2 v hv k3]; fin_cases a
    show (144 * k2.val + k3.val) * 2048 + 2048 ≤ 9437184
    omega
  · exact Scf.rem_ok _ _
  · intro k5; exact (Scf.rem_no_trip _ _ k5).elim
  · intro k5; exact (Scf.rem_no_trip _ _ k5).elim

/-- What the test of an entry says: its row is not negative and its column is in the chunk. -/
theorem cond1_iff (i : grid0.Coords) (row word : BitVec 32) :
    k0_cond1 i row word = 1#1 ↔ 0 ≤ row.toInt ∧ (word &&& 65535#32).toNat / 1024 = (i 0).val := by
  have hi : (i 0).val < 27 := (i 0).isLt
  have e : ∀ a b : BitVec 1, Scalar.cmpi .ne (Scalar.extui (Scalar.andi a b) : BitVec 32) 0#32 = 1#1 ↔ a = 1#1 ∧ b = 1#1 := by decide
  unfold k0_cond1
  rw [e]
  refine and_congr ?_ ?_
  · simp only [Scalar.cmpi, IntOp.cmpi, BitVec.sle, show (0#32).toInt = 0 from by decide]
    by_cases h : 0 ≤ row.toInt <;> simp [h]
  · have hs : Scalar.shrui (word &&& 65535#32) 10#32 = (word &&& 65535#32) >>> 10 := by
      simp [Scalar.shrui, IntOp.shrui]
    show Scalar.cmpi .eq (Scalar.shrui (word &&& 65535#32) 10#32) (BitVec.ofNat 32 (i 0).val) = 1#1 ↔ _
    rw [hs]
    generalize word &&& 65535#32 = q
    have hq : (q >>> 10).toNat = q.toNat / 1024 := by simp [Nat.shiftRight_eq_div_pow]
    have hc : ∀ x y : BitVec 32, Scalar.cmpi .eq x y = 1#1 ↔ x = y := by
      intro x y; simp only [Scalar.cmpi, IntOp.cmpi]
      by_cases h : x = y
      · simp [h]
      · rw [beq_eq_false_iff_ne.2 h]; simp [h]
    rw [hc, ← BitVec.toNat_inj, hq, BitVec.toNat_ofNat, Nat.mod_eq_of_lt (by omega)]

/-- Where the columns of an entry's row begin, for every row. -/
theorem mult3_tab : ∀ (a : Fin 40) (b : Fin 128), (k0_mult3 (BitVec.ofNat 32 (128 * a.val + b.val))).toNat = 128 * a.val := by decide +kernel

/-- A row that is not negative is the number its word is. -/
theorem toInt_of_nonneg (row : BitVec 32) (h0 : 0 ≤ row.toInt) : row.toInt = row.toNat := by
  have := row.isLt
  rw [BitVec.toInt_eq_toNat_cond] at h0 ⊢
  split at h0
  · rw [if_pos (by assumption)]
  · omega

/-- The 128 columns of the activations an entry takes are those of its row's 128. -/
theorem mult3_eq (row : BitVec 32) (h0 : 0 ≤ row.toInt) (h1 : row.toInt < 5120) : (k0_mult3 row).toNat = 128 * (row.toNat / 128) := by
  have e := toInt_of_nonneg row h0
  have h : row = BitVec.ofNat 32 (128 * (row.toNat / 128) + row.toNat % 128) := by
    rw [Nat.div_add_mod]; simp
  have := mult3_tab ⟨row.toNat / 128, by omega⟩ ⟨row.toNat % 128, by omega⟩
  simp only [← h] at this; exact this

/-- The same columns, as the offsets of the load. -/
theorem off18_eq (row : BitVec 32) (h0 : 0 ≤ row.toInt) (h1 : row.toInt < 5120) : k0_off18 row = ![0, 128 * (row.toNat / 128)] := by
  rw [← mult3_eq row h0 h1]; rfl

/-- The 128 columns of the accumulator an entry adds to are those of its column's 128 within the chunk. -/
theorem mult4_eq (word : BitVec 32) : (k0_mult4 word).toNat = 128 * ((word &&& 65535#32).toNat % 1024 / 128) := by
  have hl : (word &&& 65535#32).toNat < 65536 := by
    rw [BitVec.toNat_and]; exact lt_of_le_of_lt Nat.and_le_right (by decide)
  have e : k0_mult4 word = k0_mult3 (Scalar.remsi (word &&& 65535#32) 1024#32) := rfl
  rw [e]
  generalize word &&& 65535#32 = q at *
  have h : Scalar.remsi q 1024#32 = BitVec.ofNat 32 (q.toNat % 1024) := by
    rw [← BitVec.toNat_inj, BitVec.toNat_ofNat, Nat.mod_eq_of_lt (by omega)]
    exact IntOp.toNat_remsi .scalar (by omega) 1024 (by decide) (by decide)
  have h2 : (BitVec.ofNat 32 (q.toNat % 1024)).toNat = q.toNat % 1024 := by
    rw [BitVec.toNat_ofNat]; omega
  have h3 : (BitVec.ofNat 32 (q.toNat % 1024)).toInt = q.toNat % 1024 := by
    rw [BitVec.toInt_eq_toNat_cond, h2, if_pos (by omega)]; simp
  rw [h, mult3_eq _ (by rw [h3]; omega) (by rw [h3]; omega), h2]

/-- The same columns, as the offsets of the load and the store. -/
theorem off19_eq (word : BitVec 32) : k0_off19 word = ![0, 128 * ((word &&& 65535#32).toNat % 1024 / 128)] := by
  rw [← mult4_eq word]; rfl

/-- An entry whose row is below 5120 wherever its column is one of the result's meets what the body assumes of it. -/
theorem chk2_of (i : grid0.Coords) (row word : BitVec 32) (h : (word &&& 65535#32).toNat < 27648 → row.toInt < 5120) :
    k0_chk2 i row word := by
  have hi : (i 0).val < 27 := (i 0).isLt
  have key : k0_cond1 i row word = 1#1 → 0 ≤ row.toInt ∧ row.toInt < 5120 := by
    intro hc
    obtain ⟨h0, h1⟩ := (cond1_iff i row word).1 hc
    exact ⟨h0, h (by omega)⟩
  refine ⟨?_, ?_, ?_, ?_⟩
  · intro hc; rw [mult3_eq row (key hc).1 (key hc).2]; exact ⟨_, rfl⟩
  · intro hc a
    have e := toInt_of_nonneg row (key hc).1
    have := (key hc).2
    rw [off18_eq row (key hc).1 (key hc).2]; fin_cases a
    · show 0 + 128 ≤ 128; omega
    · show 128 * (row.toNat / 128) + 128 ≤ 5120; omega
  · intro hc; rw [mult4_eq]; exact ⟨_, rfl⟩
  · intro hc a
    rw [off19_eq]; fin_cases a
    · show 0 + 128 ≤ 128; omega
    · show 128 * ((word &&& 65535#32).toNat % 1024 / 128) + 128 ≤ 1024; omega

/-- Word `e` of a block. -/
theorem blockWords_apply (x7 : Vec F S9437184 .i32) (k2 : Fin k0_t2_loop.trips) (v : BitVec 32) (hv : v.toInt ≤ 144) (hw : k0_chk1 k2 v)
    (k3 : Fin (k0_t3_loop v).trips) (e : Fin 2048) (h : (144 * k2.val + k3.val) * 2048 + e.val < 9437184) :
    blockWords x7 k2 v hw k3 (ix1 e) = x7 (ix1 ⟨(144 * k2.val + k3.val) * 2048 + e.val, h⟩) :=
  View.ld_unit_apply_of _ _ _ _ _ _ (by
    intro a
    rw [show k0_off15 k2 v k3 a = (![(144 * k2.val + k3.val) * 2048] : Fin 1 → ℕ) a from congrFun (off15_eq k2 v hv k3) a]
    fin_cases a
    rfl)

/-- The row word of an entry of a block. -/
theorem rowAt_apply (x10 : Vec F S2048 .i32) (k : Fin k0_t4_loop.trips) (h : k.val < 2048) : rowAt x10 k = x10 (ix1 ⟨k.val, h⟩) :=
  View.ld_unit_apply_of _ _ _ _ _ _ (by
    intro a
    rw [show k0_off16 k a = (![k.val] : Fin 1 → ℕ) a from congrFun (k0_off16_eq k) a]
    fin_cases a
    rfl)

/-- The value-and-column word of an entry of a block. -/
theorem colAt_apply (x10 : Vec F S2048 .i32) (k : Fin k0_t4_loop.trips) (h : 1024 + k.val < 2048) : colAt x10 k = x10 (ix1 ⟨1024 + k.val, h⟩) :=
  View.ld_unit_apply_of _ _ _ _ _ _ (by
    intro a
    rw [show k0_off17 k a = (![k.val + 1024] : Fin 1 → ℕ) a from congrFun (k0_off17_eq k) a]
    fin_cases a
    show 1024 + k.val = k.val + 1024 + 0
    omega)

/-- The length word of a list. -/
theorem cntAt_apply (x1 : Vec F S32x128 .i32) (k2 : Fin k0_t2_loop.trips) (h : k2.val < 32) : cntAt x1 k2 = x1 (ix2 ⟨k2.val, h⟩ 0) :=
  View.ld_unit_apply_of _ _ _ _ _ _ (by
    intro a
    rw [show k0_off14 k2 a = (![k2.val, 0] : Fin 2 → ℕ) a from congrFun (k0_off14_eq k2) a]
    fin_cases a
    · rfl
    · rfl)

/-- Lists of at most 144 blocks whose used entries have, where the column is one of the result's, a row below 5120 meet
    what the body assumes of every word it reads. -/
theorem wordsOK_of (i : grid0.Coords) (x1 : Vec F S32x128 .i32) (x7 : Vec F S9437184 .i32)
    (hc : ∀ w : Fin 32, BitVec.toInt (x1 (ix2 w 0) : BitVec 32) ≤ 144)
    (hr : ∀ (w : Fin 32) (b : Fin 144) (e : Fin 1024), (b.val : ℤ) < BitVec.toInt (x1 (ix2 w 0) : BitVec 32) →
      BitVec.toNat ((x7 (ix1 ⟨(144 * w.val + b.val) * 2048 + (1024 + e.val), by omega⟩) : BitVec 32) &&& 65535#32) < 27648 →
      BitVec.toInt (x7 (ix1 ⟨(144 * w.val + b.val) * 2048 + e.val, by omega⟩) : BitVec 32) < 5120) : WordsOK i x1 x7 := by
  have h2 : ∀ k2 : Fin k0_t2_loop.trips, k2.val < 32 := fun k2 => lt_of_lt_of_eq k2.isLt t2_trips
  have hv : ∀ k2 : Fin k0_t2_loop.trips, BitVec.toInt (cntAt x1 k2 : BitVec 32) ≤ 144 := by
    intro k2; rw [cntAt_apply x1 k2 (h2 k2)]; exact hc _
  refine ⟨fun k2 => chk1_of k2 _ (hv k2), fun k2 k3 k => chk2_of i _ _ ?_⟩
  have h3 : (k3.val : ℤ) < BitVec.toInt (cntAt x1 k2 : BitVec 32) := by have := lt_of_lt_of_eq k3.isLt (t3_trips _); omega
  have h3' : k3.val < 144 := by have := hv k2; omega
  have h4 : k.val < 1024 := lt_of_lt_of_eq k.isLt t4_trips
  have h2' := h2 k2
  rw [rowAt_apply _ k (by omega), colAt_apply _ k (by omega), blockWords_apply _ k2 _ (hv k2) _ k3 _ (by dsimp only; omega),
    blockWords_apply _ k2 _ (hv k2) _ k3 _ (by dsimp only; omega)]
  exact hr ⟨k2.val, h2'⟩ ⟨k3.val, h3'⟩ ⟨k.val, h4⟩ (lt_of_lt_of_eq h3 (congrArg BitVec.toInt (cntAt_apply x1 k2 h2')))

end Cert.Sparse.Hand

end
-- ==== Proof.SparseBitsFrame.lean ====
/-
  The frame: the launch runs under the precondition, and changes no argument (hand-written, untrusted).
-/
module

public import proofs.«01_k».proof.Proof.SparseBitsRun
public import proofs.«01_k».proof.Proof.SparseBitsWords
public import proofs.«01_k».proof.Proof.SparsePre

@[expose] public section

set_option maxRecDepth 65536
set_option maxHeartbeats 40000000

noncomputable section

namespace Cert.Sparse.Hand

open Cert.Sparse Cert.Sparse.Gen
open Idealize.ShloMosaic Idealize.ShloMosaic.TcCoe
open Idealize.SL.Sem

variable {F : FTy → Type} [FloatOps F]

variable (m : (ℓ : Loc nD τ sig) → Buf (Elt F) ℓ)

/-- Where each window's block lies. -/
theorem places : ∀ t : Fin cfg0.N, win0_0.index t = ![0, 0] ∧ win0_1.index t = ![0, 0] ∧ win0_2.index t = ![0, 0]
    ∧ win0_3.index t = ![0, t.val, 0, 0, 0] ∧ win0_4.index t = ![0, t.val, 0, 0, 0] ∧ win0_5.index t = ![0, t.val]
    ∧ win0_6.index t = ![0, t.val] :=
  (by decide +kernel : ∀ t : Fin grid0.N, _)

/-- Window 0 holds the lengths of the lists at every point. -/
theorem read_cnt (c : Dev nD) (t : Fin cfg0.N) (w : Fin 32) (j : Fin 128) :
    iblk m c 0 t (ix2 w j) = m ((c : Thread nD τ).loc main_arg4) (ix2 w j) := by
  obtain ⟨e0, e1, e2, e3, e4, e5, e6⟩ := places t
  blk_ext [iblk, V, e0]

/-- Under the precondition every grid point's words meet what its body assumes. -/
theorem wordsAt [Cert.Pre_entries_in_range.Facts] (hpre : ∀ c : Dev nD,
      (Cert.Pre_entries_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
      ∧ (Cert.Pre_entries_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 = fun _ => 1#1) :
    WordsAt m := by
  intro c t
  obtain ⟨h1, h2⟩ := Cert.Pre_entries_in_range.Hand.words _ _ _ _ _ _ (hpre c)
  refine wordsOK_of _ _ _ ?_ ?_
  · intro w
    rw [read_cnt m c t w 0]
    exact h1 w
  · intro w b e
    rw [read_cnt m c t w 0, V_main_arg3]
    exact h2 w b e

end Cert.Sparse.Hand

end
-- ==== Proof.lean ====
/-
  The proof of the certificate's claim, assembled: the frames are the generated ones, the algebraic claim is the kernel's
  run and the reference's run side by side, closed by the equation of the two arrays (Proof/Equation.lean). The mathematics:
  Proof/Block.lean (what one grid point stores), Proof/Tile.lean (that, read at an index), Proof/Array.lean (what the array
  holds after the grid), Proof/Reference.lean (the reference at an index), Proof/Equation.lean (the two are equal).

  For the sparse kernel the runs are hand-written too: Proof/SparseTrip, SparseEntry, SparseList, SparseBody (one grid point,
  loop by loop), SparseRun (the grid), SparseWords, SparsePre and SparseFrame (the precondition gives what each point assumes
  of the words it reads). Its mathematics: SparseTile and SparseValue (one point's block at an index), SparseArray (the array),
  SparseReference (the reference at an index), SparseEquation (the two are equal). The modules SparseBits* are the runs again,
  for the program before idealization. Proof/PackArray.lean is the packing call: its array and its reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation
public import proofs.«01_k».proof.Proof.PackArray
public import proofs.«01_k».proof.Proof.SparseEquation
public import proofs.«01_k».proof.Proof.SparseBitsFrame

@[expose] public section

noncomputable section

namespace Cert.Proof

open Idealize.ShloMosaic Idealize.SL.Sem

/-- The reference runs to the end, keeps its arguments and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel leaves the reference's array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Equation.arrays m c

/-- Under the precondition the sparse kernel runs to the end, keeps its arguments and leaves no semaphore raised. -/
theorem quiescent_Sparse : quiescent_Sparse := fun m ρ hpre =>
  (θ_run Cert.Sparse.defs _ _).mono (fun r h => ⟨fun c => (h.1 c).2, h.2⟩)
    (Cert.Sparse.Hand.run m ρ (Cert.Sparse.Hand.wordsAt m hpre))

/-- The same over the extended reals. -/
theorem quiescent_SparseIdeal : quiescent_SparseIdeal := fun m ρ hpre =>
  (θ_run Cert.SparseIdeal.defs _ _).mono (fun r h => ⟨fun c => (h.1 c).2, h.2⟩)
    (Cert.SparseIdeal.Hand.run m ρ (Cert.SparseIdeal.Hand.wordsAt m hpre))

/-- The sparse kernel's reference runs to the end, keeps its arguments and leaves no semaphore raised. -/
theorem quiescent_SparseReferenceIdeal : quiescent_SparseReferenceIdeal := fun m ρ _ =>
  (θ_run Cert.SparseReferenceIdeal.defs _ _).mono (fun r h => ⟨fun c => (h c).2, sem_eq_zero_of_no_sems (by decide) r.2⟩)
    (Cert.SparseReferenceIdeal.Value.run (F := Ideal) m ρ)

/-- Over the extended reals, under the precondition, the sparse kernel leaves its reference's array. -/
theorem algebraic_SparseIdeal_SparseReferenceIdeal : algebraic_SparseIdeal_SparseReferenceIdeal := by
  intro m ρ m' ρ' hpre hagree
  have hok := Cert.SparseIdeal.Hand.wordsAt (F := Ideal) m hpre
  refine ⟨_, (θ_run Cert.SparseIdeal.defs _ _).mono (fun r h => h.1) (Cert.SparseIdeal.Hand.run (F := Ideal) m ρ hok), ?_⟩
  refine (θ_run Cert.SparseReferenceIdeal.defs _ _).mono (fun _ h c => ⟨?_, (h c).2⟩) (Cert.SparseReferenceIdeal.Value.run (F := Ideal) m' ρ')
  rw [(h c).1, Cert.SparseReferenceIdeal.Hand.res_eq]
  simp only [hagree c]
  exact (Cert.SparseEquation.arrays m hok c (Cert.Pre_entries_in_range.Hand.words _ _ _ _ _ _ (hpre c))).symm

/-- The packing call leaves its reference's array, bit for bit. -/
theorem bitexact_Pack_PackReference : bitexact_Pack_PackReference := by
  intro m ρ m' ρ' _ hagree
  refine ⟨_, Cert.Pack.Value.run_blocks (F := Bits) m ρ, ?_⟩
  refine (θ_run Cert.PackReference.defs _ _).mono (fun _ h c => ⟨?_, (h c).2⟩) (Cert.PackReference.Value.run (F := Bits) m' ρ')
  rw [(h c).1]
  simp only [hagree c]
  exact (Cert.Pack.Hand.arrays m c).symm

/-- The packing call's reference runs to the end, keeps its arguments and leaves no semaphore raised. -/
theorem quiescent_PackReference : quiescent_PackReference := fun m ρ _ =>
  (θ_run Cert.PackReference.defs _ _).mono (fun r h => ⟨fun c => (h c).2, sem_eq_zero_of_no_sems (by decide) r.2⟩)
    (Cert.PackReference.Value.run (F := Bits) m ρ)

/-- All claims together. -/
theorem claim : Cert.Claim := ⟨Cert.Kernel.Gen.facts, Cert.KernelIdeal.Gen.facts, Cert.ReferenceIdeal.Gen.facts,
  Cert.Sparse.Gen.facts, Cert.SparseIdeal.Gen.facts, Cert.SparseReferenceIdeal.Gen.facts,
  Cert.Pack.Gen.facts, Cert.PackReference.Gen.facts, Cert.Pre_entries_in_range.Gen.facts,
  fun m ρ _ => Cert.Kernel.Gen.frame m ρ, fun m ρ _ => Cert.KernelIdeal.Gen.frame m ρ, quiescent_ReferenceIdeal,
  quiescent_Sparse, quiescent_SparseIdeal, quiescent_SparseReferenceIdeal,
  fun m ρ _ => Cert.Pack.Gen.frame m ρ, quiescent_PackReference,
  (trivial : preserves_Kernel_KernelIdeal), algebraic_KernelIdeal_ReferenceIdeal,
  (trivial : preserves_Sparse_SparseIdeal), algebraic_SparseIdeal_SparseReferenceIdeal,
  bitexact_Pack_PackReference⟩

end Cert.Proof

end
